-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Kernel1Ideal_scales1_finite [hPre_scales1_finite : Cert.Pre_scales1_finite.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_scales1_finite.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2)) (m ((c.tc : Thread Cert.Kernel1Ideal.nD Cert.Kernel1Ideal.τ).loc Cert.Kernel1Ideal.main_arg3))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_scales1_finite [hPre_scales1_finite : Cert.Pre_scales1_finite.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_scales1_finite.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2)) (m ((c.tc : Thread Cert.Reference1Ideal.nD Cert.Reference1Ideal.τ).loc Cert.Reference1Ideal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3))
      ∧ r.2.sem = fun _ => 0)

def quiescent_Kernel1Ideal_pre_scales1_finite [hKernel1Ideal : Cert.Kernel1Ideal.Facts] [hPre_scales1_finite : Cert.Pre_scales1_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal_scales1_finite m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3))
      ∧ r.2.sem = fun _ => 0)

def quiescent_Reference1Ideal_pre_scales1_finite [hReference1Ideal : Cert.Reference1Ideal.Facts] [hPre_scales1_finite : Cert.Pre_scales1_finite.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_scales1_finite m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel1_Kernel1Ideal : Prop :=
  True

def algebraic_Kernel1Ideal_Reference1Ideal_pre_scales1_finite [hKernel1Ideal : Cert.Kernel1Ideal.Facts] [hReference1Ideal : Cert.Reference1Ideal.Facts] [hPre_scales1_finite : Cert.Pre_scales1_finite.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal_scales1_finite m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)) →
    ∃ (v0 : (c : Dev Cert.Kernel1Ideal.nD) → Buf (Elt Ideal) ((c.tc : Thread Cert.Kernel1Ideal.nD Cert.Kernel1Ideal.τ).loc Cert.Kernel1Ideal.main_v0_0)) (v1 : (c : Dev Cert.Kernel1Ideal.nD) → Buf (Elt Ideal) ((c.tc : Thread Cert.Kernel1Ideal.nD Cert.Kernel1Ideal.τ).loc Cert.Kernel1Ideal.main_v0_1)) (v2 : (c : Dev Cert.Kernel1Ideal.nD) → Buf (Elt Ideal) ((c.tc : Thread Cert.Kernel1Ideal.nD Cert.Kernel1Ideal.τ).loc Cert.Kernel1Ideal.main_v0_2)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v0_0) = v0 c
          ∧ r.2.mem ((c.tc : Thread Cert.Kernel1Ideal.nD Cert.Kernel1Ideal.τ).loc Cert.Kernel1Ideal.main_v0_1) = v1 c
          ∧ r.2.mem ((c.tc : Thread Cert.Kernel1Ideal.nD Cert.Kernel1Ideal.τ).loc Cert.Kernel1Ideal.main_v0_2) = v2 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v0_0) = v0 c
          ∧ r.2.mem ((c.tc : Thread Cert.Reference1Ideal.nD Cert.Reference1Ideal.τ).loc Cert.Reference1Ideal.main_v0_1) = v1 c
          ∧ r.2.mem ((c.tc : Thread Cert.Reference1Ideal.nD Cert.Reference1Ideal.τ).loc Cert.Reference1Ideal.main_v0_2) = v2 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0_0) = v0 c
          ∧ r.2.mem ((c.tc : Thread Cert.Reference2Ideal.nD Cert.Reference2Ideal.τ).loc Cert.Reference2Ideal.main_v0_1) = v1 c
          ∧ r.2.mem ((c.tc : Thread Cert.Reference2Ideal.nD Cert.Reference2Ideal.τ).loc Cert.Reference2Ideal.main_v0_2) = v2 c
          ∧ r.2.mem ((c.tc : Thread Cert.Reference2Ideal.nD Cert.Reference2Ideal.τ).loc Cert.Reference2Ideal.main_v0_3) = v3 c
          ∧ r.2.mem ((c.tc : Thread Cert.Reference2Ideal.nD Cert.Reference2Ideal.τ).loc Cert.Reference2Ideal.main_v0_4) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hPre_scales_finite : Cert.Pre_scales_finite.Facts) (hPre_scales1_finite : Cert.Pre_scales1_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ quiescent_Kernel1 (hKernel1 := hKernel1)
    ∧ quiescent_Kernel1Ideal (hKernel1Ideal := hKernel1Ideal)
    ∧ quiescent_Kernel1Ideal_pre_scales1_finite (hKernel1Ideal := hKernel1Ideal) (hPre_scales1_finite := hPre_scales1_finite)
    ∧ quiescent_Reference1Ideal (hReference1Ideal := hReference1Ideal)
    ∧ quiescent_Reference1Ideal_pre_scales1_finite (hReference1Ideal := hReference1Ideal) (hPre_scales1_finite := hPre_scales1_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_scales_finite (hKernelIdeal := hKernelIdeal) (hReferenceIdeal := hReferenceIdeal) (hPre_scales_finite := hPre_scales_finite)
    ∧ preserves_Kernel1_Kernel1Ideal
    ∧ algebraic_Kernel1Ideal_Reference1Ideal_pre_scales1_finite (hKernel1Ideal := hKernel1Ideal) (hReference1Ideal := hReference1Ideal) (hPre_scales1_finite := hPre_scales1_finite)
    ∧ preserves_Kernel2_Kernel2Ideal
    ∧ algebraic_Kernel2Ideal_Reference2Ideal (hKernel2Ideal := hKernel2Ideal) (hReference2Ideal := hReference2Ideal)
-- ==== Pre_scales1_finite.lean ====
abbrev S4096x7680 : Shape := ⟨2, ![4096, 7680]⟩
abbrev S7680x3584 : Shape := ⟨2, ![7680, 3584]⟩
abbrev S240x3584 : Shape := ⟨2, ![240, 3584]⟩
abbrev S1x3584 : Shape := ⟨2, ![1, 3584]⟩
abbrev S_ : Shape := ⟨0, ![]⟩

class Facts : Prop where
  bcast_S_S240x3584 : S_.BroadcastsInDim S240x3584 (![] : Fin 0 → Fin S240x3584.rank)

variable [Facts]

def fn {F : FTy → Type} [FloatOps F] (main_arg0 : FVec F S4096x7680 .bf16) (main_arg1 : FVec F S7680x3584 .fp8e4m3) (main_arg2 : IVec S240x3584 8) (main_arg3 : FVec F S1x3584 .f32) : IVec S240x3584 1 :=
  let main_c : IVec S_ 8 := constantI S_ 8 1#8
  let main_v0 : IVec S240x3584 8 := broadcastInDim S240x3584 ![] bcast_S_S240x3584 main_c
  let main_v1 : IVec S240x3584 1 := cmpi .uge main_arg2 main_v0
  let main_c_0 : IVec S_ 8 := constantI S_ 8 254#8
  let main_v2 : IVec S240x3584 8 := broadcastInDim S240x3584 ![] bcast_S_S240x3584 main_c_0
  let main_v3 : IVec S240x3584 1 := cmpi .ule main_arg2 main_v2
  let main_v4 : IVec S240x3584 1 := andi main_v1 main_v3
  main_v4
-- ==== Pre_scales_finite.lean ====
abbrev S4096x3584 : Shape := ⟨2, ![4096, 3584]⟩
abbrev S3584x12800 : Shape := ⟨2, ![3584, 12800]⟩
abbrev S112x12800 : Shape := ⟨2, ![112, 12800]⟩
abbrev S1x12800 : Shape := ⟨2, ![1, 12800]⟩
abbrev S100x4096x128 : Shape := ⟨3, ![100, 4096, 128]⟩
abbrev S60x4096x128 : Shape := ⟨3, ![60, 4096, 128]⟩
abbrev S1x128 : Shape := ⟨2, ![1, 128]⟩
abbrev S_ : Shape := ⟨0, ![]⟩

class Facts : Prop where
  bcast_S_S112x12800 : S_.BroadcastsInDim S112x12800 (![] : Fin 0 → Fin S112x12800.rank)

variable [Facts]

def fn {F : FTy → Type} [FloatOps F] (main_arg0 : FVec F S4096x3584 .bf16) (main_arg1 : FVec F S3584x12800 .fp8e4m3) (main_arg2 : IVec S112x12800 8) (main_arg3 : FVec F S1x12800 .f32) (main_arg4 : FVec F S100x4096x128 .f32) (main_arg5 : FVec F S60x4096x128 .f32) (main_arg6 : FVec F S1x128 .f32) (main_arg7 : FVec F S1x128 .f32) : IVec S112x12800 1 :=
  let main_c : IVec S_ 8 := constantI S_ 8 1#8
  let main_v0 : IVec S112x12800 8 := broadcastInDim S112x12800 ![] bcast_S_S112x12800 main_c
  let main_v1 : IVec S112x12800 1 := cmpi .uge main_arg2 main_v0
  let main_c_0 : IVec S_ 8 := constantI S_ 8 254#8
  let main_v2 : IVec S112x12800 8 := broadcastInDim S112x12800 ![] bcast_S_S112x12800 main_c_0
  let main_v3 : IVec S112x12800 1 := cmpi .ule main_arg2 main_v2
  let main_v4 : IVec S112x12800 1 := andi main_v1 main_v3
  main_v4
-- ==== Kernel.lean ====
abbrev S4096x3584 : Shape := ⟨2, ![4096, 3584]⟩
abbrev S3584x12800 : Shape := ⟨2, ![3584, 12800]⟩
abbrev S112x12800 : Shape := ⟨2, ![112, 12800]⟩
abbrev S1x12800 : Shape := ⟨2, ![1, 12800]⟩
abbrev S100x4096x128 : Shape := ⟨3, ![100, 4096, 128]⟩
abbrev S60x4096x128 : Shape := ⟨3, ![60, 4096, 128]⟩
abbrev S1x128 : Shape := ⟨2, ![1, 128]⟩
abbrev S4096x160x128 : Shape := ⟨3, ![4096, 160, 128]⟩
abbrev S16x1x256 : Shape := ⟨3, ![16, 1, 256]⟩
abbrev S256x3584 : Shape := ⟨2, ![256, 3584]⟩
abbrev S3584x512 : Shape := ⟨2, ![3584, 512]⟩
abbrev S112x512 : Shape := ⟨2, ![112, 512]⟩
abbrev S1x512 : Shape := ⟨2, ![1, 512]⟩
abbrev S4x256x128 : Shape := ⟨3, ![4, 256, 128]⟩
abbrev S3x256x128 : Shape := ⟨3, ![3, 256, 128]⟩
abbrev S256x160x128 : Shape := ⟨3, ![256, 160, 128]⟩
abbrev S1x1x256 : Shape := ⟨3, ![1, 1, 256]⟩
abbrev S41600x128 : Shape := ⟨2, ![41600, 128]⟩
abbrev S256x128 : Shape := ⟨2, ![256, 128]⟩
abbrev S8x512 : Shape := ⟨2, ![8, 512]⟩
abbrev S16x512 : Shape := ⟨2, ![16, 512]⟩
abbrev S32x512 : Shape := ⟨2, ![32, 512]⟩
abbrev S256x512 : Shape := ⟨2, ![256, 512]⟩
abbrev S1x256x128 : Shape := ⟨3, ![1, 256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S160x128 : Shape := ⟨2, ![160, 128]⟩
abbrev S1x160x128 : Shape := ⟨3, ![1, 160, 128]⟩

abbrev nBuf : Space → Nat
  | .hbm => 10
  | .vmem => 23
  | .smem => 0
  | _ => 0

abbrev bufTy : (tb : Table) → Fin (tcTables nBuf tb) → BufTy
  | .hbm, ⟨0, _⟩ => ⟨S4096x3584, .bf16⟩
  | .hbm, ⟨1, _⟩ => ⟨S3584x12800, .fp8e4m3⟩
  | .hbm, ⟨2, _⟩ => ⟨S112x12800, .i8⟩
  | .hbm, ⟨3, _⟩ => ⟨S1x12800, .f32⟩
  | .hbm, ⟨4, _⟩ => ⟨S100x4096x128, .f32⟩
  | .hbm, ⟨5, _⟩ => ⟨S60x4096x128, .f32⟩
  | .hbm, ⟨6, _⟩ => ⟨S1x128, .f32⟩
  | .hbm, ⟨7, _⟩ => ⟨S1x128, .f32⟩
  | .hbm, ⟨8, _⟩ => ⟨S4096x160x128, .fp8e4m3⟩
  | .hbm, ⟨9, _⟩ => ⟨S16x1x256, .f32⟩
  | .local _ .vmem, ⟨0, _⟩ => ⟨S256x3584, .bf16⟩
  | .local _ .vmem, ⟨1, _⟩ => ⟨S256x3584, .bf16⟩
  | .local _ .vmem, ⟨2, _⟩ => ⟨S3584x512, .fp8e4m3⟩
  | .local _ .vmem, ⟨3, _⟩ => ⟨S3584x512, .fp8e4m3⟩
  | .local _ .vmem, ⟨4, _⟩ => ⟨S112x512, .i8⟩
  | .local _ .vmem, ⟨5, _⟩ => ⟨S112x512, .i8⟩
  | .local _ .vmem, ⟨6, _⟩ => ⟨S1x512, .f32⟩
  | .local _ .vmem, ⟨7, _⟩ => ⟨S1x512, .f32⟩
  | .local _ .vmem, ⟨8, _⟩ => ⟨S4x256x128, .f32⟩
  | .local _ .vmem, ⟨9, _⟩ => ⟨S4x256x128, .f32⟩
  | .local _ .vmem, ⟨10, _⟩ => ⟨S3x256x128, .f32⟩
  | .local _ .vmem, ⟨11, _⟩ => ⟨S3x256x128, .f32⟩
  | .local _ .vmem, ⟨12, _⟩ => ⟨S1x128, .f32⟩
  | .local _ .vmem, ⟨13, _⟩ => ⟨S1x128, .f32⟩
  | .local _ .vmem, ⟨14, _⟩ => ⟨S256x160x128, .fp8e4m3⟩
  | .local _ .vmem, ⟨15, _⟩ => ⟨S256x160x128, .fp8e4m3⟩
  | .local _ .vmem, ⟨16, _⟩ => ⟨S1x1x256, .f32⟩
  | .local _ .vmem, ⟨17, _⟩ => ⟨S1x1x256, .f32⟩
  | .local _ .vmem, ⟨18, _⟩ => ⟨S3584x512, .bf16⟩
  | .local _ .vmem, ⟨19, _⟩ => ⟨S112x512, .i32⟩
  | .local _ .vmem, ⟨20, _⟩ => ⟨S41600x128, .f32⟩
  | .local _ .vmem, ⟨21, _⟩ => ⟨S256x128, .f32⟩
  | .local _ .vmem, ⟨22, _⟩ => ⟨S256x128, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 25], ![false, false]⟩

@[reducible] def k0_t1_loop : Scf.Loop 32 :=
  let c0_i32_4 : BitVec 32 := 0#32
  let c112_i32 : BitVec 32 := 112#32
  let v13 : BitVec 32 := Scalar.addi c0_i32_4 c112_i32
  let c1_i32 : BitVec 32 := 1#32
  ⟨c0_i32_4, v13, c1_i32⟩
def k0_off1 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let v190 : Index := Scalar.indexCast arg17
  let c0_91 : Index := 0#32
  ![v190.toNat, 0]
def k0_mult1 (k0_t1 : Fin k0_t1_loop.trips) : BitVec 32 :=
  let c0_i32_4 : BitVec 32 := 0#32
  let c1_i32 : BitVec 32 := 1#32
  let arg17 : BitVec 32 := Scf.iv c0_i32_4 c1_i32 k0_t1
  let c32_i32 : BitVec 32 := 32#32
  let v195 : BitVec 32 := Scalar.muli arg17 c32_i32
  v195
def k0_off2 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c32_i32 : BitVec 32 := 32#32
  let v195 : BitVec 32 := Scalar.muli arg17 c32_i32
  let v196 : BitVec 32 := v195
  let v197 : Index := Scalar.indexCast v196
  let c0_92 : Index := 0#32
  ![v197.toNat, 0]
def k0_mult2 (k0_t1 : Fin k0_t1_loop.trips) : BitVec 32 :=
  let c0_i32_4 : BitVec 32 := 0#32
  let c1_i32 : BitVec 32 := 1#32
  let arg17 : BitVec 32 := Scf.iv c0_i32_4 c1_i32 k0_t1
  let c32_i32_93 : BitVec 32 := 32#32
  let v202 : BitVec 32 := Scalar.muli arg17 c32_i32_93
  v202
def k0_off3 (i : grid0.Coords) (c0_i32_15 : BitVec 32) : Fin 2 → Nat :=
  let arg1 : BitVec 32 := BitVec.ofNat 32 (i 1).val
  let c4_i32 : BitVec 32 := 4#32
  let v24 : BitVec 32 := Scalar.muli arg1 c4_i32
  let v25 : BitVec 32 := Scalar.addi v24 c0_i32_15
  let c260_i32 : BitVec 32 := 260#32
  let v50 : BitVec 32 := Scalar.muli v25 c260_i32
  let v51 : Index := Scalar.indexCast v50
  let c0_26 : Index := 0#32
  ![v51.toNat, 0]
def k0_cond2 (i : grid0.Coords) : BitVec 1 :=
  let arg1 : BitVec 32 := BitVec.ofNat 32 (i 1).val
  let c20_i32 : BitVec 32 := 20#32
  let v184 : BitVec 1 := Scalar.cmpi .slt arg1 c20_i32
  let v185 : BitVec 32 := Scalar.extui v184
  let c0_i32_89 : BitVec 32 := 0#32
  let v186 : BitVec 1 := Scalar.cmpi .ne v185 c0_i32_89
  v186

def k0_off4 (i : grid0.Coords) (c0_i32_95 : BitVec 32) : Fin 2 → Nat :=
  let c100_i32 : BitVec 32 := 100#32
  let arg1 : BitVec 32 := BitVec.ofNat 32 (i 1).val
  let c3_i32_94 : BitVec 32 := 3#32
  let v192 : BitVec 32 := Scalar.muli arg1 c3_i32_94
  let v193 : BitVec 32 := Scalar.addi c100_i32 v192
  let v194 : BitVec 32 := Scalar.addi v193 c0_i32_95
  let c260_i32_106 : BitVec 32 := 260#32
  let v219 : BitVec 32 := Scalar.muli v194 c260_i32_106
  let v220 : Index := Scalar.indexCast v219
  let c0_107 : Index := 0#32
  ![v220.toNat, 0]
def k0_cond3 (i : grid0.Coords) : BitVec 1 :=
  let arg1 : BitVec 32 := BitVec.ofNat 32 (i 1).val
  let c24_i32 : BitVec 32 := 24#32
  let v187 : BitVec 1 := Scalar.cmpi .eq arg1 c24_i32
  let v188 : BitVec 32 := Scalar.extui v187
  let c0_i32_90 : BitVec 32 := 0#32
  let v189 : BitVec 1 := Scalar.cmpi .ne v188 c0_i32_90
  v189

@[reducible] def k0_t2_loop : Scf.Loop 32 :=
  let c0_i32_102 : BitVec 32 := 0#32
  let c256_i32 : BitVec 32 := 256#32
  let v209 : BitVec 32 := Scalar.addi c0_i32_102 c256_i32
  let c1_i32_103 : BitVec 32 := 1#32
  ⟨c0_i32_102, v209, c1_i32_103⟩
def k0_off5 (k0_t2 : Fin k0_t2_loop.trips) : Fin 2 → Nat :=
  let c0_i32_102 : BitVec 32 := 0#32
  let c1_i32_103 : BitVec 32 := 1#32
  let arg17 : BitVec 32 := Scf.iv c0_i32_102 c1_i32_103 k0_t2
  let v210 : Index := Scalar.indexCast arg17
  let c0_105 : Index := 0#32
  ![v210.toNat, 0]
def k0_off6 (k0_t2 : Fin k0_t2_loop.trips) : Fin 2 → Nat :=
  let c0_i32_102 : BitVec 32 := 0#32
  let c1_i32_103 : BitVec 32 := 1#32
  let arg17 : BitVec 32 := Scf.iv c0_i32_102 c1_i32_103 k0_t2
  let v212 : Index := Scalar.indexCast arg17
  let c0_106 : Index := 0#32
  ![v212.toNat, 0]
def k0_off7 (k0_t2 : Fin k0_t2_loop.trips) : Fin 3 → Nat :=
  let c0_i32_102 : BitVec 32 := 0#32
  let c1_i32_103 : BitVec 32 := 1#32
  let arg17 : BitVec 32 := Scf.iv c0_i32_102 c1_i32_103 k0_t2
  let v221 : Index := Scalar.indexCast arg17
  let c0_109 : Index := 0#32
  let c0_110 : Index := 0#32
  ![v221.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 32 := Scalar.minsi arg1 c19_i32
  let c0_i32 : BitVec 32 := 0#32
  let c0_i32_0 : BitVec 32 := 0#32
  ![v0.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S112x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x160x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x3584 : Shape := ⟨2, ![4096, 3584]⟩
abbrev S3584x12800 : Shape := ⟨2, ![3584, 12800]⟩
abbrev S112x12800 : Shape := ⟨2, ![112, 12800]⟩
abbrev S1x12800 : Shape := ⟨2, ![1, 12800]⟩
abbrev S100x4096x128 : Shape := ⟨3, ![100, 4096, 128]⟩
abbrev S60x4096x128 : Shape := ⟨3, ![60, 4096, 128]⟩
abbrev S1x128 : Shape := ⟨2, ![1, 128]⟩
abbrev S4096x160x128 : Shape := ⟨3, ![4096, 160, 128]⟩
abbrev S16x1x256 : Shape := ⟨3, ![16, 1, 256]⟩
abbrev S112x32x12800 : Shape := ⟨3, ![112, 32, 12800]⟩
abbrev S112x1x12800 : Shape := ⟨3, ![112, 1, 12800]⟩
abbrev S4096x12800 : Shape := ⟨2, ![4096, 12800]⟩
abbrev S4096x100x128 : Shape := ⟨3, ![4096, 100, 128]⟩
abbrev S4096x60x128 : Shape := ⟨3, ![4096, 60, 128]⟩
abbrev S4096x160 : Shape := ⟨2, ![4096, 160]⟩
abbrev S4096x160x1 : Shape := ⟨3, ![4096, 160, 1]⟩
abbrev S1x1x128 : Shape := ⟨3, ![1, 1, 128]⟩
abbrev S4096 : Shape := ⟨1, ![4096]⟩
abbrev S4096x1x1 : Shape := ⟨3, ![4096, 1, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x3584, .bf16⟩
  | .hbm, ⟨1, _⟩ => ⟨S3584x12800, .fp8e4m3⟩
  | .hbm, ⟨2, _⟩ => ⟨S112x12800, .i8⟩
  | .hbm, ⟨3, _⟩ => ⟨S1x12800, .f32⟩
  | .hbm, ⟨4, _⟩ => ⟨S100x4096x128, .f32⟩
  | .hbm, ⟨5, _⟩ => ⟨S60x4096x128, .f32⟩
  | .hbm, ⟨6, _⟩ => ⟨S1x128, .f32⟩
  | .hbm, ⟨7, _⟩ => ⟨S1x128, .f32⟩
  | .hbm, ⟨8, _⟩ => ⟨S4096x160x128, .fp8e4m3⟩
  | .hbm, ⟨9, _⟩ => ⟨S16x1x256, .f32⟩
  | .local _ .vmem, ⟨0, _⟩ => ⟨S4096x3584, .bf16⟩
  | .local _ .vmem, ⟨1, _⟩ => ⟨S3584x12800, .fp8e4m3⟩
  | .local _ .vmem, ⟨2, _⟩ => ⟨S112x12800, .i8⟩
  | .local _ .vmem, ⟨3, _⟩ => ⟨S1x12800, .f32⟩
  | .local _ .vmem, ⟨4, _⟩ => ⟨S100x4096x128, .f32⟩
  | .local _ .vmem, ⟨5, _⟩ => ⟨S60x4096x128, .f32⟩
  | .local _ .vmem, ⟨6, _⟩ => ⟨S1x128, .f32⟩
  | .local _ .vmem, ⟨7, _⟩ => ⟨S1x128, .f32⟩
  | .local _ .vmem, ⟨8, _⟩ => ⟨S4096x160x128, .fp8e4m3⟩
  | .local _ .vmem, ⟨9, _⟩ => ⟨S16x1x256, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x12800 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S112x12800 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S100x4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S60x4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x160x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Kernel1.lean ====
abbrev S4096x7680 : Shape := ⟨2, ![4096, 7680]⟩
abbrev S7680x3584 : Shape := ⟨2, ![7680, 3584]⟩
abbrev S240x3584 : Shape := ⟨2, ![240, 3584]⟩
abbrev S1x3584 : Shape := ⟨2, ![1, 3584]⟩
abbrev S4096x3584 : Shape := ⟨2, ![4096, 3584]⟩
abbrev S112x4096 : Shape := ⟨2, ![112, 4096]⟩
abbrev S512x7680 : Shape := ⟨2, ![512, 7680]⟩
abbrev S7680x512 : Shape := ⟨2, ![7680, 512]⟩
abbrev S240x512 : Shape := ⟨2, ![240, 512]⟩
abbrev S1x512 : Shape := ⟨2, ![1, 512]⟩
abbrev S512x512 : Shape := ⟨2, ![512, 512]⟩
abbrev S16x512 : Shape := ⟨2, ![16, 512]⟩
abbrev S8x512 : Shape := ⟨2, ![8, 512]⟩
abbrev S32x512 : Shape := ⟨2, ![32, 512]⟩
abbrev S16x32x512 : Shape := ⟨3, ![16, 32, 512]⟩
abbrev S16x1x512 : Shape := ⟨3, ![16, 1, 512]⟩

abbrev nBuf : Space → Nat
  | .hbm => 7
  | .vmem => 16
  | .smem => 0
  | _ => 0

abbrev bufTy : (tb : Table) → Fin (tcTables nBuf tb) → BufTy
  | .hbm, ⟨0, _⟩ => ⟨S4096x7680, .bf16⟩
  | .hbm, ⟨1, _⟩ => ⟨S7680x3584, .fp8e4m3⟩
  | .hbm, ⟨2, _⟩ => ⟨S240x3584, .i8⟩
  | .hbm, ⟨3, _⟩ => ⟨S1x3584, .f32⟩
  | .hbm, ⟨4, _⟩ => ⟨S4096x3584, .fp8e4m3⟩
  | .hbm, ⟨5, _⟩ => ⟨S112x4096, .f32⟩
  | .hbm, ⟨6, _⟩ => ⟨S4096x3584, .bf16⟩
  | .local _ .vmem, ⟨0, _⟩ => ⟨S512x7680, .bf16⟩
  | .local _ .vmem, ⟨1, _⟩ => ⟨S512x7680, .bf16⟩
  | .local _ .vmem, ⟨2, _⟩ => ⟨S7680x512, .fp8e4m3⟩
  | .local _ .vmem, ⟨3, _⟩ => ⟨S7680x512, .fp8e4m3⟩
  | .local _ .vmem, ⟨4, _⟩ => ⟨S240x512, .i8⟩
  | .local _ .vmem, ⟨5, _⟩ => ⟨S240x512, .i8⟩
  | .local _ .vmem, ⟨6, _⟩ => ⟨S1x512, .f32⟩
  | .local _ .vmem, ⟨7, _⟩ => ⟨S1x512, .f32⟩
  | .local _ .vmem, ⟨8, _⟩ => ⟨S512x512, .fp8e4m3⟩
  | .local _ .vmem, ⟨9, _⟩ => ⟨S512x512, .fp8e4m3⟩
  | .local _ .vmem, ⟨10, _⟩ => ⟨S16x512, .f32⟩
  | .local _ .vmem, ⟨11, _⟩ => ⟨S16x512, .f32⟩
  | .local _ .vmem, ⟨12, _⟩ => ⟨S512x512, .bf16⟩
  | .local _ .vmem, ⟨13, _⟩ => ⟨S512x512, .bf16⟩
  | .local _ .vmem, ⟨14, _⟩ => ⟨S7680x512, .bf16⟩
  | .local _ .vmem, ⟨15, _⟩ => ⟨S240x512, .i32⟩
  | _, _ => ⟨S4096x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_44 : BitVec 32 := 0#32
  let c240_i32 : BitVec 32 := 240#32
  let v138 : BitVec 32 := Scalar.addi c0_i32_44 c240_i32
  let c1_i32_45 : BitVec 32 := 1#32
  ⟨c0_i32_44, v138, c1_i32_45⟩
def k0_off1 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let v139 : Index := Scalar.indexCast arg11
  let c0_47 : Index := 0#32
  ![v139.toNat, 0]
def k0_mult1 (k0_t1 : Fin k0_t1_loop.trips) : BitVec 32 :=
  let c0_i32_44 : BitVec 32 := 0#32
  let c1_i32_45 : BitVec 32 := 1#32
  let arg11 : BitVec 32 := Scf.iv c0_i32_44 c1_i32_45 k0_t1
  let c32_i32_48 : BitVec 32 := 32#32
  let v144 : BitVec 32 := Scalar.muli arg11 c32_i32_48
  v144
def k0_off2 (k0_t1 : Fin k0_t1_loop.trips) : Fin 2 → Nat :=
  let c0_i32_44 : BitVec 32 := 0#32
  let c1_i32_45 : BitVec 32 := 1#32
  let arg11 : BitVec 32 := Scf.iv c0_i32_44 c1_i32_45 k0_t1
  let c32_i32_48 : BitVec 32 := 32#32
  let v144 : BitVec 32 := Scalar.muli arg11 c32_i32_48
  let v145 : BitVec 32 := v144
  let v146 : Index := Scalar.indexCast v145
  let c0_49 : Index := 0#32
  ![v146.toNat, 0]
def k0_mult2 (k0_t1 : Fin k0_t1_loop.trips) : BitVec 32 :=
  let c0_i32_44 : BitVec 32 := 0#32
  let c1_i32_45 : BitVec 32 := 1#32
  let arg11 : BitVec 32 := Scf.iv c0_i32_44 c1_i32_45 k0_t1
  let c32_i32_50 : BitVec 32 := 32#32
  let v151 : BitVec 32 := Scalar.muli arg11 c32_i32_50
  v151
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S7680x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S240x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference1Ideal.lean ====
abbrev S4096x7680 : Shape := ⟨2, ![4096, 7680]⟩
abbrev S7680x3584 : Shape := ⟨2, ![7680, 3584]⟩
abbrev S240x3584 : Shape := ⟨2, ![240, 3584]⟩
abbrev S1x3584 : Shape := ⟨2, ![1, 3584]⟩
abbrev S4096x3584 : Shape := ⟨2, ![4096, 3584]⟩
abbrev S112x4096 : Shape := ⟨2, ![112, 4096]⟩
abbrev S240x32x3584 : Shape := ⟨3, ![240, 32, 3584]⟩
abbrev S240x1x3584 : Shape := ⟨3, ![240, 1, 3584]⟩
abbrev S4096x112x32 : Shape := ⟨3, ![4096, 112, 32]⟩
abbrev S4096x112 : Shape := ⟨2, ![4096, 112]⟩
abbrev S1x1x252 : Shape := ⟨3, ![1, 1, 252]⟩
abbrev S4096x112x1 : Shape := ⟨3, ![4096, 112, 1]⟩
abbrev S4096x112x252 : Shape := ⟨3, ![4096, 112, 252]⟩

abbrev nBuf : Space → Nat
  | .hbm => 7
  | .vmem => 7
  | .smem => 0
  | _ => 0

abbrev bufTy : (tb : Table) → Fin (tcTables nBuf tb) → BufTy
  | .hbm, ⟨0, _⟩ => ⟨S4096x7680, .bf16⟩
  | .hbm, ⟨1, _⟩ => ⟨S7680x3584, .fp8e4m3⟩
  | .hbm, ⟨2, _⟩ => ⟨S240x3584, .i8⟩
  | .hbm, ⟨3, _⟩ => ⟨S1x3584, .f32⟩
  | .hbm, ⟨4, _⟩ => ⟨S4096x3584, .fp8e4m3⟩
  | .hbm, ⟨5, _⟩ => ⟨S112x4096, .f32⟩
  | .hbm, ⟨6, _⟩ => ⟨S4096x3584, .bf16⟩
  | .local _ .vmem, ⟨0, _⟩ => ⟨S4096x7680, .bf16⟩
  | .local _ .vmem, ⟨1, _⟩ => ⟨S7680x3584, .fp8e4m3⟩
  | .local _ .vmem, ⟨2, _⟩ => ⟨S240x3584, .i8⟩
  | .local _ .vmem, ⟨3, _⟩ => ⟨S1x3584, .f32⟩
  | .local _ .vmem, ⟨4, _⟩ => ⟨S4096x3584, .fp8e4m3⟩
  | .local _ .vmem, ⟨5, _⟩ => ⟨S112x4096, .f32⟩
  | .local _ .vmem, ⟨6, _⟩ => ⟨S4096x3584, .bf16⟩
  | _, _ => ⟨S4096x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x7680 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7680x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S160x4x64x4096 : Shape := ⟨4, ![160, 4, 64, 4096]⟩
abbrev S160x4x4096 : Shape := ⟨3, ![160, 4, 4096]⟩
abbrev S4096x160x128 : Shape := ⟨3, ![4096, 160, 128]⟩
abbrev S32x1x128 : Shape := ⟨3, ![32, 1, 128]⟩
abbrev S4096x128 : Shape := ⟨2, ![4096, 128]⟩
abbrev S100x4096x128 : Shape := ⟨3, ![100, 4096, 128]⟩
abbrev S60x4096x128 : Shape := ⟨3, ![60, 4096, 128]⟩
abbrev S20x4x64x128 : Shape := ⟨4, ![20, 4, 64, 128]⟩
abbrev S20x4x128 : Shape := ⟨3, ![20, 4, 128]⟩
abbrev S128x160x128 : Shape := ⟨3, ![128, 160, 128]⟩
abbrev S1x1x128 : Shape := ⟨3, ![1, 1, 128]⟩
abbrev S128x128 : Shape := ⟨2, ![128, 128]⟩
abbrev S20x128x128 : Shape := ⟨3, ![20, 128, 128]⟩
abbrev S21120x128 : Shape := ⟨2, ![21120, 128]⟩
abbrev S8x128 : Shape := ⟨2, ![8, 128]⟩
abbrev S1x4x128 : Shape := ⟨3, ![1, 4, 128]⟩
abbrev S4x128 : Shape := ⟨2, ![4, 128]⟩
abbrev S128 : Shape := ⟨1, ![128]⟩
abbrev S1x128 : Shape := ⟨2, ![1, 128]⟩
abbrev S64x128 : Shape := ⟨2, ![64, 128]⟩
abbrev S1x1x64x128 : Shape := ⟨4, ![1, 1, 64, 128]⟩
abbrev S16x128 : Shape := ⟨2, ![16, 128]⟩
abbrev S16x8x128 : Shape := ⟨3, ![16, 8, 128]⟩
abbrev S1x128x128 : Shape := ⟨3, ![1, 128, 128]⟩
abbrev S160x128 : Shape := ⟨2, ![160, 128]⟩
abbrev S1x160x128 : Shape := ⟨3, ![1, 160, 128]⟩

abbrev nBuf : Space → Nat
  | .hbm => 9
  | .vmem => 21
  | .smem => 0
  | _ => 0

abbrev bufTy : (tb : Table) → Fin (tcTables nBuf tb) → BufTy
  | .hbm, ⟨0, _⟩ => ⟨S160x4x64x4096, .i8⟩
  | .hbm, ⟨1, _⟩ => ⟨S160x4x4096, .f32⟩
  | .hbm, ⟨2, _⟩ => ⟨S160x4x4096, .f32⟩
  | .hbm, ⟨3, _⟩ => ⟨S160x4x4096, .f32⟩
  | .hbm, ⟨4, _⟩ => ⟨S4096x160x128, .fp8e4m3⟩
  | .hbm, ⟨5, _⟩ => ⟨S32x1x128, .f32⟩
  | .hbm, ⟨6, _⟩ => ⟨S4096x128, .f32⟩
  | .hbm, ⟨7, _⟩ => ⟨S100x4096x128, .f32⟩
  | .hbm, ⟨8, _⟩ => ⟨S60x4096x128, .f32⟩
  | .local _ .vmem, ⟨0, _⟩ => ⟨S20x4x64x128, .i8⟩
  | .local _ .vmem, ⟨1, _⟩ => ⟨S20x4x64x128, .i8⟩
  | .local _ .vmem, ⟨2, _⟩ => ⟨S20x4x128, .f32⟩
  | .local _ .vmem, ⟨3, _⟩ => ⟨S20x4x128, .f32⟩
  | .local _ .vmem, ⟨4, _⟩ => ⟨S20x4x128, .f32⟩
  | .local _ .vmem, ⟨5, _⟩ => ⟨S20x4x128, .f32⟩
  | .local _ .vmem, ⟨6, _⟩ => ⟨S20x4x128, .f32⟩
  | .local _ .vmem, ⟨7, _⟩ => ⟨S20x4x128, .f32⟩
  | .local _ .vmem, ⟨8, _⟩ => ⟨S128x160x128, .fp8e4m3⟩
  | .local _ .vmem, ⟨9, _⟩ => ⟨S128x160x128, .fp8e4m3⟩
  | .local _ .vmem, ⟨10, _⟩ => ⟨S1x1x128, .f32⟩
  | .local _ .vmem, ⟨11, _⟩ => ⟨S1x1x128, .f32⟩
  | .local _ .vmem, ⟨12, _⟩ => ⟨S128x128, .f32⟩
  | .local _ .vmem, ⟨13, _⟩ => ⟨S128x128, .f32⟩
  | .local _ .vmem, ⟨14, _⟩ => ⟨S20x128x128, .f32⟩
  | .local _ .vmem, ⟨15, _⟩ => ⟨S20x128x128, .f32⟩
  | .local _ .vmem, ⟨16, _⟩ => ⟨S20x128x128, .f32⟩
  | .local _ .vmem, ⟨17, _⟩ => ⟨S20x128x128, .f32⟩
  | .local _ .vmem, ⟨18, _⟩ => ⟨S21120x128, .f32⟩
  | .local _ .vmem, ⟨19, _⟩ => ⟨S8x128, .f32⟩
  | .local _ .vmem, ⟨20, _⟩ => ⟨S128x128, .f32⟩
  | _, _ => ⟨S160x4x64x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_1 : BitVec 32 := 0#32
  let c20_i32 : BitVec 32 := 20#32
  let v3 : BitVec 32 := Scalar.addi c0_i32_1 c20_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v7 : Index := Scalar.indexCast arg14
  let c0 : Index := 0#32
  let c0_4 : Index := 0#32
  ![v7.toNat, 0, 0]
def k0_off2 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v24 : Index := Scalar.indexCast arg14
  let c0_12 : Index := 0#32
  let c0_13 : Index := 0#32
  let c0_14 : Index := 0#32
  ![v24.toNat, 0, 0, 0]
def k0_off3 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v45 : Index := Scalar.indexCast arg14
  let c1 : Index := 1#32
  let c0_16 : Index := 0#32
  let c0_17 : Index := 0#32
  ![v45.toNat, 1, 0, 0]
def k0_off4 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v66 : Index := Scalar.indexCast arg14
  let c2 : Index := 2#32
  let c0_21 : Index := 0#32
  let c0_22 : Index := 0#32
  ![v66.toNat, 2, 0, 0]
def k0_off5 (k0_t1 : Fin k0_t1_loop.trips) : Fin 4 → Nat :=
  let c0_i32_1 : BitVec 32 := 0#32
  let c1_i32 : BitVec 32 := 1#32
  let arg14 : BitVec 32 := Scf.iv c0_i32_1 c1_i32 k0_t1
  let v87 : Index := Scalar.indexCast arg14
  let c3 : Index := 3#32
  let c0_26 : Index := 0#32
  let c0_27 : Index := 0#32
  ![v87.toNat, 3, 0, 0]
def k0_off6 (i : grid0.Coords) (k0_t1 : Fin k0_t1_loop.trips) : Fin 2 → Nat :=
  let arg1 : BitVec 32 := BitVec.ofNat 32 (i 1).val
  let c20_i32_36 : BitVec 32 := 20#32
  let v120 : BitVec 32 := Scalar.muli arg1 c20_i32_36
  let c0_i32_1 : BitVec 32 := 0#32
  let c1_i32 : BitVec 32 := 1#32
  let arg14 : BitVec 32 := Scf.iv c0_i32_1 c1_i32 k0_t1
  let v121 : BitVec 32 := Scalar.addi v120 arg14
  let c132_i32 : BitVec 32 := 132#32
  let v122 : BitVec 32 := Scalar.muli v121 c132_i32
  let v123 : Index := Scalar.indexCast v122
  let c0_37 : Index := 0#32
  ![v123.toNat, 0]
def k0_cond2 (i : grid0.Coords) : BitVec 1 :=
  let arg1 : BitVec 32 := BitVec.ofNat 32 (i 1).val
  let c5_i32 : BitVec 32 := 5#32
  let v127 : BitVec 1 := Scalar.cmpi .slt arg1 c5_i32
  let v128 : BitVec 32 := Scalar.extui v127
  let c0_i32_38 : BitVec 32 := 0#32
  let v129 : BitVec 1 := Scalar.cmpi .ne v128 c0_i32_38
  v129

def k0_off7 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v133 : Index := Scalar.indexCast arg14
  let c0_41 : Index := 0#32
  let c0_42 : Index := 0#32
  ![v133.toNat, 0, 0]
def k0_cond3 (i : grid0.Coords) : BitVec 1 :=
  let arg1 : BitVec 32 := BitVec.ofNat 32 (i 1).val
  let c5_i32_39 : BitVec 32 := 5#32
  let v130 : BitVec 1 := Scalar.cmpi .sge arg1 c5_i32_39
  let v131 : BitVec 32 := Scalar.extui v130
  let c0_i32_40 : BitVec 32 := 0#32
  let v132 : BitVec 1 := Scalar.cmpi .ne v131 c0_i32_40
  v132

def k0_off8 (k0_t1 : Fin k0_t1_loop.trips) : Fin 3 → Nat :=
  let c0_i32_1 : BitVec 32 := 0#32
  let c1_i32 : BitVec 32 := 1#32
  let arg14 : BitVec 32 := Scf.iv c0_i32_1 c1_i32 k0_t1
  let v133 : Index := Scalar.indexCast arg14
  let c0_41 : Index := 0#32
  let c0_42 : Index := 0#32
  ![v133.toNat, 0, 0]
def k0_cond4 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

@[reducible] def k0_t2_loop : Scf.Loop 32 :=
  let c0_i32_15 : BitVec 32 := 0#32
  let c128_i32 : BitVec 32 := 128#32
  let v26 : BitVec 32 := Scalar.addi c0_i32_15 c128_i32
  let c1_i32_16 : BitVec 32 := 1#32
  ⟨c0_i32_15, v26, c1_i32_16⟩
def k0_off9 (k0_t2 : Fin k0_t2_loop.trips) : Fin 2 → Nat :=
  let c0_i32_15 : BitVec 32 := 0#32
  let c1_i32_16 : BitVec 32 := 1#32
  let arg14 : BitVec 32 := Scf.iv c0_i32_15 c1_i32_16 k0_t2
  let v27 : Index := Scalar.indexCast arg14
  let c0_18 : Index := 0#32
  ![v27.toNat, 0]
def k0_off10 (k0_t2 : Fin k0_t2_loop.trips) : Fin 2 → Nat :=
  let c0_i32_15 : BitVec 32 := 0#32
  let c1_i32_16 : BitVec 32 := 1#32
  let arg14 : BitVec 32 := Scf.iv c0_i32_15 c1_i32_16 k0_t2
  let v29 : Index := Scalar.indexCast arg14
  let c0_19 : Index := 0#32
  ![v29.toNat, 0]
def k0_off11 (k0_t2 : Fin k0_t2_loop.trips) : Fin 3 → Nat :=
  let c0_i32_15 : BitVec 32 := 0#32
  let c1_i32_16 : BitVec 32 := 1#32
  let arg14 : BitVec 32 := Scf.iv c0_i32_15 c1_i32_16 k0_t2
  let v38 : Index := Scalar.indexCast arg14
  let c0_22 : Index := 0#32
  let c0_23 : Index := 0#32
  ![v38.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  let c0_i32_0 : BitVec 32 := 0#32
  ![v0.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S20x4x64x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S20x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S20x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S20x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x160x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S20x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S20x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S160x4x64x4096 : Shape := ⟨4, ![160, 4, 64, 4096]⟩
abbrev S160x4x4096 : Shape := ⟨3, ![160, 4, 4096]⟩
abbrev S4096x160x128 : Shape := ⟨3, ![4096, 160, 128]⟩
abbrev S32x1x128 : Shape := ⟨3, ![32, 1, 128]⟩
abbrev S4096x128 : Shape := ⟨2, ![4096, 128]⟩
abbrev S100x4096x128 : Shape := ⟨3, ![100, 4096, 128]⟩
abbrev S60x4096x128 : Shape := ⟨3, ![60, 4096, 128]⟩
abbrev S160x4096 : Shape := ⟨2, ![160, 4096]⟩
abbrev S160x1x4096 : Shape := ⟨3, ![160, 1, 4096]⟩
abbrev S160x4x1x4096 : Shape := ⟨4, ![160, 4, 1, 4096]⟩
abbrev S160x64x4096 : Shape := ⟨3, ![160, 64, 4096]⟩
abbrev S160x128x4096 : Shape := ⟨3, ![160, 128, 4096]⟩
abbrev S4096 : Shape := ⟨1, ![4096]⟩
abbrev S4096x1x1 : Shape := ⟨3, ![4096, 1, 1]⟩
abbrev S4096x1 : Shape := ⟨2, ![4096, 1]⟩
abbrev S4096x100x128 : Shape := ⟨3, ![4096, 100, 128]⟩
abbrev S4096x60x128 : Shape := ⟨3, ![4096, 60, 128]⟩

abbrev nBuf : Space → Nat
  | .hbm => 9
  | .vmem => 9
  | .smem => 0
  | _ => 0

abbrev bufTy : (tb : Table) → Fin (tcTables nBuf tb) → BufTy
  | .hbm, ⟨0, _⟩ => ⟨S160x4x64x4096, .i8⟩
  | .hbm, ⟨1, _⟩ => ⟨S160x4x4096, .f32⟩
  | .hbm, ⟨2, _⟩ => ⟨S160x4x4096, .f32⟩
  | .hbm, ⟨3, _⟩ => ⟨S160x4x4096, .f32⟩
  | .hbm, ⟨4, _⟩ => ⟨S4096x160x128, .fp8e4m3⟩
  | .hbm, ⟨5, _⟩ => ⟨S32x1x128, .f32⟩
  | .hbm, ⟨6, _⟩ => ⟨S4096x128, .f32⟩
  | .hbm, ⟨7, _⟩ => ⟨S100x4096x128, .f32⟩
  | .hbm, ⟨8, _⟩ => ⟨S60x4096x128, .f32⟩
  | .local _ .vmem, ⟨0, _⟩ => ⟨S160x4x64x4096, .i8⟩
  | .local _ .vmem, ⟨1, _⟩ => ⟨S160x4x4096, .f32⟩
  | .local _ .vmem, ⟨2, _⟩ => ⟨S160x4x4096, .f32⟩
  | .local _ .vmem, ⟨3, _⟩ => ⟨S160x4x4096, .f32⟩
  | .local _ .vmem, ⟨4, _⟩ => ⟨S4096x160x128, .fp8e4m3⟩
  | .local _ .vmem, ⟨5, _⟩ => ⟨S32x1x128, .f32⟩
  | .local _ .vmem, ⟨6, _⟩ => ⟨S4096x128, .f32⟩
  | .local _ .vmem, ⟨7, _⟩ => ⟨S100x4096x128, .f32⟩
  | .local _ .vmem, ⟨8, _⟩ => ⟨S60x4096x128, .f32⟩
  | _, _ => ⟨S160x4x64x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S160x4x64x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x160x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S100x4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S60x4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.BodyBitsBase.lean ====
/- The grid of the call, its branch conditions by the point, the names of its buffers, and the frame from a relational run. -/
module

public import proofs.«01_k».proof.Proof.Gen.Kernel.Frame
public import proofs.«01_k».proof.Proof.Gen.Kernel.Loops
public import Idealize.ShloMosaic.Lib.Pipeline.DatRel

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run that leaves every staged array at what relational proof data say of it leaves the arguments as they were. -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 25) — by arithmetic of the point. -/
theorem hcond0_0 : ∀ t : Fin cfg0.N, cond0_0 (grid0.coords t) ↔ t.val % 25 = 0 :=
  (fun t => by
    have ht : t.val < 400 := Nat.lt_of_lt_of_eq t.isLt N_0
    have e0 : (grid0.coords t 0).val = t.val / 25 % 16 := Pipeline.Grid.coords_val t 0 (by decide) rfl
    have e1 : (grid0.coords t 1).val = t.val / 1 % 25 := Pipeline.Grid.coords_val t 1 (by decide) rfl
    simp only [cond0_0, e0, e1]
    word_cmp
   : ∀ t : Fin grid0.N, cond0_0 (grid0.coords t) ↔ t.val % 25 = 0)

/-- The condition of the body's `scf.if` 1 (`k0_h2`), from the grid coordinates. -/
abbrev cond0_1 (i : grid0.Coords) : Prop := k0_cond2 i = 1#1
/-- It holds at the points whose coordinates have i1 ≤ 19 — decided over the grid. -/
theorem hcond0_1 : ∀ t : Fin cfg0.N, cond0_1 (grid0.coords t) ↔ t.val % 25 ≤ 19 :=
  (by decide +kernel : ∀ t : Fin grid0.N, cond0_1 (grid0.coords t) ↔ t.val % 25 ≤ 19)

/-- The condition of the body's `scf.if` 2 (`k0_h3`), from the grid coordinates. -/
abbrev cond0_2 (i : grid0.Coords) : Prop := k0_cond3 i = 1#1
/-- It holds at the points ≡ 24 (mod 25) — by arithmetic of the point. -/
theorem hcond0_2 : ∀ t : Fin cfg0.N, cond0_2 (grid0.coords t) ↔ t.val % 25 = 24 :=
  (fun t => by
    have ht : t.val < 400 := Nat.lt_of_lt_of_eq t.isLt N_0
    have e0 : (grid0.coords t 0).val = t.val / 25 % 16 := Pipeline.Grid.coords_val t 0 (by decide) rfl
    have e1 : (grid0.coords t 1).val = t.val / 1 % 25 := Pipeline.Grid.coords_val t 1 (by decide) rfl
    simp only [cond0_2, k0_cond3, e0, e1]
    word_cmp
   : ∀ t : Fin grid0.N, cond0_2 (grid0.coords t) ↔ t.val % 25 = 24)

/-! ## Where the windows are idle  -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The staging buffers of a point -/

/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x160x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S3584x512 .bf16 := Memref.whole cc0_scratch0
abbrev scM0_1 : Memref sig .tc .vmem S112x512 .i32 := Memref.whole cc0_scratch1
abbrev scM0_2 : Memref sig .tc .vmem S41600x128 .f32 := Memref.whole cc0_scratch2
abbrev scM0_3 : Memref sig .tc .vmem S256x128 .f32 := Memref.whole cc0_scratch3
abbrev scM0_4 : Memref sig .tc .vmem S256x128 .f32 := Memref.whole cc0_scratch4
/-- The scratch `arg15` the kernel carries between points, as a view: what it holds is stated through it. -/
abbrev VS0_3 : View sig .tc .vmem S256x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Body

end
-- ==== Proof.BodyBitsA.lean ====
/- First step of a batch block: the body's triple, the stores it makes found by running it. -/
module

public import proofs.«01_k».proof.Proof.BodyBitsBase

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- FIRST STEP (j = 0): the running maximum is reset, four product tokens and three linear tokens are normalised. From any contents `xs2`, `xs3` of
    the two scratch buffers that are carried between points the body runs to its end, and leaves in them the pieces it names. -/
noncomputable def kernelRun0_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : cond0_0 i) (hc1 : cond0_1 i) (hc2 : ¬cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.Kernel.Body

end
-- ==== Proof.BodyBitsB.lean ====
/- Middle step with linear tokens: the body's triple, the stores it makes found by running it. -/
module

public import proofs.«01_k».proof.Proof.BodyBitsBase

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- MIDDLE STEP WITH LINEAR TOKENS (0 < j < 20): four product tokens and three linear tokens are normalised. -/
noncomputable def kernelRun0_B (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : cond0_1 i) (hc2 : ¬cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.Kernel.Body

end
-- ==== Proof.BodyBitsC.lean ====
/- Step without linear tokens: the body's triple, the stores it makes found by running it. -/
module

public import proofs.«01_k».proof.Proof.BodyBitsBase

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- STEP WITHOUT LINEAR TOKENS (20 ≤ j < 24): four product tokens are normalised. -/
noncomputable def kernelRun0_C (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : ¬cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.Kernel.Body

end
-- ==== Proof.BodyBitsD.lean ====
/- Last step of a batch block: the body's triple, the stores it makes found by running it. -/
module

public import proofs.«01_k».proof.Proof.BodyBitsBase

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- LAST STEP (j = 24): four product tokens are normalised, then the scale is taken and every token quantised. -/
noncomputable def kernelRun0_D (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) × List (View.Piece (Elt F) S256x160x128 .fp8e4m3) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.2.2.1) ∗ (∃ f, arg11.view.loc (c : Thread nD τ) ↦[arg11.view.set]{fullShare} arg11.view.writes (Elt F) f L.2.2.2) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2.1) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_, ?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.Kernel.Body

end
-- ==== Proof.FrameBits.lean ====
/- The launch: the body's runs put together point by point, and the frame. -/
module

public import proofs.«01_k».proof.Proof.BodyBitsA
public import proofs.«01_k».proof.Proof.BodyBitsB
public import proofs.«01_k».proof.Proof.BodyBitsC
public import proofs.«01_k».proof.Proof.BodyBitsD
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs of the body at a point of the grid -/

/-- The run of case A at point `t`, from contents `Y` of the token buffer and `A` of the running maximum. -/
abbrev runA (c : Dev nD) (t : Fin cfg0.N) (h0 : t.val % 25 = 0) (h1 : t.val % 25 ≤ 19) (h2 : ¬t.val % 25 = 24) (Y : Vec F S41600x128 .f32) (A : Vec F S256x128 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A

/-- The run of case B at point `t`, from contents `Y` of the token buffer and `A` of the running maximum. -/
abbrev runB (c : Dev nD) (t : Fin cfg0.N) (h0 : ¬t.val % 25 = 0) (h1 : t.val % 25 ≤ 19) (h2 : ¬t.val % 25 = 24) (Y : Vec F S41600x128 .f32) (A : Vec F S256x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A

/-- The run of case C at point `t`, from contents `Y` of the token buffer and `A` of the running maximum. -/
abbrev runC (c : Dev nD) (t : Fin cfg0.N) (h0 : ¬t.val % 25 = 0) (h1 : ¬t.val % 25 ≤ 19) (h2 : ¬t.val % 25 = 24) (Y : Vec F S41600x128 .f32) (A : Vec F S256x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) Y A

/-- The run of case D at point `t`, from contents `Y` of the token buffer and `A` of the running maximum. -/
abbrev runD (c : Dev nD) (t : Fin cfg0.N) (h0 : ¬t.val % 25 = 0) (h1 : ¬t.val % 25 ≤ 19) (h2 : t.val % 25 = 24) (Y : Vec F S41600x128 .f32) (A : Vec F S256x128 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) Y A

/-! ## What is claimed of the carried scratch and of the outputs -/

/-- A specification of the body on core `c`: `Inv n Y A` is claimed of the token buffer `Y` and of the running maximum `A` before point `n`, `R8 t`
    and `R9 t` of the two output blocks after point `t`; each case of the body keeps them. -/
structure Spec (c : Dev nD) where
  Inv : ℕ → Vec F S41600x128 .f32 → Vec F S256x128 .f32 → Prop
  R8 : Fin cfg0.N → Vec F S256x160x128 .fp8e4m3 → Prop
  R9 : Fin cfg0.N → Vec F S1x1x256 .f32 → Prop
  init : ∀ Y A, Inv 0 Y A
  stepA : ∀ (t : Fin cfg0.N) (h0 : t.val % 25 = 0) (h1 : t.val % 25 ≤ 19) (h2 : ¬t.val % 25 = 24) (Y A) (f), Inv t.val Y A → Inv (t.val + 1)
    (scM0_2.view.read (Elt F) (scM0_2.view.writes (Elt F) ((Memref.isWhole_whole cc0_scratch2).unread Y) (runA m c t h0 h1 h2 Y A).1.1))
    (scM0_3.view.read (Elt F) (scM0_3.view.writes (Elt F) f (runA m c t h0 h1 h2 Y A).1.2))
  stepB : ∀ (t : Fin cfg0.N) (h0 : ¬t.val % 25 = 0) (h1 : t.val % 25 ≤ 19) (h2 : ¬t.val % 25 = 24) (Y A) (f), Inv t.val Y A → Inv (t.val + 1)
    (scM0_2.view.read (Elt F) (scM0_2.view.writes (Elt F) ((Memref.isWhole_whole cc0_scratch2).unread Y) (runB m c t h0 h1 h2 Y A).1.1))
    (scM0_3.view.read (Elt F) (scM0_3.view.writes (Elt F) f (runB m c t h0 h1 h2 Y A).1.2))
  stepC : ∀ (t : Fin cfg0.N) (h0 : ¬t.val % 25 = 0) (h1 : ¬t.val % 25 ≤ 19) (h2 : ¬t.val % 25 = 24) (Y A) (f), Inv t.val Y A → Inv (t.val + 1)
    (scM0_2.view.read (Elt F) (scM0_2.view.writes (Elt F) ((Memref.isWhole_whole cc0_scratch2).unread Y) (runC m c t h0 h1 h2 Y A).1.1))
    (scM0_3.view.read (Elt F) (scM0_3.view.writes (Elt F) f (runC m c t h0 h1 h2 Y A).1.2))
  stepD : ∀ (t : Fin cfg0.N) (h0 : ¬t.val % 25 = 0) (h1 : ¬t.val % 25 ≤ 19) (h2 : t.val % 25 = 24) (Y A) (f), Inv t.val Y A → Inv (t.val + 1)
    (scM0_2.view.read (Elt F) (scM0_2.view.writes (Elt F) ((Memref.isWhole_whole cc0_scratch2).unread Y) (runD m c t h0 h1 h2 Y A).1.1))
    (scM0_3.view.read (Elt F) (scM0_3.view.writes (Elt F) f (runD m c t h0 h1 h2 Y A).1.2.1))
  free8 : ∀ (t : Fin cfg0.N), ¬t.val % 25 = 24 → ∀ X, R8 t X
  free9 : ∀ (t : Fin cfg0.N), ¬t.val % 25 = 24 → ∀ X, R9 t X
  last8 : ∀ (t : Fin cfg0.N) (h0 : ¬t.val % 25 = 0) (h1 : ¬t.val % 25 ≤ 19) (h2 : t.val % 25 = 24) (Y A) (f), Inv t.val Y A → R8 t ((ms0_8 t).view.read (Elt F) ((ms0_8 t).view.writes (Elt F) f (runD m c t h0 h1 h2 Y A).1.2.2.1))
  last9 : ∀ (t : Fin cfg0.N) (h0 : ¬t.val % 25 = 0) (h1 : ¬t.val % 25 ≤ 19) (h2 : t.val % 25 = 24) (Y A) (f), Inv t.val Y A → R9 t ((ms0_9 t).view.read (Elt F) ((ms0_9 t).view.writes (Elt F) f (runD m c t h0 h1 h2 Y A).1.2.2.2))

/-- The specification that claims nothing. -/
def Spec.trivial (c : Dev nD) : Spec m c where
  Inv _ _ _ := True
  R8 _ _ := True
  R9 _ _ := True
  init _ _ := True.intro
  stepA _ _ _ _ _ _ _ _ := True.intro
  stepB _ _ _ _ _ _ _ _ := True.intro
  stepC _ _ _ _ _ _ _ _ := True.intro
  stepD _ _ _ _ _ _ _ _ := True.intro
  free8 _ _ _ := True.intro
  free9 _ _ _ := True.intro
  last8 _ _ _ _ _ _ _ _ := True.intro
  last9 _ _ _ _ _ _ _ _ := True.intro

variable (S : (c : Dev nD) → Spec m c)

/-- The invariant before point `n`: the token buffer and the running maximum at contents that meet the specification, the other scratch buffers
    at anything. -/
def PhiS (c : Dev nD) (n : ℕ) : sProp 𝕄 :=
  iprop(∃ Y, ∃ A, ⌜(S c).Inv n Y A⌝ ∗ iprop((∃ d, owns (c : Thread nD τ) scM0_0 fullShare d) ∗ (∃ d, owns (c : Thread nD τ) scM0_1 fullShare d) ∗ owns (c : Thread nD τ) scM0_2 fullShare Y ∗ owns (c : Thread nD τ) scM0_3 fullShare A ∗ (∃ d, owns (c : Thread nD τ) scM0_4 fullShare d)) ∗ (∃ r, prngReg c r))

/-- The output windows, each held to its claim. -/
def forgets0 : Fin 10 → Bool := fun w => w.val == 8 || w.val == 9

/-- What is claimed of window `w` after point `t`. -/
def rel0 (c : Dev nD) : (w : Fin cfg0.W) → Fin cfg0.N → ((cfg0.win w).block.Idx → Elt F (cfg0.win w).elt) → Prop := fun w t => match w with
    | ⟨8, _⟩ => fun X => (S c).R8 t X
    | ⟨9, _⟩ => fun X => (S c).R9 t X
    | _ => fun _ => True

/-- The proof data on core `c`: every input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ t := PhiS m S c t.val
  q _ := fullShare
  owed _ := 0

theorem A_eq (c : Dev nD) (w : Fin cfg0.W) : (dats m S 0 c).A w = V m c (Pipeline.arrRef spec0 w) := by
  dsimp only [dats]

theorem after0_0 (c : Dev nD) (t : Fin cfg0.N) : (dats m S 0 c).after 0 t = iblk m c 0 t := by dsimp only [dats]
theorem after0_1 (c : Dev nD) (t : Fin cfg0.N) : (dats m S 0 c).after 1 t = iblk m c 1 t := by dsimp only [dats]
theorem after0_2 (c : Dev nD) (t : Fin cfg0.N) : (dats m S 0 c).after 2 t = iblk m c 2 t := by dsimp only [dats]
theorem after0_3 (c : Dev nD) (t : Fin cfg0.N) : (dats m S 0 c).after 3 t = iblk m c 3 t := by dsimp only [dats]
theorem after0_4 (c : Dev nD) (t : Fin cfg0.N) : (dats m S 0 c).after 4 t = iblk m c 4 t := by dsimp only [dats]
theorem after0_5 (c : Dev nD) (t : Fin cfg0.N) : (dats m S 0 c).after 5 t = iblk m c 5 t := by dsimp only [dats]
theorem after0_6 (c : Dev nD) (t : Fin cfg0.N) : (dats m S 0 c).after 6 t = iblk m c 6 t := by dsimp only [dats]
theorem after0_7 (c : Dev nD) (t : Fin cfg0.N) : (dats m S 0 c).after 7 t = iblk m c 7 t := by dsimp only [dats]

theorem before0_0 (c : Dev nD) (t : Fin cfg0.N) (d) : (dats m S 0 c).before 0 t d = iblk m c 0 t :=
  before0_0_of m (dats m S 0 c) (A_eq m S c 0) (after0_0 m S c) t d
theorem before0_1 (c : Dev nD) (t : Fin cfg0.N) (d) : (dats m S 0 c).before 1 t d = iblk m c 1 t :=
  before0_1_of m (dats m S 0 c) (A_eq m S c 1) (after0_1 m S c) t d
theorem before0_2 (c : Dev nD) (t : Fin cfg0.N) (d) : (dats m S 0 c).before 2 t d = iblk m c 2 t :=
  before0_2_of m (dats m S 0 c) (A_eq m S c 2) (after0_2 m S c) t d
theorem before0_3 (c : Dev nD) (t : Fin cfg0.N) (d) : (dats m S 0 c).before 3 t d = iblk m c 3 t :=
  before0_3_of m (dats m S 0 c) (A_eq m S c 3) (after0_3 m S c) t d
theorem before0_4 (c : Dev nD) (t : Fin cfg0.N) (d) : (dats m S 0 c).before 4 t d = iblk m c 4 t :=
  before0_4_of m (dats m S 0 c) (A_eq m S c 4) (after0_4 m S c) t d
theorem before0_5 (c : Dev nD) (t : Fin cfg0.N) (d) : (dats m S 0 c).before 5 t d = iblk m c 5 t :=
  before0_5_of m (dats m S 0 c) (A_eq m S c 5) (after0_5 m S c) t d
theorem before0_6 (c : Dev nD) (t : Fin cfg0.N) (d) : (dats m S 0 c).before 6 t d = iblk m c 6 t :=
  before0_6_of m (dats m S 0 c) (A_eq m S c 6) (after0_6 m S c) t d
theorem before0_7 (c : Dev nD) (t : Fin cfg0.N) (d) : (dats m S 0 c).before 7 t d = iblk m c 7 t :=
  before0_7_of m (dats m S 0 c) (A_eq m S c 7) (after0_7 m S c) t d

/-- What the body is called with at point `t`, -/
def bodyPre (c : Dev nD) (t : Fin cfg0.N) : sProp 𝕄 :=
  iprop((dats m S 0 c).Φ t.castSucc ∗ (dats m S 0 c).owesAt () t.castSucc
    ∗ (∃ d, owns (c : Thread nD τ) (ms0_0 t) fullShare ((dats m S 0 c).before 0 t d))
    ∗ (∃ d, owns (c : Thread nD τ) (ms0_1 t) fullShare ((dats m S 0 c).before 1 t d))
    ∗ (∃ d, owns (c : Thread nD τ) (ms0_2 t) fullShare ((dats m S 0 c).before 2 t d))
    ∗ (∃ d, owns (c : Thread nD τ) (ms0_3 t) fullShare ((dats m S 0 c).before 3 t d))
    ∗ (∃ d, owns (c : Thread nD τ) (ms0_4 t) fullShare ((dats m S 0 c).before 4 t d))
    ∗ (∃ d, owns (c : Thread nD τ) (ms0_5 t) fullShare ((dats m S 0 c).before 5 t d))
    ∗ (∃ d, owns (c : Thread nD τ) (ms0_6 t) fullShare ((dats m S 0 c).before 6 t d))
    ∗ (∃ d, owns (c : Thread nD τ) (ms0_7 t) fullShare ((dats m S 0 c).before 7 t d))
    ∗ (∃ d, ⌜((dats m S 0 c).toRRel forgets0 (rel0 m S c)).Finds 8 t d⌝ ∗ owns (c : Thread nD τ) (ms0_8 t) fullShare d)
    ∗ (∃ d, ⌜((dats m S 0 c).toRRel forgets0 (rel0 m S c)).Finds 9 t d⌝ ∗ owns (c : Thread nD τ) (ms0_9 t) fullShare d))

/-- and what it returns. -/
def bodyPost (c : Dev nD) (t : Fin cfg0.N) : sProp 𝕄 :=
  iprop((dats m S 0 c).Φ t.succ ∗ (dats m S 0 c).owesAt () t.succ
    ∗ owns (c : Thread nD τ) (ms0_0 t) fullShare ((dats m S 0 c).after 0 t)
    ∗ owns (c : Thread nD τ) (ms0_1 t) fullShare ((dats m S 0 c).after 1 t)
    ∗ owns (c : Thread nD τ) (ms0_2 t) fullShare ((dats m S 0 c).after 2 t)
    ∗ owns (c : Thread nD τ) (ms0_3 t) fullShare ((dats m S 0 c).after 3 t)
    ∗ owns (c : Thread nD τ) (ms0_4 t) fullShare ((dats m S 0 c).after 4 t)
    ∗ owns (c : Thread nD τ) (ms0_5 t) fullShare ((dats m S 0 c).after 5 t)
    ∗ owns (c : Thread nD τ) (ms0_6 t) fullShare ((dats m S 0 c).after 6 t)
    ∗ owns (c : Thread nD τ) (ms0_7 t) fullShare ((dats m S 0 c).after 7 t)
    ∗ (∃ X, ⌜(S c).R8 t X⌝ ∗ owns (c : Thread nD τ) (ms0_8 t) fullShare X)
    ∗ (∃ X, ⌜(S c).R9 t X⌝ ∗ owns (c : Thread nD τ) (ms0_9 t) fullShare X))

set_option maxHeartbeats 4000000 in
/-- The body at a point of case A. -/
theorem sound_bodyA (c : Dev nD) (t : Fin cfg0.N) (h0 : t.val % 25 = 0) (h1 : t.val % 25 ≤ 19) (h2 : ¬t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runA m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepA t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists e8; isplitr
    · ipureintro; exact (S c).free8 t h2 _
    iexact H8
  iexists e9; isplitr
  · ipureintro; exact (S c).free9 t h2 _
  iexact H9

set_option maxHeartbeats 4000000 in
/-- The body at a point of case B. -/
theorem sound_bodyB (c : Dev nD) (t : Fin cfg0.N) (h0 : ¬t.val % 25 = 0) (h1 : t.val % 25 ≤ 19) (h2 : ¬t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runB m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepB t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists e8; isplitr
    · ipureintro; exact (S c).free8 t h2 _
    iexact H8
  iexists e9; isplitr
  · ipureintro; exact (S c).free9 t h2 _
  iexact H9

set_option maxHeartbeats 4000000 in
/-- The body at a point of case C. -/
theorem sound_bodyC (c : Dev nD) (t : Fin cfg0.N) (h0 : ¬t.val % 25 = 0) (h1 : ¬t.val % 25 ≤ 19) (h2 : ¬t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runC m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepC t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists e8; isplitr
    · ipureintro; exact (S c).free8 t h2 _
    iexact H8
  iexists e9; isplitr
  · ipureintro; exact (S c).free9 t h2 _
  iexact H9

set_option maxHeartbeats 4000000 in
/-- The body at a point of case D. -/
theorem sound_bodyD (c : Dev nD) (t : Fin cfg0.N) (h0 : ¬t.val % 25 = 0) (h1 : ¬t.val % 25 ≤ 19) (h2 : t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runD m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepD t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    · ipureintro; exact (S c).last8 t h0 h1 h2 Y A e8 hI
    unfold owns; iexists _; isplitr
    swap; · iexact H8
    ipureintro; rfl
  iexists _; isplitr
  · ipureintro; exact (S c).last9 t h0 h1 h2 Y A e9 hI
  unfold owns; iexists _; isplitr
  swap; · iexact H9
  ipureintro; rfl

/-- The body at any point. -/
theorem sound_body (c : Dev nD) (t : Fin cfg0.N) :
    bodyPre m S c t ⊢ wp frame (wpE (defs₀ (F := F)) Variants.none c none) Set.univ (bodyAt0 t) (fun _ => bodyPost m S c t) := by
  have hN : t.val < 400 := lt_of_lt_of_eq t.isLt (show cfg0.N = 400 from N_0)
  by_cases h0 : t.val % 25 = 0
  · exact sound_bodyA m S c t h0 (by omega) (by omega)
  · by_cases h1 : t.val % 25 ≤ 19
    · exact sound_bodyB m S c t h0 h1 (by omega)
    · by_cases h2 : t.val % 25 = 24
      · exact sound_bodyD m S c t h0 h1 h2
      · exact sound_bodyC m S c t h0 h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) :
    Pipeline.BodyObligationRel (dats (F := F) m S 0 c) (defs₀ (F := F)) Variants.none () Set.univ forgets0 (rel0 m S c) := fun t => by
  rw [bigSep_W0, bigSep_W0, defs₀_row]
  exact triple_restated (sound_body m S c t) rfl .rfl fun _ => .rfl

theorem hin (c : Dev nD) : Pipeline.ΦA spec0 c ⊢ (dats m S 0 c).Φ 0 := by
  rw [show (dats m S 0 c).Φ 0 = PhiS m S c 0 from rfl, PhiA0_eq]
  unfold PhiS
  iintro ⟨⟨HS0, HS1, ⟨%Y, HS2⟩, ⟨%A, HS3⟩, HS4⟩, Hg⟩
  iexists Y, A; isplitr
  · ipureintro; exact (S c).init Y A
  isplitl [HS0 HS1 HS2 HS3 HS4]
  · isplitl [HS0]; · iexact HS0
    isplitl [HS1]; · iexact HS1
    isplitl [HS2]; · iexact HS2
    isplitl [HS3]; · iexact HS3
    iexact HS4
  iexact Hg

theorem hout (c : Dev nD) : (dats m S 0 c).Φ (Fin.last cfg0.N) ⊢ Pipeline.ΦA spec0 c := by
  rw [show (dats m S 0 c).Φ (Fin.last cfg0.N) = PhiS m S c (Fin.last cfg0.N).val from rfl, PhiA0_eq]
  unfold PhiS
  iintro ⟨%Y, %A, -, ⟨HS0, HS1, HS2, HS3, HS4⟩, Hg⟩
  isplitl [HS0 HS1 HS2 HS3 HS4]
  · isplitl [HS0]; · iexact HS0
    isplitl [HS1]; · iexact HS1
    isplitl [HS2]; · iexists _; iexact HS2
    isplitl [HS3]; · iexists _; iexact HS3
    iexact HS4
  iexact Hg

set_option backward.isDefEq.respectTransparency.types false in
/-- THE LAUNCH: from any memory with zero counters every execution of @main ends; the staged inputs are unchanged, the outputs hold blocks that
    meet the specification, and every semaphore counter is zero. -/
theorem run_main_quiescent : θ_run defs (onTc (τ := τ) (main (F := F))) (s₀ m ρ) (fun r => (Pipeline.RDat.FramePost (cfgs 0) (fun c => (dats m S 0 c).toRRel forgets0 (rel0 m S c)) (V m)) r ∧ r.2.sem = fun _ => 0) :=
  Pipeline.RDat.θ_run_frame_track (Q' := _) cfgs (0 : Fin 1) launch0 defs₀ Variants.none (fun c => (dats m S 0 c).toRRel forgets0 (rel0 m S c)) m ρ main
    (hbody := fun c => (body_obligation m S c).toRRel) (hshare := fun c => (dats m S 0 c).share_full fun _ => rfl)
    (howed := fun _ _ => rfl) (V := V m) (hmain := hmain m Variants.none) (hA := A_eq m S) (hin := hin m S) (hout := hout m S) (hQ' := fun _ h => h)

theorem run_main : θ_run defs (onTc (τ := τ) (main (F := F))) (s₀ m ρ) (Pipeline.RDat.FramePost (cfgs 0) (fun c => (dats m S 0 c).toRRel forgets0 (rel0 m S c)) (V m)) :=
  (θ_run defs _ _).mono (fun _ h => h.1) (run_main_quiescent m ρ S)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rdat m ρ (fun c => (dats m (Spec.trivial m) 0 c).toRRel forgets0 (rel0 m (Spec.trivial m) c)) (A_eq m (Spec.trivial m)) (run_main m ρ (Spec.trivial m))

/-- THE FRAME: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ (Spec.trivial m)))

end Cert.Kernel.Body

end
-- ==== Proof.BodyIdealBase.lean ====
/- The grid of the call, its branch conditions by the point, the names of its buffers, and the frame from a relational run. -/
module

public import proofs.«01_k».proof.Proof.Gen.KernelIdeal.Frame
public import proofs.«01_k».proof.Proof.Gen.KernelIdeal.Loops
public import Idealize.ShloMosaic.Lib.Pipeline.DatRel

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run that leaves every staged array at what relational proof data say of it leaves the arguments as they were. -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 25) — by arithmetic of the point. -/
theorem hcond0_0 : ∀ t : Fin cfg0.N, cond0_0 (grid0.coords t) ↔ t.val % 25 = 0 :=
  (fun t => by
    have ht : t.val < 400 := Nat.lt_of_lt_of_eq t.isLt N_0
    have e0 : (grid0.coords t 0).val = t.val / 25 % 16 := Pipeline.Grid.coords_val t 0 (by decide) rfl
    have e1 : (grid0.coords t 1).val = t.val / 1 % 25 := Pipeline.Grid.coords_val t 1 (by decide) rfl
    simp only [cond0_0, e0, e1]
    word_cmp
   : ∀ t : Fin grid0.N, cond0_0 (grid0.coords t) ↔ t.val % 25 = 0)

/-- The condition of the body's `scf.if` 1 (`k0_h2`), from the grid coordinates. -/
abbrev cond0_1 (i : grid0.Coords) : Prop := k0_cond2 i = 1#1
/-- It holds at the points whose coordinates have i1 ≤ 19 — decided over the grid. -/
theorem hcond0_1 : ∀ t : Fin cfg0.N, cond0_1 (grid0.coords t) ↔ t.val % 25 ≤ 19 :=
  (by decide +kernel : ∀ t : Fin grid0.N, cond0_1 (grid0.coords t) ↔ t.val % 25 ≤ 19)

/-- The condition of the body's `scf.if` 2 (`k0_h3`), from the grid coordinates. -/
abbrev cond0_2 (i : grid0.Coords) : Prop := k0_cond3 i = 1#1
/-- It holds at the points ≡ 24 (mod 25) — by arithmetic of the point. -/
theorem hcond0_2 : ∀ t : Fin cfg0.N, cond0_2 (grid0.coords t) ↔ t.val % 25 = 24 :=
  (fun t => by
    have ht : t.val < 400 := Nat.lt_of_lt_of_eq t.isLt N_0
    have e0 : (grid0.coords t 0).val = t.val / 25 % 16 := Pipeline.Grid.coords_val t 0 (by decide) rfl
    have e1 : (grid0.coords t 1).val = t.val / 1 % 25 := Pipeline.Grid.coords_val t 1 (by decide) rfl
    simp only [cond0_2, k0_cond3, e0, e1]
    word_cmp
   : ∀ t : Fin grid0.N, cond0_2 (grid0.coords t) ↔ t.val % 25 = 24)

/-! ## Where the windows are idle  -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The staging buffers of a point -/

/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x160x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S3584x512 .bf16 := Memref.whole cc0_scratch0
abbrev scM0_1 : Memref sig .tc .vmem S112x512 .i32 := Memref.whole cc0_scratch1
abbrev scM0_2 : Memref sig .tc .vmem S41600x128 .f32 := Memref.whole cc0_scratch2
abbrev scM0_3 : Memref sig .tc .vmem S256x128 .f32 := Memref.whole cc0_scratch3
abbrev scM0_4 : Memref sig .tc .vmem S256x128 .f32 := Memref.whole cc0_scratch4
/-- The scratch `arg15` the kernel carries between points, as a view: what it holds is stated through it. -/
abbrev VS0_3 : View sig .tc .vmem S256x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Body

end
-- ==== Proof.BodyIdealA.lean ====
/- First step of a batch block: the body's triple, the stores it makes found by running it. -/
module

public import proofs.«01_k».proof.Proof.BodyIdealBase

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- FIRST STEP (j = 0): the running maximum is reset, four product tokens and three linear tokens are normalised. From any contents `xs2`, `xs3` of
    the two scratch buffers that are carried between points the body runs to its end, and leaves in them the pieces it names. -/
noncomputable def kernelRun0_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : cond0_0 i) (hc1 : cond0_1 i) (hc2 : ¬cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.KernelIdeal.Body

end
-- ==== Proof.BodyIdealB.lean ====
/- Middle step with linear tokens: the body's triple, the stores it makes found by running it. -/
module

public import proofs.«01_k».proof.Proof.BodyIdealBase

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- MIDDLE STEP WITH LINEAR TOKENS (0 < j < 20): four product tokens and three linear tokens are normalised. -/
noncomputable def kernelRun0_B (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : cond0_1 i) (hc2 : ¬cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.KernelIdeal.Body

end
-- ==== Proof.BodyIdealC.lean ====
/- Step without linear tokens: the body's triple, the stores it makes found by running it. -/
module

public import proofs.«01_k».proof.Proof.BodyIdealBase

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- STEP WITHOUT LINEAR TOKENS (20 ≤ j < 24): four product tokens are normalised. -/
noncomputable def kernelRun0_C (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : ¬cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.KernelIdeal.Body

end
-- ==== Proof.BodyIdealD.lean ====
/- Last step of a batch block: the body's triple, the stores it makes found by running it. -/
module

public import proofs.«01_k».proof.Proof.BodyIdealBase

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- LAST STEP (j = 24): four product tokens are normalised, then the scale is taken and every token quantised. -/
noncomputable def kernelRun0_D (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
    (x0 : Vec F S256x3584 .bf16) (x1 : Vec F S3584x512 .fp8e4m3) (x2 : Vec F S112x512 .i8) (x3 : Vec F S1x512 .f32) (x4 : Vec F S4x256x128 .f32) (x5 : Vec F S3x256x128 .f32) (x6 : Vec F S1x128 .f32) (x7 : Vec F S1x128 .f32) (xs2 : Vec F S41600x128 .f32) (xs3 : Vec F S256x128 .f32) :
    { L : List (View.Piece (Elt F) S41600x128 .f32) × List (View.Piece (Elt F) S256x128 .f32) × List (View.Piece (Elt F) S256x160x128 .fp8e4m3) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs2 ∗ owns (c : Thread nD τ) arg15 fullShare xs3 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L.2.2.1) ∗ (∃ f, arg11.view.loc (c : Thread nD τ) ↦[arg11.view.set]{fullShare} arg11.view.writes (Elt F) f L.2.2.2) ∗ (∃ d, owns (c : Thread nD τ) arg12 fullShare d) ∗ (∃ d, owns (c : Thread nD τ) arg13 fullShare d) ∗ (arg14.view.loc (c : Thread nD τ) ↦[arg14.view.set]{fullShare} arg14.view.writes (Elt F) (harg14.unread xs2) L.1) ∗ (∃ f, arg15.view.loc (c : Thread nD τ) ↦[arg15.view.set]{fullShare} arg15.view.writes (Elt F) f L.2.1) ∗ (∃ d, owns (c : Thread nD τ) arg16 fullShare d)) -∗ K ⟨⟩))
          ⊢ wp frame (wpE (defs₀ (F := F)) Variants.none c none) E (cc0_mlp2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨(?_, ?_, ?_, ?_), fun E K => ?run⟩
  case run =>
    simp only [cc0_mlp2_eq_skeleton]; unfold cc0_mlp2_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2; obtain rfl := harg15.eq_unread hfs3
    have hrd0 : ∀ (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt F) arg3.view.ty) (X_arg13 : BufTy.Contents (Elt F) arg13.view.ty) (hrdF : BufTy.Contents (Elt F) arg12.view.ty) (hrdB : LoadRect S3584x512), arg12.view.readAt (Elt F) hrdB (arg12.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st))) = arg12.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 (Scf.trips k0_t1_loop.lb k0_t1_loop.ub k0_t1_loop.st)) S32x512.size (by sl_kernel_rfl) (hrdB.idx hrdJ))
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]; · iexact HS2
    isplitl [HS3]; · iexists _; iexact HS3
    iexists _, _; isplitr; swap; · iexact HS4
    ipureintro; rfl

end Cert.KernelIdeal.Body

end
-- ==== Proof.FrameIdeal.lean ====
/- The launch: the body's runs put together point by point, and the frame. -/
module

public import proofs.«01_k».proof.Proof.BodyIdealA
public import proofs.«01_k».proof.Proof.BodyIdealB
public import proofs.«01_k».proof.Proof.BodyIdealC
public import proofs.«01_k».proof.Proof.BodyIdealD
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs of the body at a point of the grid -/

/-- The run of case A at point `t`, from contents `Y` of the token buffer and `A` of the running maximum. -/
abbrev runA (c : Dev nD) (t : Fin cfg0.N) (h0 : t.val % 25 = 0) (h1 : t.val % 25 ≤ 19) (h2 : ¬t.val % 25 = 24) (Y : Vec F S41600x128 .f32) (A : Vec F S256x128 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A

/-- The run of case B at point `t`, from contents `Y` of the token buffer and `A` of the running maximum. -/
abbrev runB (c : Dev nD) (t : Fin cfg0.N) (h0 : ¬t.val % 25 = 0) (h1 : t.val % 25 ≤ 19) (h2 : ¬t.val % 25 = 24) (Y : Vec F S41600x128 .f32) (A : Vec F S256x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A

/-- The run of case C at point `t`, from contents `Y` of the token buffer and `A` of the running maximum. -/
abbrev runC (c : Dev nD) (t : Fin cfg0.N) (h0 : ¬t.val % 25 = 0) (h1 : ¬t.val % 25 ≤ 19) (h2 : ¬t.val % 25 = 24) (Y : Vec F S41600x128 .f32) (A : Vec F S256x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) Y A

/-- The run of case D at point `t`, from contents `Y` of the token buffer and `A` of the running maximum. -/
abbrev runD (c : Dev nD) (t : Fin cfg0.N) (h0 : ¬t.val % 25 = 0) (h1 : ¬t.val % 25 ≤ 19) (h2 : t.val % 25 = 24) (Y : Vec F S41600x128 .f32) (A : Vec F S256x128 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) Y A

/-! ## What is claimed of the carried scratch and of the outputs -/

/-- A specification of the body on core `c`: `Inv n Y A` is claimed of the token buffer `Y` and of the running maximum `A` before point `n`, `R8 t`
    and `R9 t` of the two output blocks after point `t`; each case of the body keeps them. -/
structure Spec (c : Dev nD) where
  Inv : ℕ → Vec F S41600x128 .f32 → Vec F S256x128 .f32 → Prop
  R8 : Fin cfg0.N → Vec F S256x160x128 .fp8e4m3 → Prop
  R9 : Fin cfg0.N → Vec F S1x1x256 .f32 → Prop
  init : ∀ Y A, Inv 0 Y A
  stepA : ∀ (t : Fin cfg0.N) (h0 : t.val % 25 = 0) (h1 : t.val % 25 ≤ 19) (h2 : ¬t.val % 25 = 24) (Y A) (f), Inv t.val Y A → Inv (t.val + 1)
    (scM0_2.view.read (Elt F) (scM0_2.view.writes (Elt F) ((Memref.isWhole_whole cc0_scratch2).unread Y) (runA m c t h0 h1 h2 Y A).1.1))
    (scM0_3.view.read (Elt F) (scM0_3.view.writes (Elt F) f (runA m c t h0 h1 h2 Y A).1.2))
  stepB : ∀ (t : Fin cfg0.N) (h0 : ¬t.val % 25 = 0) (h1 : t.val % 25 ≤ 19) (h2 : ¬t.val % 25 = 24) (Y A) (f), Inv t.val Y A → Inv (t.val + 1)
    (scM0_2.view.read (Elt F) (scM0_2.view.writes (Elt F) ((Memref.isWhole_whole cc0_scratch2).unread Y) (runB m c t h0 h1 h2 Y A).1.1))
    (scM0_3.view.read (Elt F) (scM0_3.view.writes (Elt F) f (runB m c t h0 h1 h2 Y A).1.2))
  stepC : ∀ (t : Fin cfg0.N) (h0 : ¬t.val % 25 = 0) (h1 : ¬t.val % 25 ≤ 19) (h2 : ¬t.val % 25 = 24) (Y A) (f), Inv t.val Y A → Inv (t.val + 1)
    (scM0_2.view.read (Elt F) (scM0_2.view.writes (Elt F) ((Memref.isWhole_whole cc0_scratch2).unread Y) (runC m c t h0 h1 h2 Y A).1.1))
    (scM0_3.view.read (Elt F) (scM0_3.view.writes (Elt F) f (runC m c t h0 h1 h2 Y A).1.2))
  stepD : ∀ (t : Fin cfg0.N) (h0 : ¬t.val % 25 = 0) (h1 : ¬t.val % 25 ≤ 19) (h2 : t.val % 25 = 24) (Y A) (f), Inv t.val Y A → Inv (t.val + 1)
    (scM0_2.view.read (Elt F) (scM0_2.view.writes (Elt F) ((Memref.isWhole_whole cc0_scratch2).unread Y) (runD m c t h0 h1 h2 Y A).1.1))
    (scM0_3.view.read (Elt F) (scM0_3.view.writes (Elt F) f (runD m c t h0 h1 h2 Y A).1.2.1))
  free8 : ∀ (t : Fin cfg0.N), ¬t.val % 25 = 24 → ∀ X, R8 t X
  free9 : ∀ (t : Fin cfg0.N), ¬t.val % 25 = 24 → ∀ X, R9 t X
  last8 : ∀ (t : Fin cfg0.N) (h0 : ¬t.val % 25 = 0) (h1 : ¬t.val % 25 ≤ 19) (h2 : t.val % 25 = 24) (Y A) (f), Inv t.val Y A → R8 t ((ms0_8 t).view.read (Elt F) ((ms0_8 t).view.writes (Elt F) f (runD m c t h0 h1 h2 Y A).1.2.2.1))
  last9 : ∀ (t : Fin cfg0.N) (h0 : ¬t.val % 25 = 0) (h1 : ¬t.val % 25 ≤ 19) (h2 : t.val % 25 = 24) (Y A) (f), Inv t.val Y A → R9 t ((ms0_9 t).view.read (Elt F) ((ms0_9 t).view.writes (Elt F) f (runD m c t h0 h1 h2 Y A).1.2.2.2))

/-- The specification that claims nothing. -/
def Spec.trivial (c : Dev nD) : Spec m c where
  Inv _ _ _ := True
  R8 _ _ := True
  R9 _ _ := True
  init _ _ := True.intro
  stepA _ _ _ _ _ _ _ _ := True.intro
  stepB _ _ _ _ _ _ _ _ := True.intro
  stepC _ _ _ _ _ _ _ _ := True.intro
  stepD _ _ _ _ _ _ _ _ := True.intro
  free8 _ _ _ := True.intro
  free9 _ _ _ := True.intro
  last8 _ _ _ _ _ _ _ _ := True.intro
  last9 _ _ _ _ _ _ _ _ := True.intro

variable (S : (c : Dev nD) → Spec m c)

/-- The invariant before point `n`: the token buffer and the running maximum at contents that meet the specification, the other scratch buffers
    at anything. -/
def PhiS (c : Dev nD) (n : ℕ) : sProp 𝕄 :=
  iprop(∃ Y, ∃ A, ⌜(S c).Inv n Y A⌝ ∗ iprop((∃ d, owns (c : Thread nD τ) scM0_0 fullShare d) ∗ (∃ d, owns (c : Thread nD τ) scM0_1 fullShare d) ∗ owns (c : Thread nD τ) scM0_2 fullShare Y ∗ owns (c : Thread nD τ) scM0_3 fullShare A ∗ (∃ d, owns (c : Thread nD τ) scM0_4 fullShare d)) ∗ (∃ r, prngReg c r))

/-- The output windows, each held to its claim. -/
def forgets0 : Fin 10 → Bool := fun w => w.val == 8 || w.val == 9

/-- What is claimed of window `w` after point `t`. -/
def rel0 (c : Dev nD) : (w : Fin cfg0.W) → Fin cfg0.N → ((cfg0.win w).block.Idx → Elt F (cfg0.win w).elt) → Prop := fun w t => match w with
    | ⟨8, _⟩ => fun X => (S c).R8 t X
    | ⟨9, _⟩ => fun X => (S c).R9 t X
    | _ => fun _ => True

/-- The proof data on core `c`: every input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ t := PhiS m S c t.val
  q _ := fullShare
  owed _ := 0

theorem A_eq (c : Dev nD) (w : Fin cfg0.W) : (dats m S 0 c).A w = V m c (Pipeline.arrRef spec0 w) := by
  dsimp only [dats]

theorem after0_0 (c : Dev nD) (t : Fin cfg0.N) : (dats m S 0 c).after 0 t = iblk m c 0 t := by dsimp only [dats]
theorem after0_1 (c : Dev nD) (t : Fin cfg0.N) : (dats m S 0 c).after 1 t = iblk m c 1 t := by dsimp only [dats]
theorem after0_2 (c : Dev nD) (t : Fin cfg0.N) : (dats m S 0 c).after 2 t = iblk m c 2 t := by dsimp only [dats]
theorem after0_3 (c : Dev nD) (t : Fin cfg0.N) : (dats m S 0 c).after 3 t = iblk m c 3 t := by dsimp only [dats]
theorem after0_4 (c : Dev nD) (t : Fin cfg0.N) : (dats m S 0 c).after 4 t = iblk m c 4 t := by dsimp only [dats]
theorem after0_5 (c : Dev nD) (t : Fin cfg0.N) : (dats m S 0 c).after 5 t = iblk m c 5 t := by dsimp only [dats]
theorem after0_6 (c : Dev nD) (t : Fin cfg0.N) : (dats m S 0 c).after 6 t = iblk m c 6 t := by dsimp only [dats]
theorem after0_7 (c : Dev nD) (t : Fin cfg0.N) : (dats m S 0 c).after 7 t = iblk m c 7 t := by dsimp only [dats]

theorem before0_0 (c : Dev nD) (t : Fin cfg0.N) (d) : (dats m S 0 c).before 0 t d = iblk m c 0 t :=
  before0_0_of m (dats m S 0 c) (A_eq m S c 0) (after0_0 m S c) t d
theorem before0_1 (c : Dev nD) (t : Fin cfg0.N) (d) : (dats m S 0 c).before 1 t d = iblk m c 1 t :=
  before0_1_of m (dats m S 0 c) (A_eq m S c 1) (after0_1 m S c) t d
theorem before0_2 (c : Dev nD) (t : Fin cfg0.N) (d) : (dats m S 0 c).before 2 t d = iblk m c 2 t :=
  before0_2_of m (dats m S 0 c) (A_eq m S c 2) (after0_2 m S c) t d
theorem before0_3 (c : Dev nD) (t : Fin cfg0.N) (d) : (dats m S 0 c).before 3 t d = iblk m c 3 t :=
  before0_3_of m (dats m S 0 c) (A_eq m S c 3) (after0_3 m S c) t d
theorem before0_4 (c : Dev nD) (t : Fin cfg0.N) (d) : (dats m S 0 c).before 4 t d = iblk m c 4 t :=
  before0_4_of m (dats m S 0 c) (A_eq m S c 4) (after0_4 m S c) t d
theorem before0_5 (c : Dev nD) (t : Fin cfg0.N) (d) : (dats m S 0 c).before 5 t d = iblk m c 5 t :=
  before0_5_of m (dats m S 0 c) (A_eq m S c 5) (after0_5 m S c) t d
theorem before0_6 (c : Dev nD) (t : Fin cfg0.N) (d) : (dats m S 0 c).before 6 t d = iblk m c 6 t :=
  before0_6_of m (dats m S 0 c) (A_eq m S c 6) (after0_6 m S c) t d
theorem before0_7 (c : Dev nD) (t : Fin cfg0.N) (d) : (dats m S 0 c).before 7 t d = iblk m c 7 t :=
  before0_7_of m (dats m S 0 c) (A_eq m S c 7) (after0_7 m S c) t d

/-- What the body is called with at point `t`, -/
def bodyPre (c : Dev nD) (t : Fin cfg0.N) : sProp 𝕄 :=
  iprop((dats m S 0 c).Φ t.castSucc ∗ (dats m S 0 c).owesAt () t.castSucc
    ∗ (∃ d, owns (c : Thread nD τ) (ms0_0 t) fullShare ((dats m S 0 c).before 0 t d))
    ∗ (∃ d, owns (c : Thread nD τ) (ms0_1 t) fullShare ((dats m S 0 c).before 1 t d))
    ∗ (∃ d, owns (c : Thread nD τ) (ms0_2 t) fullShare ((dats m S 0 c).before 2 t d))
    ∗ (∃ d, owns (c : Thread nD τ) (ms0_3 t) fullShare ((dats m S 0 c).before 3 t d))
    ∗ (∃ d, owns (c : Thread nD τ) (ms0_4 t) fullShare ((dats m S 0 c).before 4 t d))
    ∗ (∃ d, owns (c : Thread nD τ) (ms0_5 t) fullShare ((dats m S 0 c).before 5 t d))
    ∗ (∃ d, owns (c : Thread nD τ) (ms0_6 t) fullShare ((dats m S 0 c).before 6 t d))
    ∗ (∃ d, owns (c : Thread nD τ) (ms0_7 t) fullShare ((dats m S 0 c).before 7 t d))
    ∗ (∃ d, ⌜((dats m S 0 c).toRRel forgets0 (rel0 m S c)).Finds 8 t d⌝ ∗ owns (c : Thread nD τ) (ms0_8 t) fullShare d)
    ∗ (∃ d, ⌜((dats m S 0 c).toRRel forgets0 (rel0 m S c)).Finds 9 t d⌝ ∗ owns (c : Thread nD τ) (ms0_9 t) fullShare d))

/-- and what it returns. -/
def bodyPost (c : Dev nD) (t : Fin cfg0.N) : sProp 𝕄 :=
  iprop((dats m S 0 c).Φ t.succ ∗ (dats m S 0 c).owesAt () t.succ
    ∗ owns (c : Thread nD τ) (ms0_0 t) fullShare ((dats m S 0 c).after 0 t)
    ∗ owns (c : Thread nD τ) (ms0_1 t) fullShare ((dats m S 0 c).after 1 t)
    ∗ owns (c : Thread nD τ) (ms0_2 t) fullShare ((dats m S 0 c).after 2 t)
    ∗ owns (c : Thread nD τ) (ms0_3 t) fullShare ((dats m S 0 c).after 3 t)
    ∗ owns (c : Thread nD τ) (ms0_4 t) fullShare ((dats m S 0 c).after 4 t)
    ∗ owns (c : Thread nD τ) (ms0_5 t) fullShare ((dats m S 0 c).after 5 t)
    ∗ owns (c : Thread nD τ) (ms0_6 t) fullShare ((dats m S 0 c).after 6 t)
    ∗ owns (c : Thread nD τ) (ms0_7 t) fullShare ((dats m S 0 c).after 7 t)
    ∗ (∃ X, ⌜(S c).R8 t X⌝ ∗ owns (c : Thread nD τ) (ms0_8 t) fullShare X)
    ∗ (∃ X, ⌜(S c).R9 t X⌝ ∗ owns (c : Thread nD τ) (ms0_9 t) fullShare X))

set_option maxHeartbeats 4000000 in
/-- The body at a point of case A. -/
theorem sound_bodyA (c : Dev nD) (t : Fin cfg0.N) (h0 : t.val % 25 = 0) (h1 : t.val % 25 ≤ 19) (h2 : ¬t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runA m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepA t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists e8; isplitr
    · ipureintro; exact (S c).free8 t h2 _
    iexact H8
  iexists e9; isplitr
  · ipureintro; exact (S c).free9 t h2 _
  iexact H9

set_option maxHeartbeats 4000000 in
/-- The body at a point of case B. -/
theorem sound_bodyB (c : Dev nD) (t : Fin cfg0.N) (h0 : ¬t.val % 25 = 0) (h1 : t.val % 25 ≤ 19) (h2 : ¬t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runB m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepB t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists e8; isplitr
    · ipureintro; exact (S c).free8 t h2 _
    iexact H8
  iexists e9; isplitr
  · ipureintro; exact (S c).free9 t h2 _
  iexact H9

set_option maxHeartbeats 4000000 in
/-- The body at a point of case C. -/
theorem sound_bodyC (c : Dev nD) (t : Fin cfg0.N) (h0 : ¬t.val % 25 = 0) (h1 : ¬t.val % 25 ≤ 19) (h2 : ¬t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runC m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepC t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists e8; isplitr
    · ipureintro; exact (S c).free8 t h2 _
    iexact H8
  iexists e9; isplitr
  · ipureintro; exact (S c).free9 t h2 _
  iexact H9

set_option maxHeartbeats 4000000 in
/-- The body at a point of case D. -/
theorem sound_bodyD (c : Dev nD) (t : Fin cfg0.N) (h0 : ¬t.val % 25 = 0) (h1 : ¬t.val % 25 ≤ 19) (h2 : t.val % 25 = 24) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, before0_4, before0_5, before0_6, before0_7, after0_0, after0_1, after0_2, after0_3, after0_4, after0_5, after0_6, after0_7]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%Y, %A, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩⟩
  iapply (runD m c t h0 h1 h2 Y A).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, ⟨%e8, H8⟩, ⟨%e9, H9⟩, HS0, HS1, HS2, ⟨%es3, HS3⟩, HS4⟩
  isplitl [HS0 HS1 HS2 HS3 HS4 Hg]
  · iexists _, _; isplitr
    · ipureintro; exact (S c).stepD t h0 h1 h2 Y A es3 hI
    isplitl [HS0 HS1 HS2 HS3 HS4]
    · isplitl [HS0]; · iexact HS0
      isplitl [HS1]; · iexact HS1
      isplitl [HS2]
      · unfold owns; iexists _; isplitr
        swap; · iexact HS2
        ipureintro; rfl
      isplitl [HS3]
      · unfold owns; iexists _; isplitr
        swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr
    · ipureintro; exact (S c).last8 t h0 h1 h2 Y A e8 hI
    unfold owns; iexists _; isplitr
    swap; · iexact H8
    ipureintro; rfl
  iexists _; isplitr
  · ipureintro; exact (S c).last9 t h0 h1 h2 Y A e9 hI
  unfold owns; iexists _; isplitr
  swap; · iexact H9
  ipureintro; rfl

/-- The body at any point. -/
theorem sound_body (c : Dev nD) (t : Fin cfg0.N) :
    bodyPre m S c t ⊢ wp frame (wpE (defs₀ (F := F)) Variants.none c none) Set.univ (bodyAt0 t) (fun _ => bodyPost m S c t) := by
  have hN : t.val < 400 := lt_of_lt_of_eq t.isLt (show cfg0.N = 400 from N_0)
  by_cases h0 : t.val % 25 = 0
  · exact sound_bodyA m S c t h0 (by omega) (by omega)
  · by_cases h1 : t.val % 25 ≤ 19
    · exact sound_bodyB m S c t h0 h1 (by omega)
    · by_cases h2 : t.val % 25 = 24
      · exact sound_bodyD m S c t h0 h1 h2
      · exact sound_bodyC m S c t h0 h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) :
    Pipeline.BodyObligationRel (dats (F := F) m S 0 c) (defs₀ (F := F)) Variants.none () Set.univ forgets0 (rel0 m S c) := fun t => by
  rw [bigSep_W0, bigSep_W0, defs₀_row]
  exact triple_restated (sound_body m S c t) rfl .rfl fun _ => .rfl

theorem hin (c : Dev nD) : Pipeline.ΦA spec0 c ⊢ (dats m S 0 c).Φ 0 := by
  rw [show (dats m S 0 c).Φ 0 = PhiS m S c 0 from rfl, PhiA0_eq]
  unfold PhiS
  iintro ⟨⟨HS0, HS1, ⟨%Y, HS2⟩, ⟨%A, HS3⟩, HS4⟩, Hg⟩
  iexists Y, A; isplitr
  · ipureintro; exact (S c).init Y A
  isplitl [HS0 HS1 HS2 HS3 HS4]
  · isplitl [HS0]; · iexact HS0
    isplitl [HS1]; · iexact HS1
    isplitl [HS2]; · iexact HS2
    isplitl [HS3]; · iexact HS3
    iexact HS4
  iexact Hg

theorem hout (c : Dev nD) : (dats m S 0 c).Φ (Fin.last cfg0.N) ⊢ Pipeline.ΦA spec0 c := by
  rw [show (dats m S 0 c).Φ (Fin.last cfg0.N) = PhiS m S c (Fin.last cfg0.N).val from rfl, PhiA0_eq]
  unfold PhiS
  iintro ⟨%Y, %A, -, ⟨HS0, HS1, HS2, HS3, HS4⟩, Hg⟩
  isplitl [HS0 HS1 HS2 HS3 HS4]
  · isplitl [HS0]; · iexact HS0
    isplitl [HS1]; · iexact HS1
    isplitl [HS2]; · iexists _; iexact HS2
    isplitl [HS3]; · iexists _; iexact HS3
    iexact HS4
  iexact Hg

set_option backward.isDefEq.respectTransparency.types false in
/-- THE LAUNCH: from any memory with zero counters every execution of @main ends; the staged inputs are unchanged, the outputs hold blocks that
    meet the specification, and every semaphore counter is zero. -/
theorem run_main_quiescent : θ_run defs (onTc (τ := τ) (main (F := F))) (s₀ m ρ) (fun r => (Pipeline.RDat.FramePost (cfgs 0) (fun c => (dats m S 0 c).toRRel forgets0 (rel0 m S c)) (V m)) r ∧ r.2.sem = fun _ => 0) :=
  Pipeline.RDat.θ_run_frame_track (Q' := _) cfgs (0 : Fin 1) launch0 defs₀ Variants.none (fun c => (dats m S 0 c).toRRel forgets0 (rel0 m S c)) m ρ main
    (hbody := fun c => (body_obligation m S c).toRRel) (hshare := fun c => (dats m S 0 c).share_full fun _ => rfl)
    (howed := fun _ _ => rfl) (V := V m) (hmain := hmain m Variants.none) (hA := A_eq m S) (hin := hin m S) (hout := hout m S) (hQ' := fun _ h => h)

theorem run_main : θ_run defs (onTc (τ := τ) (main (F := F))) (s₀ m ρ) (Pipeline.RDat.FramePost (cfgs 0) (fun c => (dats m S 0 c).toRRel forgets0 (rel0 m S c)) (V m)) :=
  (θ_run defs _ _).mono (fun _ h => h.1) (run_main_quiescent m ρ S)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rdat m ρ (fun c => (dats m (Spec.trivial m) 0 c).toRRel forgets0 (rel0 m (Spec.trivial m) c)) (A_eq m (Spec.trivial m)) (run_main m ρ (Spec.trivial m))

/-- THE FRAME: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ (Spec.trivial m)))

end Cert.KernelIdeal.Body

end
-- ==== Proof.ValueScalar.lean ====
/- The arithmetic of one row: the layer norm as the reference writes it and as the kernel computes it, the power of two of a
   scale byte, and maxima told by their upper bounds. -/
module

public import Idealize.ShloMosaic.Lib.Pipeline.ValueKit
public import Idealize.ShloMosaic.Lib.Pointwise
public import Idealize.ShloMosaic.Lib.BitcastPair

@[expose] public section

set_option maxRecDepth 16384

noncomputable section

namespace Cert.Value

open Idealize.ShloMosaic

/-- The mean of 128 numbers, from their sum. -/
def mean128 (x : EReal) : EReal := Ideal.div x (Ideal.ofBits .f32 0x43000000#32)

/-- A row less its mean. -/
def cen (z : Fin 128 → EReal) (k : Fin 128) : EReal := z k - mean128 (∑ j, z j)

/-- The layer norm of a row, as the reference writes it. -/
def lnR (z g b : Fin 128 → EReal) (k : Fin 128) : EReal :=
  Ideal.div (cen z k) (Ideal.sqrt (mean128 (∑ j, cen z j * cen z j) + Ideal.ofBits .f32 0x3727C5AC#32)) * g k + b k

/-- The scale of a sample, from its largest magnitude. -/
def scaleOf (a : EReal) : EReal := if a = 0 then 1 else Ideal.div a (Ideal.ofBits .f32 0x43E00000#32)

/-- The code of a value under a scale. -/
def codeOf (y s : EReal) : EReal :=
  min (Ideal.ofBits .f32 0x43E00000#32) (max (Ideal.ofBits .f32 0xC3E00000#32) (Ideal.div y s))

theorem ofBits_128 : Ideal.ofBits .f32 0x43000000#32 = ((128 : ℝ) : EReal) := by
  simp [Ideal.ofBits, Ideal.ieee]
  rw [← EReal.coe_mul]; norm_num

theorem ofBits_inv128 : Ideal.ofBits .f32 0x3C000000#32 = (((1 : ℝ) / 128 : ℝ) : EReal) := by
  simp [Ideal.ofBits, Ideal.ieee, -one_div]
  rw [← EReal.coe_mul]; norm_num

theorem ofBits_eps_pos : (0 : EReal) < Ideal.ofBits .f32 0x3727C5AC#32 := by
  simp [Ideal.ofBits, Ideal.ieee]
  positivity

theorem ofBits_ninf : Ideal.ofBits .f32 0xFF800000#32 = (⊥ : EReal) := by
  simp [Ideal.ofBits, Ideal.ieee]

theorem mul_inv128 (x : EReal) : x * Ideal.ofBits .f32 0x3C000000#32 = mean128 x := by
  rw [mean128, ofBits_128, Ideal.div_coe (by norm_num), ofBits_inv128]

theorem ereal_mul_self_nonneg (x : EReal) : 0 ≤ x * x := by
  rcases le_total 0 x with h | h
  · exact mul_nonneg h h
  · have := mul_nonneg (EReal.neg_nonneg.mpr h) (EReal.neg_nonneg.mpr h)
    rwa [EReal.neg_mul, mul_comm, EReal.neg_mul, neg_neg] at this

theorem mean128_nonneg {x : EReal} (h : 0 ≤ x) : 0 ≤ mean128 x := by
  rw [← mul_inv128, ofBits_inv128]
  exact mul_nonneg h (by exact_mod_cast (by norm_num : (0:ℝ) ≤ 1 / 128))

theorem sqrt_ne_zero {x : EReal} (h : 0 < x) : Ideal.sqrt x ≠ 0 := by
  induction x with
  | bot => simp at h
  | top => simp
  | coe r =>
    have hr : 0 < r := by exact_mod_cast h
    rw [Ideal.sqrt_coe, if_neg (not_lt.mpr hr.le)]
    have := Real.sqrt_pos.mpr hr
    exact_mod_cast this.ne'

theorem mul_div_one {x y : EReal} (h : y ≠ 0) : x * Ideal.div 1 y = Ideal.div x y := by
  unfold Ideal.div
  rw [if_neg h, if_neg h, one_mul]

/-- The layer norm as the kernel computes it: a multiplication by 1/128 in place of the division, and by the reciprocal of
    the square root. -/
theorem lnK_eq (z g b : Fin 128 → EReal) (k : Fin 128) :
    (z k - (∑ x, z x) * Ideal.ofBits FTy.f32 1006632960#32) *
          Ideal.div 1
            (Ideal.sqrt
              ((∑ x,
                    (z x - (∑ x, z x) * Ideal.ofBits FTy.f32 1006632960#32) *
                      (z x - (∑ x, z x) * Ideal.ofBits FTy.f32 1006632960#32)) *
                  Ideal.ofBits FTy.f32 1006632960#32 +
                Ideal.ofBits FTy.f32 925353388#32)) *
        g k + b k = lnR z g b k := by
  rw [mul_inv128, mul_inv128, mul_div_one]
  · rfl
  · apply sqrt_ne_zero
    exact lt_of_lt_of_le ofBits_eps_pos
      (le_add_of_nonneg_left (mean128_nonneg (Finset.sum_nonneg fun x _ => ereal_mul_self_nonneg _)))

/-- The word a scale byte is widened to holds the byte's bfloat16 power of two in both halves. -/
def scaleWord (s : BitVec 8) : BitVec 32 :=
  IntOp.ori (IntOp.shli ArithUnit.vector (BitVec.setWidth 32 s) 23#32) (IntOp.shli ArithUnit.vector (BitVec.setWidth 32 s) 7#32)

theorem scaleWord_bits : ∀ n : Fin (2 ^ 8), ∀ q : Fin 32,
    (scaleWord (BitVec.ofFin (w := 8) n)).getLsbD q = (BitVec.setWidth 16 (BitVec.ofFin (w := 8) n) <<< 7 : BitVec 16).getLsbD (q % 16) := by
  decide +kernel

/-- The power of two that the reference takes of a scale byte. -/
def pow2 (s : BitVec 8) : EReal :=
  FloatOps.exp2 (F := Ideal) (φ := .f32) (FloatOps.sitofp (F := Ideal) FTy.f32 (IntOp.subi (BitVec.setWidth 32 s) 127#32))

theorem toInt_sub (s : BitVec 8) : (IntOp.subi (BitVec.setWidth 32 s) 127#32).toInt = (s.toNat : ℤ) - 127 := by
  have h : ∀ n : Fin (2 ^ 8), (IntOp.subi (BitVec.setWidth 32 (BitVec.ofFin (w := 8) n)) 127#32).toInt = (n.val : ℤ) - 127 := by decide +kernel
  exact h s.toFin

theorem fields : ∀ n : Fin (2 ^ 8),
    ((BitVec.setWidth 16 (BitVec.ofFin (w := 8) n) <<< 7 : BitVec 16).extractLsb' 15 1 == 1#1) = false ∧
    ((BitVec.setWidth 16 (BitVec.ofFin (w := 8) n) <<< 7 : BitVec 16).extractLsb' 7 8).toNat = n.val ∧
    ((BitVec.setWidth 16 (BitVec.ofFin (w := 8) n) <<< 7 : BitVec 16).extractLsb' 0 7).toNat = 0 := by decide +kernel

theorem ofBits_pow2 (s : BitVec 8) (h1 : 1 ≤ s.toNat) (h2 : s.toNat ≤ 254) :
    Ideal.ofBits .bf16 (BitVec.setWidth 16 s <<< 7) = pow2 s := by
  obtain ⟨f1, f2, f3⟩ := fields s.toFin
  change ((BitVec.setWidth 16 s <<< 7 : BitVec 16).extractLsb' 15 1 == 1#1) = false at f1
  change ((BitVec.setWidth 16 s <<< 7 : BitVec 16).extractLsb' 7 8).toNat = s.toNat at f2
  change ((BitVec.setWidth 16 s <<< 7 : BitVec 16).extractLsb' 0 7).toNat = 0 at f3
  have e : pow2 s = ((Real.rpow 2 (((s.toNat : ℤ) - 127 : ℤ) : ℝ) : ℝ) : EReal) := by
    show Ideal.exp2 (((IntOp.subi (BitVec.setWidth 32 s) 127#32).toInt : ℝ) : EReal) = _
    rw [Ideal.exp2_coe, toInt_sub]
  rw [e]
  show Ideal.ieee 8 7 (BitVec.setWidth 16 s <<< 7 : BitVec 16) = _
  unfold Ideal.ieee
  simp only [Nat.reduceAdd, f1, f2, f3]
  rw [if_neg (by omega), if_neg (by omega)]
  congr 1
  have : Real.rpow 2 (((s.toNat : ℤ) - 127 : ℤ) : ℝ) = (2:ℝ) ^ ((s.toNat : ℤ) - 127) := Real.rpow_intCast 2 _
  rw [this]
  have h7 : ((s.toNat : ℤ) - (2 ^ (8 - 1) - 1) - ((7 : ℕ) : ℤ)) = ((s.toNat : ℤ) - 127) - 7 := by norm_num
  rw [h7, zpow_sub₀ (by norm_num)]
  norm_num
  field_simp

end Cert.Value
-- ==== Proof.ValueTok.lean ====
/- What one step puts in the token buffer and in the running maximum, a token at a time: every payload of the body read down
   to the layer norm of a row. -/
module

public import proofs.«01_k».proof.Proof.ValueScalar
public import proofs.«01_k».proof.Proof.Gen.KernelIdeal.Skeleton

@[expose] public section

set_option maxRecDepth 16384

noncomputable section

namespace Cert.Value

open Idealize.ShloMosaic Cert.KernelIdeal Cert.KernelIdeal.Gen

/-- A token of 256 samples after the layer norm. -/
def tokV (z : Fin 256 → Fin 128 → EReal) (g b : Vec Ideal S1x128 .f32) : Vec Ideal S256x128 .f32 :=
  fun i => lnR (z (i 0)) (fun k => g (ix2 0 k)) (fun k => b (ix2 0 k)) (i 1)

/-- A running maximum and the magnitudes of one more token. -/
def maxV (d v : Vec Ideal S256x128 .f32) : Vec Ideal S256x128 .f32 :=
  fun i => max (d i) (FloatOps.absf (F := Ideal) (φ := .f32) (v i))

/-- A linear token before the layer norm. -/
def linZ (v : Vec Ideal S1x256x128 .f32) : Fin 256 → Fin 128 → EReal := fun r k => v (ix3 0 r k)

/-- The product of a block of samples by a block of weights, with its bias. -/
def dotZ (a : Vec Ideal S256x3584 .bf16) (W : Vec Ideal S3584x512 .bf16) (c : Vec Ideal S1x512 .f32) (r : Fin 256) (q : Fin 512) : EReal :=
  ∑ x, a (ix2 r x) * W (ix2 x q) + c (ix2 0 q)

/-- A product token before the layer norm: its 128 columns of the product, and the residual. -/
def mmZ (a : Vec Ideal S256x3584 .bf16) (W : Vec Ideal S3584x512 .bf16) (c : Vec Ideal S1x512 .f32) (d : Vec Ideal S1x256x128 .f32)
    (t : Fin 4) : Fin 256 → Fin 128 → EReal :=
  fun r k => dotZ a W c r ⟨128 * t.val + k.val, by omega⟩ + d (ix3 0 r k)

theorem ext2 {f g : Vec Ideal S256x128 .f32} (h : ∀ (r : Fin 256) (k : Fin 128), f (ix2 r k) = g (ix2 r k)) : f = g := by
  funext i
  change S256x128.Idx at i
  obtain ⟨r, k, rfl⟩ : ∃ (r : Fin 256) (k : Fin 128), i = ix2 r k := ⟨i 0, i 1, eq_ix2 i⟩
  exact h r k

theorem tokV_apply (z : Fin 256 → Fin 128 → EReal) (g b : Vec Ideal S1x128 .f32) (r : Fin 256) (k : Fin 128) :
    tokV z g b (ix2 r k) = lnR (z r) (fun k => g (ix2 0 k)) (fun k => b (ix2 0 k)) k := rfl

theorem pay6_eq (v : Vec Ideal S1x256x128 .f32) (g b : Vec Ideal S1x128 .f32) : k0_pay6 (F := Ideal) v g b = tokV (linZ v) g b := by
  refine ext2 fun r k => ?_
  rw [tokV_apply]
  refine Eq.trans ?_ (lnK_eq (linZ v r) (fun k => g (ix2 0 k)) (fun k => b (ix2 0 k)) k)
  unfold linZ
  pointwise [k0_pay6]

theorem pay7_eq (v : Vec Ideal S1x256x128 .f32) (g b : Vec Ideal S1x128 .f32) : k0_pay7 (F := Ideal) v g b = tokV (linZ v) g b := by
  refine ext2 fun r k => ?_
  rw [tokV_apply]
  refine Eq.trans ?_ (lnK_eq (linZ v r) (fun k => g (ix2 0 k)) (fun k => b (ix2 0 k)) k)
  unfold linZ
  pointwise [k0_pay7, k0_pay6]

theorem pay10_eq (v : Vec Ideal S1x256x128 .f32) (g b : Vec Ideal S1x128 .f32) : k0_pay10 (F := Ideal) v g b = tokV (linZ v) g b := by
  refine ext2 fun r k => ?_
  rw [tokV_apply]
  refine Eq.trans ?_ (lnK_eq (linZ v r) (fun k => g (ix2 0 k)) (fun k => b (ix2 0 k)) k)
  unfold linZ
  pointwise [k0_pay10]

theorem pay11_eq (v : Vec Ideal S1x256x128 .f32) (g b : Vec Ideal S1x128 .f32) : k0_pay11 (F := Ideal) v g b = tokV (linZ v) g b := by
  refine ext2 fun r k => ?_
  rw [tokV_apply]
  refine Eq.trans ?_ (lnK_eq (linZ v r) (fun k => g (ix2 0 k)) (fun k => b (ix2 0 k)) k)
  unfold linZ
  pointwise [k0_pay11, k0_pay10]

theorem pay13_eq (v : Vec Ideal S1x256x128 .f32) (g b : Vec Ideal S1x128 .f32) : k0_pay13 (F := Ideal) v g b = tokV (linZ v) g b := by
  refine ext2 fun r k => ?_
  rw [tokV_apply]
  refine Eq.trans ?_ (lnK_eq (linZ v r) (fun k => g (ix2 0 k)) (fun k => b (ix2 0 k)) k)
  unfold linZ
  pointwise [k0_pay13]

theorem pay14_eq (v : Vec Ideal S1x256x128 .f32) (g b : Vec Ideal S1x128 .f32) : k0_pay14 (F := Ideal) v g b = tokV (linZ v) g b := by
  refine ext2 fun r k => ?_
  rw [tokV_apply]
  refine Eq.trans ?_ (lnK_eq (linZ v r) (fun k => g (ix2 0 k)) (fun k => b (ix2 0 k)) k)
  unfold linZ
  pointwise [k0_pay14, k0_pay13]

theorem pay8_eq (v : Vec Ideal S1x256x128 .f32) (g b : Vec Ideal S1x128 .f32) (d : Vec Ideal S256x128 .f32) :
    k0_pay9 (F := Ideal) (k0_pay8 (F := Ideal) v g b d) = maxV d (tokV (linZ v) g b) := by
  rw [← pay6_eq]
  refine ext2 fun r k => ?_
  show _ = max _ _
  generalize hx : k0_pay6 (F := Ideal) v g b = x
  pointwise [k0_pay8, k0_pay9, hx]

theorem pay12_eq (v d : Vec Ideal S256x128 .f32) : k0_pay12 (F := Ideal) v d = maxV d v := by
  refine ext2 fun r k => ?_
  show _ = max _ _
  pointwise [k0_pay12]

theorem pay1_eq (v d : Vec Ideal S256x128 .f32) : k0_pay1 (F := Ideal) v d = maxV d v := by
  refine ext2 fun r k => ?_
  show _ = max _ _
  pointwise [k0_pay1]

theorem pay15_eq : k0_pay15 (F := Ideal) = fun _ => (0 : EReal) := by
  refine ext2 fun r k => ?_
  pointwise [k0_pay15]

theorem pay22_eq (a : Vec Ideal S256x3584 .bf16) (W : Vec Ideal S3584x512 .bf16) (c : Vec Ideal S1x512 .f32) (d : Vec Ideal S1x256x128 .f32) (g b : Vec Ideal S1x128 .f32) :
    k0_pay22 (F := Ideal) (k0_pay19 (F := Ideal) a W c d) (k0_pay20 (F := Ideal) a W c d) (k0_pay21 (F := Ideal)) g b = tokV (mmZ a W c d 0) g b := by
  refine ext2 fun r k => ?_
  rw [tokV_apply]
  refine Eq.trans ?_ (lnK_eq (mmZ a W c d 0 r) (fun k => g (ix2 0 k)) (fun k => b (ix2 0 k)) k)
  unfold mmZ dotZ
  pointwise [k0_pay22, k0_pay19, k0_pay20, k0_pay21, k0_pay18]

theorem pay23_eq (a : Vec Ideal S256x3584 .bf16) (W : Vec Ideal S3584x512 .bf16) (c : Vec Ideal S1x512 .f32) (d : Vec Ideal S1x256x128 .f32) (g b : Vec Ideal S1x128 .f32) :
    k0_pay23 (F := Ideal) (k0_pay19 (F := Ideal) a W c d) (k0_pay20 (F := Ideal) a W c d) (k0_pay21 (F := Ideal)) g b = tokV (mmZ a W c d 0) g b := by
  refine ext2 fun r k => ?_
  rw [tokV_apply]
  refine Eq.trans ?_ (lnK_eq (mmZ a W c d 0 r) (fun k => g (ix2 0 k)) (fun k => b (ix2 0 k)) k)
  unfold mmZ dotZ
  pointwise [k0_pay23, k0_pay22, k0_pay19, k0_pay20, k0_pay21, k0_pay18]

theorem pay26_eq (a : Vec Ideal S256x3584 .bf16) (W : Vec Ideal S3584x512 .bf16) (c : Vec Ideal S1x512 .f32) (d : Vec Ideal S1x256x128 .f32) (g b : Vec Ideal S1x128 .f32) :
    k0_pay26 (F := Ideal) (k0_pay25 (F := Ideal) (k0_pay18 (F := Ideal) a W c) d) g b = tokV (mmZ a W c d 1) g b := by
  refine ext2 fun r k => ?_
  rw [tokV_apply]
  refine Eq.trans ?_ (lnK_eq (mmZ a W c d 1 r) (fun k => g (ix2 0 k)) (fun k => b (ix2 0 k)) k)
  unfold mmZ dotZ
  pointwise [k0_pay26, k0_pay25, k0_pay18]

theorem pay27_eq (a : Vec Ideal S256x3584 .bf16) (W : Vec Ideal S3584x512 .bf16) (c : Vec Ideal S1x512 .f32) (d : Vec Ideal S1x256x128 .f32) (g b : Vec Ideal S1x128 .f32) :
    k0_pay27 (F := Ideal) (k0_pay25 (F := Ideal) (k0_pay18 (F := Ideal) a W c) d) g b = tokV (mmZ a W c d 1) g b := by
  refine ext2 fun r k => ?_
  rw [tokV_apply]
  refine Eq.trans ?_ (lnK_eq (mmZ a W c d 1 r) (fun k => g (ix2 0 k)) (fun k => b (ix2 0 k)) k)
  unfold mmZ dotZ
  pointwise [k0_pay27, k0_pay26, k0_pay25, k0_pay18]

theorem pay30_eq (a : Vec Ideal S256x3584 .bf16) (W : Vec Ideal S3584x512 .bf16) (c : Vec Ideal S1x512 .f32) (d : Vec Ideal S1x256x128 .f32) (g b : Vec Ideal S1x128 .f32) :
    k0_pay30 (F := Ideal) (k0_pay29 (F := Ideal) (k0_pay18 (F := Ideal) a W c) d) g b = tokV (mmZ a W c d 2) g b := by
  refine ext2 fun r k => ?_
  rw [tokV_apply]
  refine Eq.trans ?_ (lnK_eq (mmZ a W c d 2 r) (fun k => g (ix2 0 k)) (fun k => b (ix2 0 k)) k)
  unfold mmZ dotZ
  pointwise [k0_pay30, k0_pay29, k0_pay18]

theorem pay31_eq (a : Vec Ideal S256x3584 .bf16) (W : Vec Ideal S3584x512 .bf16) (c : Vec Ideal S1x512 .f32) (d : Vec Ideal S1x256x128 .f32) (g b : Vec Ideal S1x128 .f32) :
    k0_pay31 (F := Ideal) (k0_pay29 (F := Ideal) (k0_pay18 (F := Ideal) a W c) d) g b = tokV (mmZ a W c d 2) g b := by
  refine ext2 fun r k => ?_
  rw [tokV_apply]
  refine Eq.trans ?_ (lnK_eq (mmZ a W c d 2 r) (fun k => g (ix2 0 k)) (fun k => b (ix2 0 k)) k)
  unfold mmZ dotZ
  pointwise [k0_pay31, k0_pay30, k0_pay29, k0_pay18]

theorem pay34_eq (a : Vec Ideal S256x3584 .bf16) (W : Vec Ideal S3584x512 .bf16) (c : Vec Ideal S1x512 .f32) (d : Vec Ideal S1x256x128 .f32) (g b : Vec Ideal S1x128 .f32) :
    k0_pay34 (F := Ideal) (k0_pay33 (F := Ideal) (k0_pay18 (F := Ideal) a W c)) d g b = tokV (mmZ a W c d 3) g b := by
  refine ext2 fun r k => ?_
  rw [tokV_apply]
  refine Eq.trans ?_ (lnK_eq (mmZ a W c d 3 r) (fun k => g (ix2 0 k)) (fun k => b (ix2 0 k)) k)
  unfold mmZ dotZ
  pointwise [k0_pay34, k0_pay33, k0_pay18]

theorem pay35_eq (a : Vec Ideal S256x3584 .bf16) (W : Vec Ideal S3584x512 .bf16) (c : Vec Ideal S1x512 .f32) (d : Vec Ideal S1x256x128 .f32) (g b : Vec Ideal S1x128 .f32) :
    k0_pay35 (F := Ideal) (k0_pay33 (F := Ideal) (k0_pay18 (F := Ideal) a W c)) d g b = tokV (mmZ a W c d 3) g b := by
  refine ext2 fun r k => ?_
  rw [tokV_apply]
  refine Eq.trans ?_ (lnK_eq (mmZ a W c d 3 r) (fun k => g (ix2 0 k)) (fun k => b (ix2 0 k)) k)
  unfold mmZ dotZ
  pointwise [k0_pay35, k0_pay34, k0_pay33, k0_pay18]

theorem pay24_eq (a : Vec Ideal S256x3584 .bf16) (W : Vec Ideal S3584x512 .bf16) (c : Vec Ideal S1x512 .f32) (d : Vec Ideal S1x256x128 .f32) (g b : Vec Ideal S1x128 .f32) (m : Vec Ideal S256x128 .f32) :
    k0_pay24 (F := Ideal) (k0_pay19 (F := Ideal) a W c d) (k0_pay20 (F := Ideal) a W c d) (k0_pay21 (F := Ideal)) g b m = maxV m (tokV (mmZ a W c d 0) g b) := by
  rw [← pay22_eq]
  refine ext2 fun r k => ?_
  show _ = max _ _
  unfold k0_pay24
  generalize k0_pay22 (F := Ideal) (k0_pay19 (F := Ideal) a W c d) (k0_pay20 (F := Ideal) a W c d) (k0_pay21 (F := Ideal)) g b = x
  pointwise

theorem pay28_eq (a : Vec Ideal S256x3584 .bf16) (W : Vec Ideal S3584x512 .bf16) (c : Vec Ideal S1x512 .f32) (d : Vec Ideal S1x256x128 .f32) (g b : Vec Ideal S1x128 .f32) (m : Vec Ideal S256x128 .f32) :
    k0_pay28 (F := Ideal) (k0_pay25 (F := Ideal) (k0_pay18 (F := Ideal) a W c) d) g b m = maxV m (tokV (mmZ a W c d 1) g b) := by
  rw [← pay26_eq]
  refine ext2 fun r k => ?_
  show _ = max _ _
  unfold k0_pay28
  generalize k0_pay26 (F := Ideal) (k0_pay25 (F := Ideal) (k0_pay18 (F := Ideal) a W c) d) g b = x
  pointwise

theorem pay32_eq (a : Vec Ideal S256x3584 .bf16) (W : Vec Ideal S3584x512 .bf16) (c : Vec Ideal S1x512 .f32) (d : Vec Ideal S1x256x128 .f32) (g b : Vec Ideal S1x128 .f32) (m : Vec Ideal S256x128 .f32) :
    k0_pay32 (F := Ideal) (k0_pay29 (F := Ideal) (k0_pay18 (F := Ideal) a W c) d) g b m = maxV m (tokV (mmZ a W c d 2) g b) := by
  rw [← pay30_eq]
  refine ext2 fun r k => ?_
  show _ = max _ _
  unfold k0_pay32
  generalize k0_pay30 (F := Ideal) (k0_pay29 (F := Ideal) (k0_pay18 (F := Ideal) a W c) d) g b = x
  pointwise

theorem pay36_eq (a : Vec Ideal S256x3584 .bf16) (W : Vec Ideal S3584x512 .bf16) (c : Vec Ideal S1x512 .f32) (d : Vec Ideal S1x256x128 .f32) (g b : Vec Ideal S1x128 .f32) (m : Vec Ideal S256x128 .f32) :
    k0_pay36 (F := Ideal) (k0_pay33 (F := Ideal) (k0_pay18 (F := Ideal) a W c)) d g b m = maxV m (tokV (mmZ a W c d 3) g b) := by
  rw [← pay34_eq]
  refine ext2 fun r k => ?_
  show _ = max _ _
  unfold k0_pay36
  generalize k0_pay34 (F := Ideal) (k0_pay33 (F := Ideal) (k0_pay18 (F := Ideal) a W c)) d g b = x
  pointwise

end Cert.Value
-- ==== Proof.ValueLoopW.lean ====
/- The dequantising loop: what it leaves in the buffer of bfloat16 weights. -/
module

public import proofs.«01_k».proof.Proof.ValueScalar
public import proofs.«01_k».proof.Proof.Gen.KernelIdeal.Loops
public import Idealize.ShloMosaic.Lib.Pipeline.ValueKit

@[expose] public section

set_option maxRecDepth 16384

noncomputable section

namespace Cert.Value

open Idealize.ShloMosaic Cert.KernelIdeal Cert.KernelIdeal.Gen Idealize.SL

/-- The dequantised weights of a column block: each fp8 weight times the power of two of its scale byte. -/
def wblk (x1 : Vec Ideal S3584x512 .fp8e4m3) (x2 : Vec Ideal S112x512 .i8) : Vec Ideal S3584x512 .bf16 :=
  fun y => x1 y * pow2 (x2 (ix2 ⟨(y 0).val / 32, by have : (y 0).val < 3584 := (y 0).isLt; omega⟩ ⟨(y 1).val, (y 1).isLt⟩))

theorem word_half (s : BitVec 8) (p : Nat) (hp : p < 2) :
    (scaleWord s).extractLsb' (16 * p) 16 = BitVec.setWidth 16 s <<< 7 := by
  apply BitVec.eq_of_getLsbD_eq
  intro i hi
  rw [BitVec.getLsbD_extractLsb']
  have h := scaleWord_bits s.toFin ⟨16 * p + i, by omega⟩
  change (scaleWord s).getLsbD (16 * p + i) = (BitVec.setWidth 16 s <<< 7 : BitVec 16).getLsbD ((16 * p + i) % 16) at h
  rw [h, show (16 * p + i) % 16 = i by omega]
  simp [hi]

theorem pay16_apply (x2 : Vec Ideal S112x512 .i8) (r : Fin 112) (q : Fin 512) :
    k0_pay16 (F := Ideal) x2 (ix2 r q) = scaleWord (x2 (ix2 r q)) := by
  pointwise [k0_pay16]
  rfl

theorem bitcast_row (a : Vec Ideal S1x512 .i32) (s : BitVec 8) (R : Fin 16) (q : Fin 512)
    (ha : a (ix2 0 q) = scaleWord s) :
    (bitcast S16x512 16 (broadcastTo S8x512 a broadcasts_S1x512_S8x512) bitcasts_S8x512_w32_S16x512_w16 (ix2 R q) : BitVec 16)
      = BitVec.setWidth 16 s <<< 7 := by
  rw [bitcast_32_16]
  generalize hj : (Shape.Bitcasts.srcIdx _ _ _ _ : S8x512.Idx) = j
  have : broadcastTo S8x512 a broadcasts_S1x512_S8x512 j = a (ix2 0 q) := by
    have e : ((j 1 : Fin _).val) = q.val := by rw [← hj]; rfl
    idx_vars j
    pointwise
    congr 1
    congr 1
    exact Fin.ext e
  rw [this, ha]
  exact word_half s _ (Nat.mod_lt _ (by decide))

theorem pay17_apply (a : Vec Ideal S1x512 .i32) (b : Vec Ideal S32x512 .fp8e4m3) (s : BitVec 8) (r : Fin 32) (q : Fin 512)
    (ha : a (ix2 0 q) = scaleWord s) (h1 : 1 ≤ s.toNat) (h2 : s.toNat ≤ 254) :
    k0_pay17 (F := Ideal) a b (ix2 r q) = b (ix2 r q) * pow2 s := by
  pointwise [k0_pay17]
  rw [← ofBits_pow2 s h1 h2]
  congr 1
  split <;> rw [bitcast_row a s _ q ha]

theorem pay17_piece (x1 : Vec Ideal S3584x512 .fp8e4m3) (x2 : Vec Ideal S112x512 .i8) (n : Nat) (hn : n < 112) (h h' h'')
    (hs : ∀ y, 1 ≤ (x2 y : BitVec 8).toNat ∧ (x2 y : BitVec 8).toNat ≤ 254) (r : Fin 32) (q : Fin 512) :
    k0_pay17 (F := Ideal) (View.ld (k0_pay16 (F := Ideal) x2) (Rect.unit (s := S112x512) ![n, 0] ![1, 512] h'))
      (View.ld x1 (Rect.unit (s := S3584x512) ![32 * n, 0] ![32, 512] h'')) (ix2 r q)
      = wblk x1 x2 ((Rect.unit (s := S3584x512) ![32 * n, 0] ![32, 512] h).emb (ix2 r q)) := by
  have e : wblk x1 x2 ((Rect.unit (s := S3584x512) ![32 * n, 0] ![32, 512] h).emb (ix2 r q))
      = View.ld x1 (Rect.unit (s := S3584x512) ![32 * n, 0] ![32, 512] h'') (ix2 r q) * pow2 (x2 (ix2 ⟨n, hn⟩ q)) := by
    have e1 : (((Rect.unit (s := S3584x512) ![32 * n, 0] ![32, 512] h).emb (ix2 r q)) 0).val = 32 * n + r.val := by
      show 32 * n + 1 * r.val = _; omega
    have e2 : (((Rect.unit (s := S3584x512) ![32 * n, 0] ![32, 512] h).emb (ix2 r q)) 1).val = q.val := by
      show 0 + 1 * q.val = _; omega
    unfold wblk
    congr 3
    exact congrArg₂ (fun (a : Fin 112) (b : Fin 512) => ix2 a b) (Fin.ext (by show _ / 32 = n; rw [e1]; omega)) (Fin.ext e2)
  rw [e]
  refine pay17_apply _ _ (x2 (ix2 ⟨n, hn⟩ q)) r q ?_ (hs _).1 (hs _).2
  rw [← pay16_apply]
  pointwise

theorem mem_rows (n : Nat) (hn : n < 112) (h) (y : S3584x512.Idx) (h1 : 32 * n ≤ (y 0).val) (h2 : (y 0).val < 32 * (n + 1)) :
    y ∈ (Rect.unit (s := S3584x512) ![32 * n, 0] ![32, 512] h).set := by
  rw [Rect.mem_set_unit]
  refine Fin.forall_fin_two.mpr ⟨⟨h1, ?_⟩, ⟨Nat.zero_le _, ?_⟩⟩
  · show (y 0).val < 32 * n + 32; omega
  · show (y 1).val < 0 + 512
    have : (y 1).val < 512 := (y 1).isLt
    omega

theorem off1_eq : ∀ k : Fin k0_t1_loop.trips, k0_off1 k = ![k.val, 0] := by decide +kernel
theorem off2_eq : ∀ k : Fin k0_t1_loop.trips, k0_off2 k = ![32 * k.val, 0] := by decide +kernel
theorem trips1 : k0_t1_loop.trips = 112 := by decide +kernel

theorem tripL1_eq (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (X_arg3 : BufTy.Contents (Elt Ideal) arg3.view.ty) (X_arg13 : BufTy.Contents (Elt Ideal) arg13.view.ty) (k : Fin k0_t1_loop.trips) :
    ∃ h h' h'', tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 k
      = [⟨Rect.unit (s := S3584x512) ![32 * k.val, 0] ![32, 512] h,
          k0_pay17 (View.readAt (Elt Ideal) arg13.view (Rect.unit (s := S112x512) ![k.val, 0] ![1, 512] h').toLoadRect X_arg13)
            (View.readAt (Elt Ideal) arg3.view (Rect.unit (s := S3584x512) ![32 * k.val, 0] ![32, 512] h'').toLoadRect X_arg3)⟩] := by
  have base : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg3 X_arg13 k
      = [⟨Rect.unit (s := S3584x512) (k0_off2 k) ![32, 512] (k0_off2_inb k),
          k0_pay17 (View.readAt (Elt Ideal) arg13.view (Rect.unit (s := S112x512) (k0_off1 k) ![1, 512] (k0_off1_inb k)).toLoadRect X_arg13)
            (View.readAt (Elt Ideal) arg3.view (Rect.unit (s := S3584x512) (k0_off2 k) ![32, 512] (k0_off2_inb k)).toLoadRect X_arg3)⟩] := by
    unfold tripL_k0_t1 trip_k0_t1
    sl_unfold_words
    rfl
  rw [base]
  have gen : ∀ (o1 o2 : Fin 2 → Nat) (h1 : ∀ a, o1 a + (![1, 512] : Fin 2 → Nat) a ≤ S112x512.size a) (h2 : ∀ a, o2 a + (![32, 512] : Fin 2 → Nat) a ≤ S3584x512.size a),
      o1 = ![k.val, 0] → o2 = ![32 * k.val, 0] →
      ∃ h h' h'', ([⟨Rect.unit (s := S3584x512) o2 ![32, 512] h2,
          k0_pay17 (View.readAt (Elt Ideal) arg13.view (Rect.unit (s := S112x512) o1 ![1, 512] h1).toLoadRect X_arg13)
            (View.readAt (Elt Ideal) arg3.view (Rect.unit (s := S3584x512) o2 ![32, 512] h2).toLoadRect X_arg3)⟩] : List (View.Piece (Elt Ideal) S3584x512 .bf16))
      = [⟨Rect.unit (s := S3584x512) ![32 * k.val, 0] ![32, 512] h,
          k0_pay17 (View.readAt (Elt Ideal) arg13.view (Rect.unit (s := S112x512) ![k.val, 0] ![1, 512] h').toLoadRect X_arg13)
            (View.readAt (Elt Ideal) arg3.view (Rect.unit (s := S3584x512) ![32 * k.val, 0] ![32, 512] h'').toLoadRect X_arg3)⟩] := by
    rintro o1 o2 h1 h2 rfl rfl
    exact ⟨_, _, _, rfl⟩
  exact gen _ _ _ _ (off1_eq k) (off2_eq k)

theorem pb1_read (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole)  (x1 : Vec Ideal S3584x512 .fp8e4m3) (x2 : Vec Ideal S112x512 .i8)
    (X_arg13 : BufTy.Contents (Elt Ideal) arg13.view.ty) (hX : arg13.view.read (Elt Ideal) X_arg13 = k0_pay16 x2)
    (hs : ∀ y, 1 ≤ (x2 y : BitVec 8).toNat ∧ (x2 y : BitVec 8).toNat ≤ 254)
    (f : BufTy.Contents (Elt Ideal) arg12.view.ty) :
    arg12.view.read (Elt Ideal) (arg12.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) X_arg13 k0_t1_loop.trips))
      = wblk x1 x2 := by
  have key : ∀ n, n ≤ k0_t1_loop.trips →
      (∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) X_arg13 n, ∀ x : p.1.shape.Idx, p.2 x = wblk x1 x2 (p.1.emb x))
      ∧ ∀ y : S3584x512.Idx, (y 0).val < 32 * n → ∃ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) X_arg13 n, y ∈ p.1.set := by
    intro n
    induction n with
    | zero =>
      intro _
      refine ⟨fun p hp => absurd hp (by rw [pb_k0_t1.eq_1]; exact List.not_mem_nil), fun y hy => absurd hy (by omega)⟩
    | succ n ih =>
      intro hn
      obtain ⟨ih1, ih2⟩ := ih (Nat.le_of_succ_le hn)
      have hn' : n < k0_t1_loop.trips := hn
      rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) X_arg13 ⟨n, hn'⟩]
      obtain ⟨h, h', h'', e⟩ := tripL1_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) X_arg13 ⟨n, hn'⟩
      rw [e]
      have n112 : n < 112 := trips1 ▸ hn'
      refine ⟨?_, ?_⟩
      · intro p hp
        rcases List.mem_append.mp hp with hp | hp
        · obtain rfl := List.mem_singleton.mp hp
          intro x
          rw [View.readAt_eq_ld, View.readAt_eq_ld, hX, harg3.read_unread]
          change S32x512.Idx at x
          obtain ⟨r, q, rfl⟩ : ∃ (r : Fin 32) (q : Fin 512), x = ix2 r q := ⟨x 0, x 1, eq_ix2 x⟩
          exact pay17_piece x1 x2 n n112 h h' h'' hs r q
        · exact ih1 p hp
      · intro y hy
        by_cases hlt : (y 0).val < 32 * n
        · obtain ⟨p, hp, hy'⟩ := ih2 y hlt
          exact ⟨p, List.mem_append_right _ hp, hy'⟩
        · refine ⟨_, List.mem_append_left _ (List.mem_singleton.mpr rfl), ?_⟩
          exact mem_rows n n112 h y (by omega) hy
  obtain ⟨h1, h2⟩ := key _ le_rfl
  funext y
  exact View.read_writes_apply_of_pieces _ _ (wblk x1 x2) _ h1 y (h2 y (by have : (y 0).val < 3584 := (y 0).isLt; rw [trips1]; omega))

theorem readW (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole)  (x1 : Vec Ideal S3584x512 .fp8e4m3) (x2 : Vec Ideal S112x512 .i8)
    (X_arg13 : BufTy.Contents (Elt Ideal) arg13.view.ty) (hX : arg13.view.read (Elt Ideal) X_arg13 = k0_pay16 x2)
    (hs : ∀ y, 1 ≤ (x2 y : BitVec 8).toNat ∧ (x2 y : BitVec 8).toNat ≤ 254) (h) :
    arg12.view.readCov (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (harg3.unread x1) X_arg13 (Scf.trips k0_t1_loop.lb k0_t1_loop.ub k0_t1_loop.st)) (Rect.unit (s := S3584x512) ![0, 0] S3584x512.size h).toLoadRect
      = wblk x1 x2 := by
  unfold View.readCov
  rw [View.readAt_eq_ld]
  refine (View.ld_unit_lit' _ _ (by decide)).trans ?_
  exact pb1_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 X_arg13 hX hs _

end Cert.Value
-- ==== Proof.ValueRows.lean ====
/- Writes of blocks of rows into the token buffer, and of whole buffers, read back; what one token of a step is. -/
module

public import proofs.«01_k».proof.Proof.ValueTok
public import proofs.«01_k».proof.Proof.ValueLoopW

@[expose] public section

set_option maxRecDepth 16384

noncomputable section

namespace Cert.Value

open Idealize.ShloMosaic Cert.KernelIdeal Cert.KernelIdeal.Gen

/-- A product token of a step: 128 columns of the block of samples by the dequantised block of weights, bias and residual, normalised. -/
def mmT (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32) (t : Fin 4) : Vec Ideal S256x128 .f32 :=
  tokV (fun r k => dotZ x0 (wblk x1 x2) x3 r ⟨128 * t.val + k.val, by omega⟩ + x4 (ix3 t r k)) x6 x7

/-- A linear token of a step, normalised. -/
def linT (x5 : Vec Ideal S3x256x128 .f32) (x6 x7 : Vec Ideal S1x128 .f32) (t : Fin 3) : Vec Ideal S256x128 .f32 :=
  tokV (fun r k => x5 (ix3 t r k)) x6 x7

/-- 256 rows of the token buffer replaced. -/
def putRows (Y : Vec Ideal S41600x128 .f32) (a : ℕ) (V : Vec Ideal S256x128 .f32) : Vec Ideal S41600x128 .f32 :=
  fun y => if h : a ≤ (y 0).val ∧ (y 0).val < a + 256 then V (ix2 ⟨(y 0).val - a, by omega⟩ ⟨(y 1).val, (y 1).isLt⟩) else Y y

theorem read_writes_rows (arg14 : Memref sig .tc .vmem S41600x128 .f32) (f : BufTy.Contents (Elt Ideal) arg14.view.ty) (o : Fin 2 → Nat)
    (h : ∀ a, o a + (![256, 128] : Fin 2 → Nat) a ≤ S41600x128.size a) (ho : o 1 = 0) (V : Vec Ideal S256x128 .f32)
    (L : List (View.Piece (Elt Ideal) S41600x128 .f32)) :
    arg14.view.read (Elt Ideal) (arg14.view.writes (Elt Ideal) f (⟨Rect.unit (s := S41600x128) o ![256, 128] h, V⟩ :: L))
      = putRows (arg14.view.read (Elt Ideal) (arg14.view.writes (Elt Ideal) f L)) (o 0) V := by
  funext y
  change S41600x128.Idx at y
  unfold putRows
  split
  · rename_i hy
    refine View.read_writes_cons_hit_of_coords _ _ (Rect.unit (s := S41600x128) o ![256, 128] h) V L (ix2 ⟨(y 0).val - o 0, by omega⟩ ⟨(y 1).val, (y 1).isLt⟩) y ?_
    refine Fin.forall_fin_two.mpr ⟨?_, ?_⟩
    · show (y 0).val = o 0 + 1 * ((y 0).val - o 0); omega
    · show (y 1).val = o 1 + 1 * (y 1).val; omega
  · rename_i hy
    exact View.read_writes_cons_miss_of_axis _ _ _ _ y 0 (o 0) 256 rfl rfl rfl (by omega)

theorem putRows_hit (Y : Vec Ideal S41600x128 .f32) (a : ℕ) (V : Vec Ideal S256x128 .f32) (y : ℕ) (k : Fin 128) (hy : y < 41600)
    (r : Fin 256) (h : y = a + r.val) : putRows Y a V (ix2 ⟨y, hy⟩ k) = V (ix2 r k) := by
  subst h
  unfold putRows
  rw [dif_pos ⟨Nat.le_add_right _ _, Nat.add_lt_add_left r.isLt _⟩]
  exact congrArg V (congrArg (fun r => ix2 r k) (Fin.ext (Nat.add_sub_cancel_left _ _)))

theorem putRows_miss (Y : Vec Ideal S41600x128 .f32) (a : ℕ) (V : Vec Ideal S256x128 .f32) (y : ℕ) (k : Fin 128) (hy : y < 41600)
    (h : y < a ∨ a + 256 ≤ y) : putRows Y a V (ix2 ⟨y, hy⟩ k) = Y (ix2 ⟨y, hy⟩ k) := by
  unfold putRows
  rw [dif_neg]
  rintro ⟨h1, h2⟩
  change a ≤ y at h1
  change y < a + 256 at h2
  omega

theorem read_writes_whole2 (arg15 : Memref sig .tc .vmem S256x128 .f32) (f : BufTy.Contents (Elt Ideal) arg15.view.ty)
    (h : ∀ a, (![0, 0] : Fin 2 → Nat) a + (![256, 128] : Fin 2 → Nat) a ≤ S256x128.size a) (V : Vec Ideal S256x128 .f32)
    (L : List (View.Piece (Elt Ideal) S256x128 .f32)) :
    arg15.view.read (Elt Ideal) (arg15.view.writes (Elt Ideal) f (⟨Rect.unit (s := S256x128) ![0, 0] ![256, 128] h, V⟩ :: L)) = V := by
  funext y
  change S256x128.Idx at y
  refine View.read_writes_cons_hit_of_coords _ _ (Rect.unit (s := S256x128) ![0, 0] ![256, 128] h) V L y y ?_
  refine Fin.forall_fin_two.mpr ⟨?_, ?_⟩
  · show (y 0).val = 0 + 1 * (y 0).val; omega
  · show (y 1).val = 0 + 1 * (y 1).val; omega

theorem read_writes_whole3 (arg11 : Memref sig .tc .vmem S1x1x256 .f32) (f : BufTy.Contents (Elt Ideal) arg11.view.ty)
    (h : ∀ a, (![0, 0, 0] : Fin 3 → Nat) a + (![1, 1, 256] : Fin 3 → Nat) a ≤ S1x1x256.size a) (V : Vec Ideal S1x1x256 .f32)
    (L : List (View.Piece (Elt Ideal) S1x1x256 .f32)) :
    arg11.view.read (Elt Ideal) (arg11.view.writes (Elt Ideal) f (⟨Rect.unit (s := S1x1x256) ![0, 0, 0] ![1, 1, 256] h, V⟩ :: L)) = V := by
  funext y
  change S1x1x256.Idx at y
  refine View.read_writes_cons_hit_of_coords _ _ (Rect.unit (s := S1x1x256) ![0, 0, 0] ![1, 1, 256] h) V L y y ?_
  intro a
  match a with
  | 0 => show (y 0).val = 0 + 1 * (y 0).val; omega
  | 1 => show (y 1).val = 0 + 1 * (y 1).val; omega
  | 2 => show (y 2).val = 0 + 1 * (y 2).val; omega

theorem read_writes_wholeI (arg13 : Memref sig .tc .vmem S112x512 .i32) (f : BufTy.Contents (Elt Ideal) arg13.view.ty)
    (h : ∀ a, (![0, 0] : Fin 2 → Nat) a + (![112, 512] : Fin 2 → Nat) a ≤ S112x512.size a) (V : Vec Ideal S112x512 .i32)
    (L : List (View.Piece (Elt Ideal) S112x512 .i32)) :
    arg13.view.read (Elt Ideal) (arg13.view.writes (Elt Ideal) f (⟨Rect.unit (s := S112x512) ![0, 0] ![112, 512] h, V⟩ :: L)) = V := by
  funext y
  change S112x512.Idx at y
  refine View.read_writes_cons_hit_of_coords _ _ (Rect.unit (s := S112x512) ![0, 0] ![112, 512] h) V L y y ?_
  refine Fin.forall_fin_two.mpr ⟨?_, ?_⟩
  · show (y 0).val = 0 + 1 * (y 0).val; omega
  · show (y 1).val = 0 + 1 * (y 1).val; omega

theorem linZ_ld (x5 : Vec Ideal S3x256x128 .f32) (t : Fin 3) (h) :
    linZ (View.ld x5 (Rect.unit (s := S3x256x128) ![t.val, 0, 0] ![1, 256, 128] h)) = fun r k => x5 (ix3 t r k) := by
  funext r k
  show x5 _ = x5 _
  congr 1
  funext a
  apply Fin.ext
  match a with
  | 0 => show t.val + 1 * 0 = t.val; omega
  | 1 => show 0 + 1 * r.val = r.val; omega
  | 2 => show 0 + 1 * k.val = k.val; omega

theorem mmZ_ld (a : Vec Ideal S256x3584 .bf16) (W : Vec Ideal S3584x512 .bf16) (c : Vec Ideal S1x512 .f32) (x4 : Vec Ideal S4x256x128 .f32)
    (t : Fin 4) (h) :
    mmZ a W c (View.ld x4 (Rect.unit (s := S4x256x128) ![t.val, 0, 0] ![1, 256, 128] h)) t
      = fun r k => dotZ a W c r ⟨128 * t.val + k.val, by omega⟩ + x4 (ix3 t r k) := by
  funext r k
  show _ + x4 _ = _ + x4 _
  congr 2
  funext a
  apply Fin.ext
  match a with
  | 0 => show t.val + 1 * 0 = t.val; omega
  | 1 => show 0 + 1 * r.val = r.val; omega
  | 2 => show 0 + 1 * k.val = k.val; omega

theorem tok0_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) :
    k0_pay23 (F := Ideal) (k0_pay19 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3)) (arg6.view.readAt (Elt Ideal) (Rect.unit (s := S4x256x128) ![0, 0, 0] S1x256x128.size h6).toLoadRect (harg6.unread x4))) (k0_pay20 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3)) (arg6.view.readAt (Elt Ideal) (Rect.unit (s := S4x256x128) ![0, 0, 0] S1x256x128.size h6).toLoadRect (harg6.unread x4))) (k0_pay21 (F := Ideal)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))
      = mmT x0 x1 x2 x3 x4 x6 x7 0 := by
  rw [pay23_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => tokV z x6 x7) (mmZ_ld x0 (wblk x1 x2) x3 x4 0 _)
  all_goals decide

theorem mx0_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) (d : Vec Ideal S256x128 .f32) :
    k0_pay24 (F := Ideal) (k0_pay19 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3)) (arg6.view.readAt (Elt Ideal) (Rect.unit (s := S4x256x128) ![0, 0, 0] S1x256x128.size h6).toLoadRect (harg6.unread x4))) (k0_pay20 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3)) (arg6.view.readAt (Elt Ideal) (Rect.unit (s := S4x256x128) ![0, 0, 0] S1x256x128.size h6).toLoadRect (harg6.unread x4))) (k0_pay21 (F := Ideal)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7)) d
      = maxV d (mmT x0 x1 x2 x3 x4 x6 x7 0) := by
  rw [pay24_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => maxV d (tokV z x6 x7)) (mmZ_ld x0 (wblk x1 x2) x3 x4 0 _)
  all_goals decide

theorem tok1_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) :
    k0_pay27 (F := Ideal) (k0_pay25 (F := Ideal) (k0_pay18 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3))) (arg6.view.readAt (Elt Ideal) (Rect.unit (s := S4x256x128) ![1, 0, 0] S1x256x128.size h6).toLoadRect (harg6.unread x4))) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))
      = mmT x0 x1 x2 x3 x4 x6 x7 1 := by
  rw [pay27_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => tokV z x6 x7) (mmZ_ld x0 (wblk x1 x2) x3 x4 1 _)
  all_goals decide

theorem mx1_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) (d : Vec Ideal S256x128 .f32) :
    k0_pay28 (F := Ideal) (k0_pay25 (F := Ideal) (k0_pay18 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3))) (arg6.view.readAt (Elt Ideal) (Rect.unit (s := S4x256x128) ![1, 0, 0] S1x256x128.size h6).toLoadRect (harg6.unread x4))) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7)) d
      = maxV d (mmT x0 x1 x2 x3 x4 x6 x7 1) := by
  rw [pay28_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => maxV d (tokV z x6 x7)) (mmZ_ld x0 (wblk x1 x2) x3 x4 1 _)
  all_goals decide

theorem tok2_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) :
    k0_pay31 (F := Ideal) (k0_pay29 (F := Ideal) (k0_pay18 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3))) (arg6.view.readAt (Elt Ideal) (Rect.unit (s := S4x256x128) ![2, 0, 0] S1x256x128.size h6).toLoadRect (harg6.unread x4))) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))
      = mmT x0 x1 x2 x3 x4 x6 x7 2 := by
  rw [pay31_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => tokV z x6 x7) (mmZ_ld x0 (wblk x1 x2) x3 x4 2 _)
  all_goals decide

theorem mx2_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) (d : Vec Ideal S256x128 .f32) :
    k0_pay32 (F := Ideal) (k0_pay29 (F := Ideal) (k0_pay18 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3))) (arg6.view.readAt (Elt Ideal) (Rect.unit (s := S4x256x128) ![2, 0, 0] S1x256x128.size h6).toLoadRect (harg6.unread x4))) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7)) d
      = maxV d (mmT x0 x1 x2 x3 x4 x6 x7 2) := by
  rw [pay32_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => maxV d (tokV z x6 x7)) (mmZ_ld x0 (wblk x1 x2) x3 x4 2 _)
  all_goals decide

theorem tok3_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) :
    k0_pay35 (F := Ideal) (k0_pay33 (F := Ideal) (k0_pay18 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3)))) (arg6.view.readAt (Elt Ideal) (Rect.unit (s := S4x256x128) ![3, 0, 0] S1x256x128.size h6).toLoadRect (harg6.unread x4)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))
      = mmT x0 x1 x2 x3 x4 x6 x7 3 := by
  rw [pay35_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => tokV z x6 x7) (mmZ_ld x0 (wblk x1 x2) x3 x4 3 _)
  all_goals decide

theorem mx3_eq (x0 : Vec Ideal S256x3584 .bf16) (x1 : Vec Ideal S3584x512 .fp8e4m3) (x2 : Vec Ideal S112x512 .i8) (x3 : Vec Ideal S1x512 .f32)
    (x4 : Vec Ideal S4x256x128 .f32) (x6 x7 : Vec Ideal S1x128 .f32)
    (arg2 : Memref sig .tc .vmem S256x3584 .bf16) (harg2 : arg2.IsWhole) (arg5 : Memref sig .tc .vmem S1x512 .f32) (harg5 : arg5.IsWhole)
    (arg6 : Memref sig .tc .vmem S4x256x128 .f32) (harg6 : arg6.IsWhole) (arg8 : Memref sig .tc .vmem S1x128 .f32) (harg8 : arg8.IsWhole)
    (arg9 : Memref sig .tc .vmem S1x128 .f32) (harg9 : arg9.IsWhole) (h2 h5 h6 h8 h9) (d : Vec Ideal S256x128 .f32) :
    k0_pay36 (F := Ideal) (k0_pay33 (F := Ideal) (k0_pay18 (F := Ideal) (arg2.view.readAt (Elt Ideal) (Rect.unit (s := S256x3584) ![0, 0] S256x3584.size h2).toLoadRect (harg2.unread x0)) (wblk x1 x2) (arg5.view.readAt (Elt Ideal) (Rect.unit (s := S1x512) ![0, 0] S1x512.size h5).toLoadRect (harg5.unread x3)))) (arg6.view.readAt (Elt Ideal) (Rect.unit (s := S4x256x128) ![3, 0, 0] S1x256x128.size h6).toLoadRect (harg6.unread x4)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7)) d
      = maxV d (mmT x0 x1 x2 x3 x4 x6 x7 3) := by
  rw [pay36_eq, View.readAt_eq_ld, View.readAt_eq_ld, View.readAt_eq_ld, View.readAt_eq_ld, View.readAt_eq_ld, harg2.read_unread, harg5.read_unread,
    harg6.read_unread, harg8.read_unread, harg9.read_unread, View.ld_unit_lit', View.ld_unit_lit', View.ld_unit_lit', View.ld_unit_lit']
  · exact congrArg (fun z => maxV d (tokV z x6 x7)) (mmZ_ld x0 (wblk x1 x2) x3 x4 3 _)
  all_goals decide

theorem lin0_eq (x5 : Vec Ideal S3x256x128 .f32) (x6 x7 : Vec Ideal S1x128 .f32)
    (arg7 : Memref sig .tc .vmem S3x256x128 .f32) (harg7 : arg7.IsWhole) (arg8 : Memref sig .tc .vmem S1x128 .f32) (harg8 : arg8.IsWhole)
    (arg9 : Memref sig .tc .vmem S1x128 .f32) (harg9 : arg9.IsWhole) (h7 h8 h9) :
    k0_pay7 (F := Ideal) (arg7.view.readAt (Elt Ideal) (Rect.unit (s := S3x256x128) ![0, 0, 0] S1x256x128.size h7).toLoadRect (harg7.unread x5)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))
      = linT x5 x6 x7 0 := by
  rw [pay7_eq, View.readAt_eq_ld, View.readAt_eq_ld, View.readAt_eq_ld, harg7.read_unread, harg8.read_unread, harg9.read_unread,
    View.ld_unit_lit', View.ld_unit_lit']
  · exact congrArg (fun z => tokV z x6 x7) (linZ_ld x5 0 _)
  all_goals decide

theorem mxl0_eq (x5 : Vec Ideal S3x256x128 .f32) (x6 x7 : Vec Ideal S1x128 .f32)
    (arg7 : Memref sig .tc .vmem S3x256x128 .f32) (harg7 : arg7.IsWhole) (arg8 : Memref sig .tc .vmem S1x128 .f32) (harg8 : arg8.IsWhole)
    (arg9 : Memref sig .tc .vmem S1x128 .f32) (harg9 : arg9.IsWhole) (h7 h8 h9) (d : Vec Ideal S256x128 .f32) :
    k0_pay9 (F := Ideal) (k0_pay8 (F := Ideal) (arg7.view.readAt (Elt Ideal) (Rect.unit (s := S3x256x128) ![0, 0, 0] S1x256x128.size h7).toLoadRect (harg7.unread x5)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7)) d)
      = maxV d (linT x5 x6 x7 0) := by
  rw [pay8_eq, View.readAt_eq_ld, View.readAt_eq_ld, View.readAt_eq_ld, harg7.read_unread, harg8.read_unread, harg9.read_unread,
    View.ld_unit_lit', View.ld_unit_lit']
  · exact congrArg (fun z => maxV d (tokV z x6 x7)) (linZ_ld x5 0 _)
  all_goals decide

theorem lin1_eq (x5 : Vec Ideal S3x256x128 .f32) (x6 x7 : Vec Ideal S1x128 .f32)
    (arg7 : Memref sig .tc .vmem S3x256x128 .f32) (harg7 : arg7.IsWhole) (arg8 : Memref sig .tc .vmem S1x128 .f32) (harg8 : arg8.IsWhole)
    (arg9 : Memref sig .tc .vmem S1x128 .f32) (harg9 : arg9.IsWhole) (h7 h8 h9) :
    k0_pay11 (F := Ideal) (arg7.view.readAt (Elt Ideal) (Rect.unit (s := S3x256x128) ![1, 0, 0] S1x256x128.size h7).toLoadRect (harg7.unread x5)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))
      = linT x5 x6 x7 1 := by
  rw [pay11_eq, View.readAt_eq_ld, View.readAt_eq_ld, View.readAt_eq_ld, harg7.read_unread, harg8.read_unread, harg9.read_unread,
    View.ld_unit_lit', View.ld_unit_lit']
  · exact congrArg (fun z => tokV z x6 x7) (linZ_ld x5 1 _)
  all_goals decide

theorem mxl1_eq (x5 : Vec Ideal S3x256x128 .f32) (x6 x7 : Vec Ideal S1x128 .f32)
    (arg7 : Memref sig .tc .vmem S3x256x128 .f32) (harg7 : arg7.IsWhole) (arg8 : Memref sig .tc .vmem S1x128 .f32) (harg8 : arg8.IsWhole)
    (arg9 : Memref sig .tc .vmem S1x128 .f32) (harg9 : arg9.IsWhole) (h7 h8 h9) (d : Vec Ideal S256x128 .f32) :
    k0_pay12 (F := Ideal) (k0_pay10 (F := Ideal) (arg7.view.readAt (Elt Ideal) (Rect.unit (s := S3x256x128) ![1, 0, 0] S1x256x128.size h7).toLoadRect (harg7.unread x5)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))) d
      = maxV d (linT x5 x6 x7 1) := by
  rw [pay12_eq, pay10_eq, View.readAt_eq_ld, View.readAt_eq_ld, View.readAt_eq_ld, harg7.read_unread, harg8.read_unread, harg9.read_unread,
    View.ld_unit_lit', View.ld_unit_lit']
  · exact congrArg (fun z => maxV d (tokV z x6 x7)) (linZ_ld x5 1 _)
  all_goals decide

theorem lin2_eq (x5 : Vec Ideal S3x256x128 .f32) (x6 x7 : Vec Ideal S1x128 .f32)
    (arg7 : Memref sig .tc .vmem S3x256x128 .f32) (harg7 : arg7.IsWhole) (arg8 : Memref sig .tc .vmem S1x128 .f32) (harg8 : arg8.IsWhole)
    (arg9 : Memref sig .tc .vmem S1x128 .f32) (harg9 : arg9.IsWhole) (h7 h8 h9) :
    k0_pay14 (F := Ideal) (arg7.view.readAt (Elt Ideal) (Rect.unit (s := S3x256x128) ![2, 0, 0] S1x256x128.size h7).toLoadRect (harg7.unread x5)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))
      = linT x5 x6 x7 2 := by
  rw [pay14_eq, View.readAt_eq_ld, View.readAt_eq_ld, View.readAt_eq_ld, harg7.read_unread, harg8.read_unread, harg9.read_unread,
    View.ld_unit_lit', View.ld_unit_lit']
  · exact congrArg (fun z => tokV z x6 x7) (linZ_ld x5 2 _)
  all_goals decide

theorem mxl2_eq (x5 : Vec Ideal S3x256x128 .f32) (x6 x7 : Vec Ideal S1x128 .f32)
    (arg7 : Memref sig .tc .vmem S3x256x128 .f32) (harg7 : arg7.IsWhole) (arg8 : Memref sig .tc .vmem S1x128 .f32) (harg8 : arg8.IsWhole)
    (arg9 : Memref sig .tc .vmem S1x128 .f32) (harg9 : arg9.IsWhole) (h7 h8 h9) (d : Vec Ideal S256x128 .f32) :
    k0_pay1 (F := Ideal) (k0_pay13 (F := Ideal) (arg7.view.readAt (Elt Ideal) (Rect.unit (s := S3x256x128) ![2, 0, 0] S1x256x128.size h7).toLoadRect (harg7.unread x5)) (arg8.view.readAt (Elt Ideal) (Rect.unit (s := S1x128) ![0, 0] S1x128.size h8).toLoadRect (harg8.unread x6)) (arg9.view.readAt (Elt Ideal) (Rect.unit (s := S1x128) ![0, 0] S1x128.size h9).toLoadRect (harg9.unread x7))) d
      = maxV d (linT x5 x6 x7 2) := by
  rw [pay1_eq, pay13_eq, View.readAt_eq_ld, View.readAt_eq_ld, View.readAt_eq_ld, harg7.read_unread, harg8.read_unread, harg9.read_unread,
    View.ld_unit_lit', View.ld_unit_lit']
  · exact congrArg (fun z => maxV d (tokV z x6 x7)) (linZ_ld x5 2 _)
  all_goals decide

theorem readCov_whole2 (arg15 : Memref sig .tc .vmem S256x128 .f32)
    (h h' : ∀ a, (![0, 0] : Fin 2 → Nat) a + (![256, 128] : Fin 2 → Nat) a ≤ S256x128.size a) (V : Vec Ideal S256x128 .f32)
    (L : List (View.Piece (Elt Ideal) S256x128 .f32)) :
    arg15.view.readCov (⟨Rect.unit (s := S256x128) ![0, 0] ![256, 128] h, V⟩ :: L) (Rect.unit (s := S256x128) ![0, 0] ![256, 128] h').toLoadRect = V :=
  View.readCov_cons_toLoadRect _ _ _ _

end Cert.Value
-- ==== Proof.ValueSpec.lean ====
/- The problem's mathematics on the whole arrays, and the claim carried from step to step. -/
module

public import proofs.«01_k».proof.Proof.ValueRows

@[expose] public section

set_option maxRecDepth 16384

noncomputable section

namespace Cert.Value

open Idealize.ShloMosaic Cert.KernelIdeal Cert.KernelIdeal.Gen

/-- The argument arrays: quantised samples, weights, scale bytes, bias, residuals, linear tokens, and the layer norm's scale and shift. -/
structure Args where
  hq : Vec Ideal S4096x3584 .bf16
  w : Vec Ideal S3584x12800 .fp8e4m3
  s : Vec Ideal S112x12800 .i8
  b2 : Vec Ideal S1x12800 .f32
  rg : Vec Ideal S100x4096x128 .f32
  zl : Vec Ideal S60x4096x128 .f32
  g : Vec Ideal S1x128 .f32
  b : Vec Ideal S1x128 .f32

variable (a : Args)

/-- A product token of a sample before the layer norm. -/
def mmG (r : Fin 4096) (q : Fin 12800) : EReal :=
  ∑ x : Fin 3584, a.hq (ix2 r x) * (a.w (ix2 x q) * pow2 (a.s (ix2 ⟨x.val / 32, by omega⟩ q))) + a.b2 (ix2 0 q)

/-- A token of a sample before the layer norm: a product token with its residual, or a linear token. -/
def zG (r : Fin 4096) (s : Fin 160) (k : Fin 128) : EReal :=
  if h : s.val < 100 then mmG a r ⟨s.val * 128 + k.val, by omega⟩ + a.rg (ix3 ⟨s.val, h⟩ r k)
  else a.zl (ix3 ⟨s.val - 100, by omega⟩ r k)

/-- A token of a sample after the layer norm. -/
def yG (r : Fin 4096) (s : Fin 160) (k : Fin 128) : EReal :=
  lnR (zG a r s) (fun k => a.g (ix2 0 k)) (fun k => a.b (ix2 0 k)) k

/-- The magnitude of a value. -/
def mag (x : EReal) : EReal := FloatOps.absf (F := Ideal) (φ := .f32) x

/-- The largest magnitude of a sample. -/
def amaxG (r : Fin 4096) : EReal := Finset.univ.sup fun p : Fin 160 × Fin 128 => mag (yG a r p.1 p.2)

/-- The codes. -/
def codesG : Vec Ideal S4096x160x128 .fp8e4m3 := fun y =>
  codeOf (yG a ⟨(y 0).val, (y 0).isLt⟩ ⟨(y 1).val, (y 1).isLt⟩ ⟨(y 2).val, (y 2).isLt⟩) (scaleOf (amaxG a ⟨(y 0).val, (y 0).isLt⟩))

/-- The scales, in blocks of 256 samples. -/
def scalesG : Vec Ideal S16x1x256 .f32 := fun y =>
  scaleOf (amaxG a ⟨256 * (y 0).val + (y 2).val, by
    have h0 : (y 0).val < 16 := (y 0).isLt
    have h2 : (y 2).val < 256 := (y 2).isLt
    omega⟩)

theorem mag_nonneg (x : EReal) : 0 ≤ mag x := by
  show 0 ≤ max x (-x)
  rcases le_total 0 x with h | h
  · exact le_max_of_le_left h
  · exact le_max_of_le_right (EReal.neg_nonneg.mpr h)

theorem amaxG_le (r : Fin 4096) (x : EReal) : amaxG a r ≤ x ↔ ∀ s k, mag (yG a r s k) ≤ x := by
  unfold amaxG
  rw [Finset.sup_le_iff]
  exact ⟨fun h s k => h (s, k) (Finset.mem_univ _), fun h p _ => h p.1 p.2⟩

/-- Row `r` of block `i`. -/
def row (i : Fin 16) (r : Fin 256) : Fin 4096 := ⟨256 * i.val + r.val, by omega⟩

/-- The slots `P` of the token buffer hold block `i`'s tokens, and the running maximum is theirs (told by its upper bounds). -/
structure Filled (P : Fin 160 → Prop) (i : Fin 16) (Y : Vec Ideal S41600x128 .f32) (A : Vec Ideal S256x128 .f32) : Prop where
  tok : ∀ s, P s → ∀ (r : Fin 256) (k : Fin 128), Y (ix2 ⟨260 * s.val + r.val, by omega⟩ k) = yG a (row i r) s k
  bnd : ∀ (r : Fin 256) (k : Fin 128) (x : EReal), A (ix2 r k) ≤ x ↔ 0 ≤ x ∧ ∀ s, P s → mag (yG a (row i r) s k) ≤ x

theorem Filled.zero (i : Fin 16) (Y : Vec Ideal S41600x128 .f32) : Filled a (fun _ => False) i Y (fun _ => (0 : EReal)) :=
  ⟨fun _ h => h.elim, fun _ _ _ => ⟨fun h => ⟨h, fun _ h => h.elim⟩, fun h => h.1⟩⟩

theorem Filled.put {a : Args} {P : Fin 160 → Prop} {i : Fin 16} {Y : Vec Ideal S41600x128 .f32} {A : Vec Ideal S256x128 .f32}
    (h : Filled a P i Y A) (s : Fin 160) (o : ℕ) (ho : o = 260 * s.val) (V : Vec Ideal S256x128 .f32)
    (hV : ∀ (r : Fin 256) (k : Fin 128), V (ix2 r k) = yG a (row i r) s k) :
    Filled a (fun s' => P s' ∨ s' = s) i (putRows Y o V) (maxV A V) := by
  subst ho
  refine ⟨fun s' hs' r k => ?_, fun r k x => ?_⟩
  · by_cases e : s' = s
    · subst e
      rw [putRows_hit Y _ V _ k _ r rfl]
      exact hV r k
    · rw [putRows_miss Y _ V _ k _ (by
        have : s'.val ≠ s.val := fun h => e (Fin.ext h)
        omega)]
      exact h.tok s' (hs'.resolve_right e) r k
  · show max (A (ix2 r k)) (mag (V (ix2 r k))) ≤ x ↔ _
    rw [max_le_iff, h.bnd r k x, hV r k]
    constructor
    · rintro ⟨⟨h0, h1⟩, h2⟩
      refine ⟨h0, fun s' hs' => ?_⟩
      rcases hs' with hs' | rfl
      · exact h1 s' hs'
      · exact h2
    · rintro ⟨h0, h1⟩
      exact ⟨⟨h0, fun s' hs' => h1 s' (Or.inl hs')⟩, h1 s (Or.inr rfl)⟩

theorem Filled.congr {a : Args} {P Q : Fin 160 → Prop} {i : Fin 16} {Y : Vec Ideal S41600x128 .f32} {A : Vec Ideal S256x128 .f32}
    (h : Filled a P i Y A) (hPQ : ∀ s, P s ↔ Q s) : Filled a Q i Y A := by
  obtain rfl : P = Q := funext fun s => propext (hPQ s)
  exact h

/-- The slots filled after the first `j` steps of a block. -/
def slots (j : ℕ) (s : Fin 160) : Prop := s.val < 4 * j ∧ s.val < 100 ∨ 100 ≤ s.val ∧ s.val < 100 + 3 * min j 20

/-- When every slot is filled, a lane maximum of the running maximum is the sample's. -/
theorem Filled.amax {a : Args} {i : Fin 16} {Y : Vec Ideal S41600x128 .f32} {A : Vec Ideal S256x128 .f32}
    (h : Filled a (slots 25) i Y A) (r : Fin 256) :
    Finset.fold max (Ideal.ofBits .f32 0xFF800000#32) (fun x => A (ix2 r x)) (Finset.univ : Finset (Fin 128)) = amaxG a (row i r) := by
  refine le_antisymm ?_ ?_
  · rw [Finset.fold_max_le]
    refine ⟨by rw [ofBits_ninf]; exact bot_le, fun k _ => ?_⟩
    have hb := (amaxG_le a (row i r) _).mp le_rfl
    exact (h.bnd r k _).mpr ⟨le_trans (mag_nonneg _) (hb 0 0), fun s _ => hb s k⟩
  · rw [amaxG_le]
    intro s k
    have hle : A (ix2 r k) ≤ Finset.fold max (Ideal.ofBits .f32 0xFF800000#32) (fun x => A (ix2 r x)) (Finset.univ : Finset (Fin 128)) :=
      (Finset.le_fold_max (f := fun x => A (ix2 r x)) _).mpr (Or.inr ⟨k, Finset.mem_univ k, le_rfl⟩)
    exact ((h.bnd r k _).mp hle).2 s (by unfold slots; omega)

theorem pay3_apply (A : Vec Ideal S256x128 .f32) (r : Fin 256) (k : Fin 128) :
    k0_pay3 (F := Ideal) A (ix2 r k)
      = scaleOf (Finset.fold max (Ideal.ofBits .f32 0xFF800000#32) (fun x => A (ix2 r x)) (Finset.univ : Finset (Fin 128))) := by
  pointwise [k0_pay3, k0_pay2]
  rfl

theorem pay4_apply (A : Vec Ideal S256x128 .f32) (r : Fin 256) :
    k0_pay4 (F := Ideal) A (ix3 0 0 r)
      = scaleOf (Finset.fold max (Ideal.ofBits .f32 0xFF800000#32) (fun x => A (ix2 r x)) (Finset.univ : Finset (Fin 128))) := by
  pointwise [k0_pay4, k0_pay2]
  rfl

end Cert.Value
-- ==== Proof.ValueBlocks.lean ====
/- The blocks that the windows cut from the arrays, place by place, and the offsets of a step's stores. -/
module

public import proofs.«01_k».proof.Proof.ValueSpec
public import proofs.«01_k».proof.Proof.Gen.KernelIdeal.Frame

@[expose] public section

set_option maxRecDepth 16384

noncomputable section

namespace Cert.Value

open Idealize.ShloMosaic Idealize.ShloMosaic.TcCoe Cert.KernelIdeal Cert.KernelIdeal.Gen

variable (m : (ℓ : Loc nD τ sig) → Buf (Elt Ideal) ℓ) (c : Dev nD)

/-- The argument arrays of a core, as the memory holds them. -/
def argsOf : Args where
  hq := m ((c : Thread nD τ).loc main_arg0)
  w := m ((c : Thread nD τ).loc main_arg1)
  s := m ((c : Thread nD τ).loc main_arg2)
  b2 := m ((c : Thread nD τ).loc main_arg3)
  rg := m ((c : Thread nD τ).loc main_arg4)
  zl := m ((c : Thread nD τ).loc main_arg5)
  g := m ((c : Thread nD τ).loc main_arg6)
  b := m ((c : Thread nD τ).loc main_arg7)

theorem idx0 : ∀ t : Fin cfg0.N, win0_0.index t = ![t.val / 25, 0] := by decide +kernel
theorem idx1 : ∀ t : Fin cfg0.N, win0_1.index t = ![0, t.val % 25] := by decide +kernel
theorem idx2 : ∀ t : Fin cfg0.N, win0_2.index t = ![0, t.val % 25] := by decide +kernel
theorem idx3 : ∀ t : Fin cfg0.N, win0_3.index t = ![0, t.val % 25] := by decide +kernel
theorem idx4 : ∀ t : Fin cfg0.N, win0_4.index t = ![t.val % 25, t.val / 25, 0] := by decide +kernel
theorem idx5 : ∀ t : Fin cfg0.N, win0_5.index t = ![min (t.val % 25) 19, t.val / 25, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val / 25, 0, 0] := by decide +kernel
theorem idx9 : ∀ t : Fin cfg0.N, win0_9.index t = ![t.val / 25, 0, 0] := by decide +kernel

theorem off3_0 : ∀ t : Fin cfg0.N, k0_off3 (grid0.coords t) 0#32 0 = 260 * (4 * (t.val % 25)) := by decide +kernel
theorem off3_1 : ∀ t : Fin cfg0.N, k0_off3 (grid0.coords t) 1#32 0 = 260 * (4 * (t.val % 25) + 1) := by decide +kernel
theorem off3_2 : ∀ t : Fin cfg0.N, k0_off3 (grid0.coords t) 2#32 0 = 260 * (4 * (t.val % 25) + 2) := by decide +kernel
theorem off3_3 : ∀ t : Fin cfg0.N, k0_off3 (grid0.coords t) 3#32 0 = 260 * (4 * (t.val % 25) + 3) := by decide +kernel
theorem off4_0 : ∀ t : Fin cfg0.N, k0_off4 (grid0.coords t) 0#32 0 = 260 * (100 + 3 * (t.val % 25)) := by decide +kernel
theorem off4_1 : ∀ t : Fin cfg0.N, k0_off4 (grid0.coords t) 1#32 0 = 260 * (100 + 3 * (t.val % 25) + 1) := by decide +kernel
theorem off4_2 : ∀ t : Fin cfg0.N, k0_off4 (grid0.coords t) 2#32 0 = 260 * (100 + 3 * (t.val % 25) + 2) := by decide +kernel

theorem N_eq : cfg0.N = 400 := by decide +kernel

variable (t : Fin cfg0.N) (i : Fin 16) (j : ℕ) (hj : j < 25) (ht : t.val = 25 * i.val + j)

include hj ht in
theorem blk0 (r : Fin 256) (x : Fin 3584) :
    (iblk m c 0 t : Vec Ideal S256x3584 .bf16) (ix2 r x) = (argsOf m c).hq (ix2 (row i r) x) := by
  unfold argsOf row
  have e := idx0 t
  have e1 : t.val / 25 = i.val := by omega
  blk_ext [iblk, V, e, e1]

include hj ht in
theorem blk1 (x : Fin 3584) (q : Fin 512) :
    (iblk m c 1 t : Vec Ideal S3584x512 .fp8e4m3) (ix2 x q) = (argsOf m c).w (ix2 x ⟨512 * j + q.val, by omega⟩) := by
  unfold argsOf
  have e := idx1 t
  have e1 : t.val % 25 = j := by omega
  blk_ext [iblk, V, e, e1]

include hj ht in
theorem blk2 (x : Fin 112) (q : Fin 512) :
    (iblk m c 2 t : Vec Ideal S112x512 .i8) (ix2 x q) = (argsOf m c).s (ix2 x ⟨512 * j + q.val, by omega⟩) := by
  unfold argsOf
  have e := idx2 t
  have e1 : t.val % 25 = j := by omega
  blk_ext [iblk, V, e, e1]

include hj ht in
theorem blk3 (q : Fin 512) :
    (iblk m c 3 t : Vec Ideal S1x512 .f32) (ix2 0 q) = (argsOf m c).b2 (ix2 0 ⟨512 * j + q.val, by omega⟩) := by
  unfold argsOf
  have e := idx3 t
  have e1 : t.val % 25 = j := by omega
  blk_ext [iblk, V, e, e1]

include hj ht in
theorem blk4 (u : Fin 4) (r : Fin 256) (k : Fin 128) :
    (iblk m c 4 t : Vec Ideal S4x256x128 .f32) (ix3 u r k) = (argsOf m c).rg (ix3 ⟨4 * j + u.val, by omega⟩ (row i r) k) := by
  unfold argsOf row
  have e := idx4 t
  have e1 : t.val % 25 = j := by omega
  have e2 : t.val / 25 = i.val := by omega
  blk_ext [iblk, V, e, e1, e2]

include hj ht in
theorem blk5 (hj' : j ≤ 19) (u : Fin 3) (r : Fin 256) (k : Fin 128) :
    (iblk m c 5 t : Vec Ideal S3x256x128 .f32) (ix3 u r k) = (argsOf m c).zl (ix3 ⟨3 * j + u.val, by omega⟩ (row i r) k) := by
  unfold argsOf row
  have e := idx5 t
  have e1 : min (t.val % 25) 19 = j := by omega
  have e2 : t.val / 25 = i.val := by omega
  blk_ext [iblk, V, e, e1, e2]

theorem blk6 (k : Fin 128) : (iblk m c 6 t : Vec Ideal S1x128 .f32) (ix2 0 k) = (argsOf m c).g (ix2 0 k) := by
  unfold argsOf
  have e := idx6 t
  blk_ext [iblk, V, e]

theorem blk7 (k : Fin 128) : (iblk m c 7 t : Vec Ideal S1x128 .f32) (ix2 0 k) = (argsOf m c).b (ix2 0 k) := by
  unfold argsOf
  have e := idx7 t
  blk_ext [iblk, V, e]

include hj ht in
/-- A product token of a step is the reference's token. -/
theorem mmT_blk (u : Fin 4) (r : Fin 256) (k : Fin 128) :
    mmT (iblk m c 0 t) (iblk m c 1 t) (iblk m c 2 t) (iblk m c 3 t) (iblk m c 4 t) (iblk m c 6 t) (iblk m c 7 t) u (ix2 r k)
      = yG (argsOf m c) (row i r) ⟨4 * j + u.val, by omega⟩ k := by
  have hz : (fun k : Fin 128 => dotZ (iblk m c 0 t) (wblk (iblk m c 1 t) (iblk m c 2 t)) (iblk m c 3 t) r ⟨128 * u.val + k.val, by omega⟩
        + (iblk m c 4 t : Vec Ideal S4x256x128 .f32) (ix3 u r k)) = zG (argsOf m c) (row i r) ⟨4 * j + u.val, by omega⟩ := by
    funext k
    unfold zG dotZ mmG
    rw [dif_pos (show 4 * j + u.val < 100 by omega), blk4 m c t i j hj ht, blk3 m c t i j hj ht]
    have eq : (⟨512 * j + (128 * u.val + k.val), by omega⟩ : Fin 12800) = ⟨(4 * j + u.val) * 128 + k.val, by omega⟩ := Fin.ext (by
      show 512 * j + (128 * u.val + k.val) = (4 * j + u.val) * 128 + k.val
      omega)
    congr 2
    · refine Finset.sum_congr rfl fun x _ => ?_
      rw [blk0 m c t i j hj ht]
      congr 1
      show _ * pow2 ((iblk m c 2 t : Vec Ideal S112x512 .i8) (ix2 ⟨x.val / 32, _⟩ ⟨128 * u.val + k.val, _⟩)) = _
      rw [blk1 m c t i j hj ht, blk2 m c t i j hj ht]
      show (argsOf m c).w (ix2 x (⟨512 * j + (128 * u.val + k.val), _⟩ : Fin 12800)) * pow2 ((argsOf m c).s (ix2 _ (⟨512 * j + (128 * u.val + k.val), _⟩ : Fin 12800))) = _
      rw [eq]
    · show (argsOf m c).b2 (ix2 0 (⟨512 * j + (128 * u.val + k.val), _⟩ : Fin 12800)) = _
      rw [eq]
  unfold mmT yG
  rw [tokV_apply]
  simp only [blk6, blk7]
  rw [← hz]

include hj ht in
/-- A linear token of a step is the reference's token. -/
theorem linT_blk (hj' : j ≤ 19) (u : Fin 3) (r : Fin 256) (k : Fin 128) :
    linT (iblk m c 5 t) (iblk m c 6 t) (iblk m c 7 t) u (ix2 r k) = yG (argsOf m c) (row i r) ⟨100 + 3 * j + u.val, by omega⟩ k := by
  have hz : (fun k : Fin 128 => (iblk m c 5 t : Vec Ideal S3x256x128 .f32) (ix3 u r k)) = zG (argsOf m c) (row i r) ⟨100 + 3 * j + u.val, by omega⟩ := by
    funext k
    unfold zG
    rw [dif_neg (show ¬ 100 + 3 * j + u.val < 100 by omega), blk5 m c t i j hj ht hj']
    congr 2
    exact Fin.ext (by show 3 * j + u.val = 100 + 3 * j + u.val - 100; omega)
  unfold linT yG
  rw [tokV_apply]
  simp only [blk6, blk7]
  rw [← hz]

end Cert.Value
-- ==== Proof.ValueRunA.lean ====
/- First step: what it leaves in the token buffer and in the running maximum. -/
module

public import proofs.«01_k».proof.Proof.ValueRows
public import proofs.«01_k».proof.Proof.BodyIdealA

@[expose] public section

set_option maxRecDepth 16384

noncomputable section

namespace Cert.Value

open Idealize.ShloMosaic Cert.KernelIdeal Cert.KernelIdeal.Gen Cert.KernelIdeal.Body

theorem runA_Y (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : cond0_0 i) (hc1 : cond0_1 i) (hc2 : ¬cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) :
    arg14.view.read (Elt Ideal) (arg14.view.writes (Elt Ideal) (harg14.unread xs2) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.1)
      = (putRows (putRows (putRows (putRows (putRows (putRows (putRows xs2 (k0_off3 i 0#32 0) (mmT x0 x1 x2 x3 x4 x6 x7 0)) (k0_off3 i 1#32 0) (mmT x0 x1 x2 x3 x4 x6 x7 1)) (k0_off3 i 2#32 0) (mmT x0 x1 x2 x3 x4 x6 x7 2)) (k0_off3 i 3#32 0) (mmT x0 x1 x2 x3 x4 x6 x7 3)) (k0_off4 i 0#32 0) (linT x5 x6 x7 0)) (k0_off4 i 1#32 0) (linT x5 x6 x7 1)) (k0_off4 i 2#32 0) (linT x5 x6 x7 2)) := by
  have hX : arg13.view.read (Elt Ideal) (arg13.view.writes (Elt Ideal) arg13.view.junk (kernelRun0_A.sl.HS1_1 (F := Ideal) c arg4 harg4 x2)) = k0_pay16 (F := Ideal) x2 := by
    unfold kernelRun0_A.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_A
  dsimp only
  refine (read_writes_rows arg14 _ _ _ rfl _ _).trans ?_
  refine congrArg₂ (fun Y V => putRows Y _ V) ?_ ?tok6
  refine (read_writes_rows arg14 _ _ _ rfl _ _).trans ?_
  refine congrArg₂ (fun Y V => putRows Y _ V) ?_ ?tok5
  refine (read_writes_rows arg14 _ _ _ rfl _ _).trans ?_
  refine congrArg₂ (fun Y V => putRows Y _ V) ?_ ?tok4
  refine (read_writes_rows arg14 _ _ _ rfl _ _).trans ?_
  refine congrArg₂ (fun Y V => putRows Y _ V) ?_ ?tok3
  refine (read_writes_rows arg14 _ _ _ rfl _ _).trans ?_
  refine congrArg₂ (fun Y V => putRows Y _ V) ?_ ?tok2
  refine (read_writes_rows arg14 _ _ _ rfl _ _).trans ?_
  refine congrArg₂ (fun Y V => putRows Y _ V) ?_ ?tok1
  refine (read_writes_rows arg14 _ _ _ rfl _ _).trans ?_
  refine congrArg₂ (fun Y V => putRows Y _ V) ?_ ?tok0
  · exact harg14.read_unread _
  case tok0 =>
    unfold kernelRun0_A.sl.r_1 kernelRun0_A.sl.r_2
    rw [hW]
    exact tok0_eq x0 x1 x2 x3 x4 x6 x7 arg2 harg2 arg5 harg5 arg6 harg6 arg8 harg8 arg9 harg9 _ _ _ _ _
  case tok1 =>
    unfold kernelRun0_A.sl.r_3 kernelRun0_A.sl.r
    rw [hW]
    exact tok1_eq x0 x1 x2 x3 x4 x6 x7 arg2 harg2 arg5 harg5 arg6 harg6 arg8 harg8 arg9 harg9 _ _ _ _ _
  case tok2 =>
    unfold kernelRun0_A.sl.r_4 kernelRun0_A.sl.r
    rw [hW]
    exact tok2_eq x0 x1 x2 x3 x4 x6 x7 arg2 harg2 arg5 harg5 arg6 harg6 arg8 harg8 arg9 harg9 _ _ _ _ _
  case tok3 =>
    unfold kernelRun0_A.sl.r_5 kernelRun0_A.sl.r
    rw [hW]
    exact tok3_eq x0 x1 x2 x3 x4 x6 x7 arg2 harg2 arg5 harg5 arg6 harg6 arg8 harg8 arg9 harg9 _ _ _ _ _
  case tok4 =>
    exact lin0_eq x5 x6 x7 arg7 harg7 arg8 harg8 arg9 harg9 _ _ _
  case tok5 =>
    exact lin1_eq x5 x6 x7 arg7 harg7 arg8 harg8 arg9 harg9 _ _ _
  case tok6 =>
    unfold kernelRun0_A.sl.r_9
    exact lin2_eq x5 x6 x7 arg7 harg7 arg8 harg8 arg9 harg9 _ _ _

theorem runA_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : cond0_0 i) (hc1 : cond0_1 i) (hc2 : ¬cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) (f : BufTy.Contents (Elt Ideal) arg15.view.ty) :
    arg15.view.read (Elt Ideal) (arg15.view.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.2)
      = (maxV (maxV (maxV (maxV (maxV (maxV (maxV (fun _ => (0 : EReal)) (mmT x0 x1 x2 x3 x4 x6 x7 0)) (mmT x0 x1 x2 x3 x4 x6 x7 1)) (mmT x0 x1 x2 x3 x4 x6 x7 2)) (mmT x0 x1 x2 x3 x4 x6 x7 3)) (linT x5 x6 x7 0)) (linT x5 x6 x7 1)) (linT x5 x6 x7 2)) := by
  have hX : arg13.view.read (Elt Ideal) (arg13.view.writes (Elt Ideal) arg13.view.junk (kernelRun0_A.sl.HS1_1 (F := Ideal) c arg4 harg4 x2)) = k0_pay16 (F := Ideal) x2 := by
    unfold kernelRun0_A.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_A
  dsimp only
  refine (read_writes_whole2 arg15 _ _ _ _).trans ?_
  unfold kernelRun0_A.sl.r_8
  refine (mxl2_eq x5 x6 x7 arg7 harg7 arg8 harg8 arg9 harg9 _ _ _ _).trans ?_
  refine congrArg (fun d => maxV d _) ?_
  unfold kernelRun0_A.sl.v304 kernelRun0_A.sl.HS3_7
  refine (readCov_whole2 arg15 _ _ _ _).trans ?_
  unfold kernelRun0_A.sl.r_7
  refine (mxl1_eq x5 x6 x7 arg7 harg7 arg8 harg8 arg9 harg9 _ _ _ _).trans ?_
  refine congrArg (fun d => maxV d _) ?_
  unfold kernelRun0_A.sl.v264 kernelRun0_A.sl.HS3_6
  refine (readCov_whole2 arg15 _ _ _ _).trans ?_
  unfold kernelRun0_A.sl.r_6
  refine (mxl0_eq x5 x6 x7 arg7 harg7 arg8 harg8 arg9 harg9 _ _ _ _).trans ?_
  refine congrArg (fun d => maxV d _) ?_
  unfold kernelRun0_A.sl.v224 kernelRun0_A.sl.HS3_5
  refine (readCov_whole2 arg15 _ _ _ _).trans ?_
  unfold kernelRun0_A.sl.r_5 kernelRun0_A.sl.r
  rw [hW]
  refine (mx3_eq x0 x1 x2 x3 x4 x6 x7 arg2 harg2 arg5 harg5 arg6 harg6 arg8 harg8 arg9 harg9 _ _ _ _ _ _).trans ?_
  refine congrArg (fun d => maxV d _) ?_
  unfold kernelRun0_A.sl.v178 kernelRun0_A.sl.HS3_4
  refine (readCov_whole2 arg15 _ _ _ _).trans ?_
  unfold kernelRun0_A.sl.r_4 kernelRun0_A.sl.r
  rw [hW]
  refine (mx2_eq x0 x1 x2 x3 x4 x6 x7 arg2 harg2 arg5 harg5 arg6 harg6 arg8 harg8 arg9 harg9 _ _ _ _ _ _).trans ?_
  refine congrArg (fun d => maxV d _) ?_
  unfold kernelRun0_A.sl.v137 kernelRun0_A.sl.HS3_3
  refine (readCov_whole2 arg15 _ _ _ _).trans ?_
  unfold kernelRun0_A.sl.r_3 kernelRun0_A.sl.r
  rw [hW]
  refine (mx1_eq x0 x1 x2 x3 x4 x6 x7 arg2 harg2 arg5 harg5 arg6 harg6 arg8 harg8 arg9 harg9 _ _ _ _ _ _).trans ?_
  refine congrArg (fun d => maxV d _) ?_
  unfold kernelRun0_A.sl.v96 kernelRun0_A.sl.HS3_2
  refine (readCov_whole2 arg15 _ _ _ _).trans ?_
  unfold kernelRun0_A.sl.r_1 kernelRun0_A.sl.r_2
  rw [hW]
  refine (mx0_eq x0 x1 x2 x3 x4 x6 x7 arg2 harg2 arg5 harg5 arg6 harg6 arg8 harg8 arg9 harg9 _ _ _ _ _ _).trans ?_
  refine congrArg (fun d => maxV d _) ?_
  unfold kernelRun0_A.sl.v55 kernelRun0_A.sl.HS3_1
  refine (readCov_whole2 arg15 _ _ _ _).trans ?_
  exact pay15_eq

end Cert.Value
-- ==== Proof.ValueRunB.lean ====
/- A later step with linear tokens: what it leaves in the token buffer and in the running maximum. -/
module

public import proofs.«01_k».proof.Proof.ValueRows
public import proofs.«01_k».proof.Proof.BodyIdealB

@[expose] public section

set_option maxRecDepth 16384

noncomputable section

namespace Cert.Value

open Idealize.ShloMosaic Cert.KernelIdeal Cert.KernelIdeal.Gen Cert.KernelIdeal.Body

theorem runB_Y (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : cond0_1 i) (hc2 : ¬cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) :
    arg14.view.read (Elt Ideal) (arg14.view.writes (Elt Ideal) (harg14.unread xs2) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.1)
      = (putRows (putRows (putRows (putRows (putRows (putRows (putRows xs2 (k0_off3 i 0#32 0) (mmT x0 x1 x2 x3 x4 x6 x7 0)) (k0_off3 i 1#32 0) (mmT x0 x1 x2 x3 x4 x6 x7 1)) (k0_off3 i 2#32 0) (mmT x0 x1 x2 x3 x4 x6 x7 2)) (k0_off3 i 3#32 0) (mmT x0 x1 x2 x3 x4 x6 x7 3)) (k0_off4 i 0#32 0) (linT x5 x6 x7 0)) (k0_off4 i 1#32 0) (linT x5 x6 x7 1)) (k0_off4 i 2#32 0) (linT x5 x6 x7 2)) := by
  have hX : arg13.view.read (Elt Ideal) (arg13.view.writes (Elt Ideal) arg13.view.junk (kernelRun0_B.sl.HS1_1 (F := Ideal) c arg4 harg4 x2)) = k0_pay16 (F := Ideal) x2 := by
    unfold kernelRun0_B.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_B
  dsimp only
  refine (read_writes_rows arg14 _ _ _ rfl _ _).trans ?_
  refine congrArg₂ (fun Y V => putRows Y _ V) ?_ ?tok6
  refine (read_writes_rows arg14 _ _ _ rfl _ _).trans ?_
  refine congrArg₂ (fun Y V => putRows Y _ V) ?_ ?tok5
  refine (read_writes_rows arg14 _ _ _ rfl _ _).trans ?_
  refine congrArg₂ (fun Y V => putRows Y _ V) ?_ ?tok4
  refine (read_writes_rows arg14 _ _ _ rfl _ _).trans ?_
  refine congrArg₂ (fun Y V => putRows Y _ V) ?_ ?tok3
  refine (read_writes_rows arg14 _ _ _ rfl _ _).trans ?_
  refine congrArg₂ (fun Y V => putRows Y _ V) ?_ ?tok2
  refine (read_writes_rows arg14 _ _ _ rfl _ _).trans ?_
  refine congrArg₂ (fun Y V => putRows Y _ V) ?_ ?tok1
  refine (read_writes_rows arg14 _ _ _ rfl _ _).trans ?_
  refine congrArg₂ (fun Y V => putRows Y _ V) ?_ ?tok0
  · exact harg14.read_unread _
  case tok0 =>
    unfold kernelRun0_B.sl.r_1 kernelRun0_B.sl.r_2
    rw [hW]
    exact tok0_eq x0 x1 x2 x3 x4 x6 x7 arg2 harg2 arg5 harg5 arg6 harg6 arg8 harg8 arg9 harg9 _ _ _ _ _
  case tok1 =>
    unfold kernelRun0_B.sl.r_3 kernelRun0_B.sl.r
    rw [hW]
    exact tok1_eq x0 x1 x2 x3 x4 x6 x7 arg2 harg2 arg5 harg5 arg6 harg6 arg8 harg8 arg9 harg9 _ _ _ _ _
  case tok2 =>
    unfold kernelRun0_B.sl.r_4 kernelRun0_B.sl.r
    rw [hW]
    exact tok2_eq x0 x1 x2 x3 x4 x6 x7 arg2 harg2 arg5 harg5 arg6 harg6 arg8 harg8 arg9 harg9 _ _ _ _ _
  case tok3 =>
    unfold kernelRun0_B.sl.r_5 kernelRun0_B.sl.r
    rw [hW]
    exact tok3_eq x0 x1 x2 x3 x4 x6 x7 arg2 harg2 arg5 harg5 arg6 harg6 arg8 harg8 arg9 harg9 _ _ _ _ _
  case tok4 =>
    exact lin0_eq x5 x6 x7 arg7 harg7 arg8 harg8 arg9 harg9 _ _ _
  case tok5 =>
    exact lin1_eq x5 x6 x7 arg7 harg7 arg8 harg8 arg9 harg9 _ _ _
  case tok6 =>
    unfold kernelRun0_B.sl.r_9
    exact lin2_eq x5 x6 x7 arg7 harg7 arg8 harg8 arg9 harg9 _ _ _

theorem runB_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : cond0_1 i) (hc2 : ¬cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) (f : BufTy.Contents (Elt Ideal) arg15.view.ty) :
    arg15.view.read (Elt Ideal) (arg15.view.writes (Elt Ideal) f (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.2)
      = (maxV (maxV (maxV (maxV (maxV (maxV (maxV xs3 (mmT x0 x1 x2 x3 x4 x6 x7 0)) (mmT x0 x1 x2 x3 x4 x6 x7 1)) (mmT x0 x1 x2 x3 x4 x6 x7 2)) (mmT x0 x1 x2 x3 x4 x6 x7 3)) (linT x5 x6 x7 0)) (linT x5 x6 x7 1)) (linT x5 x6 x7 2)) := by
  have hX : arg13.view.read (Elt Ideal) (arg13.view.writes (Elt Ideal) arg13.view.junk (kernelRun0_B.sl.HS1_1 (F := Ideal) c arg4 harg4 x2)) = k0_pay16 (F := Ideal) x2 := by
    unfold kernelRun0_B.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_B
  dsimp only
  refine (read_writes_whole2 arg15 _ _ _ _).trans ?_
  unfold kernelRun0_B.sl.r_8
  refine (mxl2_eq x5 x6 x7 arg7 harg7 arg8 harg8 arg9 harg9 _ _ _ _).trans ?_
  refine congrArg (fun d => maxV d _) ?_
  unfold kernelRun0_B.sl.v304 kernelRun0_B.sl.HS3_6
  refine (readCov_whole2 arg15 _ _ _ _).trans ?_
  unfold kernelRun0_B.sl.r_7
  refine (mxl1_eq x5 x6 x7 arg7 harg7 arg8 harg8 arg9 harg9 _ _ _ _).trans ?_
  refine congrArg (fun d => maxV d _) ?_
  unfold kernelRun0_B.sl.v264 kernelRun0_B.sl.HS3_5
  refine (readCov_whole2 arg15 _ _ _ _).trans ?_
  unfold kernelRun0_B.sl.r_6
  refine (mxl0_eq x5 x6 x7 arg7 harg7 arg8 harg8 arg9 harg9 _ _ _ _).trans ?_
  refine congrArg (fun d => maxV d _) ?_
  unfold kernelRun0_B.sl.v224 kernelRun0_B.sl.HS3_4
  refine (readCov_whole2 arg15 _ _ _ _).trans ?_
  unfold kernelRun0_B.sl.r_5 kernelRun0_B.sl.r
  rw [hW]
  refine (mx3_eq x0 x1 x2 x3 x4 x6 x7 arg2 harg2 arg5 harg5 arg6 harg6 arg8 harg8 arg9 harg9 _ _ _ _ _ _).trans ?_
  refine congrArg (fun d => maxV d _) ?_
  unfold kernelRun0_B.sl.v178 kernelRun0_B.sl.HS3_3
  refine (readCov_whole2 arg15 _ _ _ _).trans ?_
  unfold kernelRun0_B.sl.r_4 kernelRun0_B.sl.r
  rw [hW]
  refine (mx2_eq x0 x1 x2 x3 x4 x6 x7 arg2 harg2 arg5 harg5 arg6 harg6 arg8 harg8 arg9 harg9 _ _ _ _ _ _).trans ?_
  refine congrArg (fun d => maxV d _) ?_
  unfold kernelRun0_B.sl.v137 kernelRun0_B.sl.HS3_2
  refine (readCov_whole2 arg15 _ _ _ _).trans ?_
  unfold kernelRun0_B.sl.r_3 kernelRun0_B.sl.r
  rw [hW]
  refine (mx1_eq x0 x1 x2 x3 x4 x6 x7 arg2 harg2 arg5 harg5 arg6 harg6 arg8 harg8 arg9 harg9 _ _ _ _ _ _).trans ?_
  refine congrArg (fun d => maxV d _) ?_
  unfold kernelRun0_B.sl.v96 kernelRun0_B.sl.HS3_1
  refine (readCov_whole2 arg15 _ _ _ _).trans ?_
  unfold kernelRun0_B.sl.r_1 kernelRun0_B.sl.r_2
  rw [hW]
  refine (mx0_eq x0 x1 x2 x3 x4 x6 x7 arg2 harg2 arg5 harg5 arg6 harg6 arg8 harg8 arg9 harg9 _ _ _ _ _ _).trans ?_
  refine congrArg (fun d => maxV d _) ?_
  rw [View.readAt_eq_ld, harg15.read_unread]
  exact View.ld_unit_lit' _ _ (by decide)

end Cert.Value
-- ==== Proof.ValueRunC.lean ====
/- A step without linear tokens: what it leaves in the token buffer and in the running maximum. -/
module

public import proofs.«01_k».proof.Proof.ValueRows
public import proofs.«01_k».proof.Proof.BodyIdealC

@[expose] public section

set_option maxRecDepth 16384

noncomputable section

namespace Cert.Value

open Idealize.ShloMosaic Cert.KernelIdeal Cert.KernelIdeal.Gen Cert.KernelIdeal.Body

theorem runC_Y (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : ¬cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) :
    arg14.view.read (Elt Ideal) (arg14.view.writes (Elt Ideal) (harg14.unread xs2) (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.1)
      = (putRows (putRows (putRows (putRows xs2 (k0_off3 i 0#32 0) (mmT x0 x1 x2 x3 x4 x6 x7 0)) (k0_off3 i 1#32 0) (mmT x0 x1 x2 x3 x4 x6 x7 1)) (k0_off3 i 2#32 0) (mmT x0 x1 x2 x3 x4 x6 x7 2)) (k0_off3 i 3#32 0) (mmT x0 x1 x2 x3 x4 x6 x7 3)) := by
  have hX : arg13.view.read (Elt Ideal) (arg13.view.writes (Elt Ideal) arg13.view.junk (kernelRun0_C.sl.HS1_1 (F := Ideal) c arg4 harg4 x2)) = k0_pay16 (F := Ideal) x2 := by
    unfold kernelRun0_C.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_C
  dsimp only
  refine (read_writes_rows arg14 _ _ _ rfl _ _).trans ?_
  refine congrArg₂ (fun Y V => putRows Y _ V) ?_ ?tok3
  refine (read_writes_rows arg14 _ _ _ rfl _ _).trans ?_
  refine congrArg₂ (fun Y V => putRows Y _ V) ?_ ?tok2
  refine (read_writes_rows arg14 _ _ _ rfl _ _).trans ?_
  refine congrArg₂ (fun Y V => putRows Y _ V) ?_ ?tok1
  refine (read_writes_rows arg14 _ _ _ rfl _ _).trans ?_
  refine congrArg₂ (fun Y V => putRows Y _ V) ?_ ?tok0
  · exact harg14.read_unread _
  case tok0 =>
    unfold kernelRun0_C.sl.r_1 kernelRun0_C.sl.r_2
    rw [hW]
    exact tok0_eq x0 x1 x2 x3 x4 x6 x7 arg2 harg2 arg5 harg5 arg6 harg6 arg8 harg8 arg9 harg9 _ _ _ _ _
  case tok1 =>
    unfold kernelRun0_C.sl.r_3 kernelRun0_C.sl.r
    rw [hW]
    exact tok1_eq x0 x1 x2 x3 x4 x6 x7 arg2 harg2 arg5 harg5 arg6 harg6 arg8 harg8 arg9 harg9 _ _ _ _ _
  case tok2 =>
    unfold kernelRun0_C.sl.r_4 kernelRun0_C.sl.r
    rw [hW]
    exact tok2_eq x0 x1 x2 x3 x4 x6 x7 arg2 harg2 arg5 harg5 arg6 harg6 arg8 harg8 arg9 harg9 _ _ _ _ _
  case tok3 =>
    unfold kernelRun0_C.sl.r_5 kernelRun0_C.sl.r
    rw [hW]
    exact tok3_eq x0 x1 x2 x3 x4 x6 x7 arg2 harg2 arg5 harg5 arg6 harg6 arg8 harg8 arg9 harg9 _ _ _ _ _

theorem runC_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : ¬cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) (f : BufTy.Contents (Elt Ideal) arg15.view.ty) :
    arg15.view.read (Elt Ideal) (arg15.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.2)
      = (maxV (maxV (maxV (maxV xs3 (mmT x0 x1 x2 x3 x4 x6 x7 0)) (mmT x0 x1 x2 x3 x4 x6 x7 1)) (mmT x0 x1 x2 x3 x4 x6 x7 2)) (mmT x0 x1 x2 x3 x4 x6 x7 3)) := by
  have hX : arg13.view.read (Elt Ideal) (arg13.view.writes (Elt Ideal) arg13.view.junk (kernelRun0_C.sl.HS1_1 (F := Ideal) c arg4 harg4 x2)) = k0_pay16 (F := Ideal) x2 := by
    unfold kernelRun0_C.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_C
  dsimp only
  refine (read_writes_whole2 arg15 _ _ _ _).trans ?_
  unfold kernelRun0_C.sl.r_5 kernelRun0_C.sl.r
  rw [hW]
  refine (mx3_eq x0 x1 x2 x3 x4 x6 x7 arg2 harg2 arg5 harg5 arg6 harg6 arg8 harg8 arg9 harg9 _ _ _ _ _ _).trans ?_
  refine congrArg (fun d => maxV d _) ?_
  unfold kernelRun0_C.sl.v178 kernelRun0_C.sl.HS3_3
  refine (readCov_whole2 arg15 _ _ _ _).trans ?_
  unfold kernelRun0_C.sl.r_4 kernelRun0_C.sl.r
  rw [hW]
  refine (mx2_eq x0 x1 x2 x3 x4 x6 x7 arg2 harg2 arg5 harg5 arg6 harg6 arg8 harg8 arg9 harg9 _ _ _ _ _ _).trans ?_
  refine congrArg (fun d => maxV d _) ?_
  unfold kernelRun0_C.sl.v137 kernelRun0_C.sl.HS3_2
  refine (readCov_whole2 arg15 _ _ _ _).trans ?_
  unfold kernelRun0_C.sl.r_3 kernelRun0_C.sl.r
  rw [hW]
  refine (mx1_eq x0 x1 x2 x3 x4 x6 x7 arg2 harg2 arg5 harg5 arg6 harg6 arg8 harg8 arg9 harg9 _ _ _ _ _ _).trans ?_
  refine congrArg (fun d => maxV d _) ?_
  unfold kernelRun0_C.sl.v96 kernelRun0_C.sl.HS3_1
  refine (readCov_whole2 arg15 _ _ _ _).trans ?_
  unfold kernelRun0_C.sl.r_1 kernelRun0_C.sl.r_2
  rw [hW]
  refine (mx0_eq x0 x1 x2 x3 x4 x6 x7 arg2 harg2 arg5 harg5 arg6 harg6 arg8 harg8 arg9 harg9 _ _ _ _ _ _).trans ?_
  refine congrArg (fun d => maxV d _) ?_
  rw [View.readAt_eq_ld, harg15.read_unread]
  exact View.ld_unit_lit' _ _ (by decide)

end Cert.Value
-- ==== Proof.ValueLoopQ.lean ====
/- The quantising loop: what it leaves in the block of codes. -/
module

public import proofs.«01_k».proof.Proof.ValueScalar
public import proofs.«01_k».proof.Proof.Gen.KernelIdeal.Loops
public import Idealize.ShloMosaic.Lib.Pipeline.ValueKit

@[expose] public section

set_option maxRecDepth 16384

noncomputable section

namespace Cert.Value

open Idealize.ShloMosaic Cert.KernelIdeal Cert.KernelIdeal.Gen Idealize.SL

/-- The codes of a block: row `260 s + r` of the token buffer under the scale of sample `r`. -/
def codesV (Y : Vec Ideal S41600x128 .f32) (S : Vec Ideal S256x128 .f32) : Vec Ideal S256x160x128 .fp8e4m3 :=
  fun y => codeOf (Y (ix2 ⟨260 * (y 1).val + (y 0).val, by
      have h0 : (y 0).val < 256 := (y 0).isLt
      have h1 : (y 1).val < 160 := (y 1).isLt
      omega⟩ ⟨(y 2).val, (y 2).isLt⟩)) (S (ix2 ⟨(y 0).val, (y 0).isLt⟩ ⟨(y 2).val, (y 2).isLt⟩))

theorem pay5_apply (a : Vec Ideal S160x128 .f32) (b : Vec Ideal S1x128 .f32) (r : Fin 160) (k : Fin 128) :
    k0_pay5 (F := Ideal) a b (ix3 0 r k) = codeOf (a (ix2 r k)) (b (ix2 0 k)) := by
  pointwise [k0_pay5]
  rfl

theorem pay5_piece (Y : Vec Ideal S41600x128 .f32) (S : Vec Ideal S256x128 .f32) (n : Nat) (hn : n < 256) (h h' h'') (x : S1x160x128.Idx) :
    k0_pay5 (F := Ideal) (fun x => Y ((⟨![n, 0], ![160, 128], ![260, 1], h'⟩ : LoadRect S41600x128).idx x))
      (View.ld S (Rect.unit (s := S256x128) ![n, 0] ![1, 128] h'')) x
      = codesV Y S ((Rect.unit (s := S256x160x128) ![n, 0, 0] ![1, 160, 128] h).emb x) := by
  obtain ⟨u, r, k, rfl⟩ : ∃ (u : Fin 1) (r : Fin 160) (k : Fin 128), x = ix3 u r k := ⟨x 0, x 1, x 2, eq_ix3 x⟩
  obtain rfl : u = 0 := Subsingleton.elim _ _
  rw [pay5_apply]
  refine congrArg₂ codeOf (congrArg Y ?_) (congrArg S ?_)
  · refine Shape.idx_ext₂ ?_ ?_
    · show n + 260 * r.val = 260 * (0 + 1 * r.val) + (n + 1 * 0); omega
    · show 0 + 1 * k.val = 0 + 1 * k.val; rfl
  · refine Shape.idx_ext₂ ?_ ?_
    · show n + 1 * 0 = n + 1 * 0; rfl
    · show 0 + 1 * k.val = 0 + 1 * k.val; rfl

theorem mem_sample (n : Nat) (h) (y : S256x160x128.Idx) (h1 : (y 0).val = n) :
    y ∈ (Rect.unit (s := S256x160x128) ![n, 0, 0] ![1, 160, 128] h).set := by
  rw [Rect.mem_set_unit]
  intro a
  match a with
  | 0 => exact ⟨h1.ge, by show (y 0).val < n + 1; omega⟩
  | 1 => exact ⟨Nat.zero_le _, by show (y 1).val < 0 + 160; have : (y 1).val < 160 := (y 1).isLt; omega⟩
  | 2 => exact ⟨Nat.zero_le _, by show (y 2).val < 0 + 128; have : (y 2).val < 128 := (y 2).isLt; omega⟩

theorem off5_eq : ∀ k : Fin k0_t2_loop.trips, k0_off5 k = ![k.val, 0] := by decide +kernel
theorem off6_eq : ∀ k : Fin k0_t2_loop.trips, k0_off6 k = ![k.val, 0] := by decide +kernel
theorem off7_eq : ∀ k : Fin k0_t2_loop.trips, k0_off7 k = ![k.val, 0, 0] := by decide +kernel
theorem trips2 : k0_t2_loop.trips = 256 := by decide +kernel

theorem tripL2_eq (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (k0_h3 : k0_cond3 i = 1#1) (X_arg14 : BufTy.Contents (Elt Ideal) arg14.view.ty) (X_arg16 : BufTy.Contents (Elt Ideal) arg16.view.ty) (k : Fin k0_t2_loop.trips) :
    ∃ h h' h'', tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg14 X_arg16 k
      = [⟨Rect.unit (s := S256x160x128) ![k.val, 0, 0] ![1, 160, 128] h,
          k0_pay5 (View.readAt (Elt Ideal) arg14.view (⟨![k.val, 0], ![160, 128], ![260, 1], h'⟩ : LoadRect S41600x128) X_arg14)
            (View.readAt (Elt Ideal) arg16.view (Rect.unit (s := S256x128) ![k.val, 0] ![1, 128] h'').toLoadRect X_arg16)⟩] := by
  have base : tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg14 X_arg16 k
      = [⟨Rect.unit (s := S256x160x128) (k0_off7 k) ![1, 160, 128] (k0_off7_inb i k k0_h3),
          k0_pay5 (View.readAt (Elt Ideal) arg14.view (⟨k0_off5 k, ![160, 128], ![260, 1], k0_off5_inb i k k0_h3⟩ : LoadRect S41600x128) X_arg14)
            (View.readAt (Elt Ideal) arg16.view (Rect.unit (s := S256x128) (k0_off6 k) ![1, 128] (k0_off6_inb i k k0_h3)).toLoadRect X_arg16)⟩] := by
    unfold tripL_k0_t2 trip_k0_t2
    sl_unfold_words
    rfl
  rw [base]
  have gen : ∀ (o7 : Fin 3 → Nat) (o5 o6 : Fin 2 → Nat) (h7 : ∀ a, o7 a + (![1, 160, 128] : Fin 3 → Nat) a ≤ S256x160x128.size a)
      (h5 : ∀ a, (![160, 128] : Fin 2 → Nat) a = 0 ∨ o5 a + (![260, 1] : Fin 2 → Nat) a * ((![160, 128] : Fin 2 → Nat) a - 1) < S41600x128.size a)
      (h6 : ∀ a, o6 a + (![1, 128] : Fin 2 → Nat) a ≤ S256x128.size a), o7 = ![k.val, 0, 0] → o5 = ![k.val, 0] → o6 = ![k.val, 0] →
      ∃ h h' h'', ([⟨Rect.unit (s := S256x160x128) o7 ![1, 160, 128] h7,
          k0_pay5 (View.readAt (Elt Ideal) arg14.view (⟨o5, ![160, 128], ![260, 1], h5⟩ : LoadRect S41600x128) X_arg14)
            (View.readAt (Elt Ideal) arg16.view (Rect.unit (s := S256x128) o6 ![1, 128] h6).toLoadRect X_arg16)⟩] : List (View.Piece (Elt Ideal) S256x160x128 .fp8e4m3))
      = [⟨Rect.unit (s := S256x160x128) ![k.val, 0, 0] ![1, 160, 128] h,
          k0_pay5 (View.readAt (Elt Ideal) arg14.view (⟨![k.val, 0], ![160, 128], ![260, 1], h'⟩ : LoadRect S41600x128) X_arg14)
            (View.readAt (Elt Ideal) arg16.view (Rect.unit (s := S256x128) ![k.val, 0] ![1, 128] h'').toLoadRect X_arg16)⟩] := by
    rintro o7 o5 o6 h7 h5 h6 rfl rfl rfl
    exact ⟨_, _, _, rfl⟩
  exact gen _ _ _ _ _ _ (off7_eq k) (off5_eq k) (off6_eq k)

theorem pb2_read (𝒱 : Variants) (c : Dev nD) (bd : Option 𝒱.V) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (k0_h3 : k0_cond3 i = 1#1)  (Y : Vec Ideal S41600x128 .f32) (S : Vec Ideal S256x128 .f32)
    (X_arg14 : BufTy.Contents (Elt Ideal) arg14.view.ty) (hY : arg14.view.read (Elt Ideal) X_arg14 = Y)
    (X_arg16 : BufTy.Contents (Elt Ideal) arg16.view.ty) (hS : arg16.view.read (Elt Ideal) X_arg16 = S)
    (f : BufTy.Contents (Elt Ideal) arg10.view.ty) :
    arg10.view.read (Elt Ideal) (arg10.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg14 X_arg16 k0_t2_loop.trips))
      = codesV Y S := by
  have key : ∀ n, n ≤ k0_t2_loop.trips →
      (∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg14 X_arg16 n, ∀ x : p.1.shape.Idx, p.2 x = codesV Y S (p.1.emb x))
      ∧ ∀ y : S256x160x128.Idx, (y 0).val < n → ∃ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg14 X_arg16 n, y ∈ p.1.set := by
    intro n
    induction n with
    | zero =>
      intro _
      refine ⟨fun p hp => absurd hp (by rw [pb_k0_t2.eq_1]; exact List.not_mem_nil), fun y hy => absurd hy (by omega)⟩
    | succ n ih =>
      intro hn
      obtain ⟨ih1, ih2⟩ := ih (Nat.le_of_succ_le hn)
      have hn' : n < k0_t2_loop.trips := hn
      rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg14 X_arg16 ⟨n, hn'⟩]
      obtain ⟨h, h', h'', e⟩ := tripL2_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h3 X_arg14 X_arg16 ⟨n, hn'⟩
      rw [e]
      have n256 : n < 256 := trips2 ▸ hn'
      refine ⟨?_, ?_⟩
      · intro p hp
        rcases List.mem_append.mp hp with hp | hp
        · obtain rfl := List.mem_singleton.mp hp
          intro x
          rw [View.readAt_eq_ld, hS]
          subst hY
          exact pay5_piece _ S n n256 h h' h'' x
        · exact ih1 p hp
      · intro y hy
        by_cases hlt : (y 0).val < n
        · obtain ⟨p, hp, hy'⟩ := ih2 y hlt
          exact ⟨p, List.mem_append_right _ hp, hy'⟩
        · refine ⟨_, List.mem_append_left _ (List.mem_singleton.mpr rfl), ?_⟩
          exact mem_sample n h y (by omega)
  obtain ⟨h1, h2⟩ := key _ le_rfl
  funext y
  exact View.read_writes_apply_of_pieces _ _ (codesV Y S) _ h1 y (h2 y (by have : (y 0).val < 256 := (y 0).isLt; rw [trips2]; omega))

end Cert.Value
-- ==== Proof.ValueRunD.lean ====
/- The last step: what it leaves in the token buffer and in the running maximum. -/
module

public import proofs.«01_k».proof.Proof.ValueRows
public import proofs.«01_k».proof.Proof.BodyIdealD
public import proofs.«01_k».proof.Proof.ValueLoopQ

@[expose] public section

set_option maxRecDepth 16384

noncomputable section

namespace Cert.Value

open Idealize.ShloMosaic Cert.KernelIdeal Cert.KernelIdeal.Gen Cert.KernelIdeal.Body

theorem runD_Y (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) :
    arg14.view.read (Elt Ideal) (arg14.view.writes (Elt Ideal) (harg14.unread xs2) (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.1)
      = (putRows (putRows (putRows (putRows xs2 (k0_off3 i 0#32 0) (mmT x0 x1 x2 x3 x4 x6 x7 0)) (k0_off3 i 1#32 0) (mmT x0 x1 x2 x3 x4 x6 x7 1)) (k0_off3 i 2#32 0) (mmT x0 x1 x2 x3 x4 x6 x7 2)) (k0_off3 i 3#32 0) (mmT x0 x1 x2 x3 x4 x6 x7 3)) := by
  have hX : arg13.view.read (Elt Ideal) (arg13.view.writes (Elt Ideal) arg13.view.junk (kernelRun0_D.sl.HS1_1 (F := Ideal) c arg4 harg4 x2)) = k0_pay16 (F := Ideal) x2 := by
    unfold kernelRun0_D.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_D
  dsimp only
  refine (read_writes_rows arg14 _ _ _ rfl _ _).trans ?_
  refine congrArg₂ (fun Y V => putRows Y _ V) ?_ ?tok3
  refine (read_writes_rows arg14 _ _ _ rfl _ _).trans ?_
  refine congrArg₂ (fun Y V => putRows Y _ V) ?_ ?tok2
  refine (read_writes_rows arg14 _ _ _ rfl _ _).trans ?_
  refine congrArg₂ (fun Y V => putRows Y _ V) ?_ ?tok1
  refine (read_writes_rows arg14 _ _ _ rfl _ _).trans ?_
  refine congrArg₂ (fun Y V => putRows Y _ V) ?_ ?tok0
  · exact harg14.read_unread _
  case tok0 =>
    unfold kernelRun0_D.sl.r_1 kernelRun0_D.sl.r_2
    rw [hW]
    exact tok0_eq x0 x1 x2 x3 x4 x6 x7 arg2 harg2 arg5 harg5 arg6 harg6 arg8 harg8 arg9 harg9 _ _ _ _ _
  case tok1 =>
    unfold kernelRun0_D.sl.r_3 kernelRun0_D.sl.r
    rw [hW]
    exact tok1_eq x0 x1 x2 x3 x4 x6 x7 arg2 harg2 arg5 harg5 arg6 harg6 arg8 harg8 arg9 harg9 _ _ _ _ _
  case tok2 =>
    unfold kernelRun0_D.sl.r_4 kernelRun0_D.sl.r
    rw [hW]
    exact tok2_eq x0 x1 x2 x3 x4 x6 x7 arg2 harg2 arg5 harg5 arg6 harg6 arg8 harg8 arg9 harg9 _ _ _ _ _
  case tok3 =>
    unfold kernelRun0_D.sl.r_5 kernelRun0_D.sl.r
    rw [hW]
    exact tok3_eq x0 x1 x2 x3 x4 x6 x7 arg2 harg2 arg5 harg5 arg6 harg6 arg8 harg8 arg9 harg9 _ _ _ _ _

theorem runD_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) (f : BufTy.Contents (Elt Ideal) arg15.view.ty) :
    arg15.view.read (Elt Ideal) (arg15.view.writes (Elt Ideal) f (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.2.1)
      = (maxV (maxV (maxV (maxV xs3 (mmT x0 x1 x2 x3 x4 x6 x7 0)) (mmT x0 x1 x2 x3 x4 x6 x7 1)) (mmT x0 x1 x2 x3 x4 x6 x7 2)) (mmT x0 x1 x2 x3 x4 x6 x7 3)) := by
  have hX : arg13.view.read (Elt Ideal) (arg13.view.writes (Elt Ideal) arg13.view.junk (kernelRun0_D.sl.HS1_1 (F := Ideal) c arg4 harg4 x2)) = k0_pay16 (F := Ideal) x2 := by
    unfold kernelRun0_D.sl.HS1_1
    refine (read_writes_wholeI arg13 _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 x1 x2 _ hX hs
  unfold kernelRun0_D
  dsimp only
  unfold kernelRun0_D.sl.HS3_4
  refine (read_writes_whole2 arg15 _ _ _ _).trans ?_
  unfold kernelRun0_D.sl.r_5 kernelRun0_D.sl.r
  rw [hW]
  refine (mx3_eq x0 x1 x2 x3 x4 x6 x7 arg2 harg2 arg5 harg5 arg6 harg6 arg8 harg8 arg9 harg9 _ _ _ _ _ _).trans ?_
  refine congrArg (fun d => maxV d _) ?_
  unfold kernelRun0_D.sl.v178 kernelRun0_D.sl.HS3_3
  refine (readCov_whole2 arg15 _ _ _ _).trans ?_
  unfold kernelRun0_D.sl.r_4 kernelRun0_D.sl.r
  rw [hW]
  refine (mx2_eq x0 x1 x2 x3 x4 x6 x7 arg2 harg2 arg5 harg5 arg6 harg6 arg8 harg8 arg9 harg9 _ _ _ _ _ _).trans ?_
  refine congrArg (fun d => maxV d _) ?_
  unfold kernelRun0_D.sl.v137 kernelRun0_D.sl.HS3_2
  refine (readCov_whole2 arg15 _ _ _ _).trans ?_
  unfold kernelRun0_D.sl.r_3 kernelRun0_D.sl.r
  rw [hW]
  refine (mx1_eq x0 x1 x2 x3 x4 x6 x7 arg2 harg2 arg5 harg5 arg6 harg6 arg8 harg8 arg9 harg9 _ _ _ _ _ _).trans ?_
  refine congrArg (fun d => maxV d _) ?_
  unfold kernelRun0_D.sl.v96 kernelRun0_D.sl.HS3_1
  refine (readCov_whole2 arg15 _ _ _ _).trans ?_
  unfold kernelRun0_D.sl.r_1 kernelRun0_D.sl.r_2
  rw [hW]
  refine (mx0_eq x0 x1 x2 x3 x4 x6 x7 arg2 harg2 arg5 harg5 arg6 harg6 arg8 harg8 arg9 harg9 _ _ _ _ _ _).trans ?_
  refine congrArg (fun d => maxV d _) ?_
  rw [View.readAt_eq_ld, harg15.read_unread]
  exact View.ld_unit_lit' _ _ (by decide)

theorem runD_v190 (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) :
    kernelRun0_D.sl.v190 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x6 x7 xs3 = (maxV (maxV (maxV (maxV xs3 (mmT x0 x1 x2 x3 x4 x6 x7 0)) (mmT x0 x1 x2 x3 x4 x6 x7 1)) (mmT x0 x1 x2 x3 x4 x6 x7 2)) (mmT x0 x1 x2 x3 x4 x6 x7 3)) := by
  unfold kernelRun0_D.sl.v190 View.readCov
  rw [View.readAt_eq_ld]
  refine (View.ld_unit_lit' _ _ (by decide)).trans ?_
  have h := runD_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3 hs arg15.view.junk
  unfold kernelRun0_D at h
  exact h

theorem runD_codes (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) (f : BufTy.Contents (Elt Ideal) arg10.view.ty) :
    arg10.view.read (Elt Ideal) (arg10.view.writes (Elt Ideal) f (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.2.2.1)
      = codesV (putRows (putRows (putRows (putRows xs2 (k0_off3 i 0#32 0) (mmT x0 x1 x2 x3 x4 x6 x7 0)) (k0_off3 i 1#32 0) (mmT x0 x1 x2 x3 x4 x6 x7 1)) (k0_off3 i 2#32 0) (mmT x0 x1 x2 x3 x4 x6 x7 2)) (k0_off3 i 3#32 0) (mmT x0 x1 x2 x3 x4 x6 x7 3)) (k0_pay3 (F := Ideal) (maxV (maxV (maxV (maxV xs3 (mmT x0 x1 x2 x3 x4 x6 x7 0)) (mmT x0 x1 x2 x3 x4 x6 x7 1)) (mmT x0 x1 x2 x3 x4 x6 x7 2)) (mmT x0 x1 x2 x3 x4 x6 x7 3))) := by
  have hY := runD_Y c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3 hs
  unfold kernelRun0_D at hY
  unfold kernelRun0_D
  refine pb2_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ hY _ ?_ _
  unfold kernelRun0_D.sl.HS4_1
  refine (read_writes_whole2 arg16 _ _ _ _).trans ?_
  exact congrArg (k0_pay3 (F := Ideal)) (runD_v190 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3 hs)

theorem runD_scales (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S112x512 .i8) (harg4 : arg4.IsWhole) (arg5 : Memref sig .tc .vmem S1x512 .f32) (harg5 : arg5.IsWhole) (arg6 : Memref sig .tc .vmem S4x256x128 .f32) (harg6 : arg6.IsWhole) (arg7 : Memref sig .tc .vmem S3x256x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x160x128 .fp8e4m3) (harg10 : arg10.IsWhole) (arg11 : Memref sig .tc .vmem S1x1x256 .f32) (harg11 : arg11.IsWhole) (arg12 : Memref sig .tc .vmem S3584x512 .bf16) (harg12 : arg12.IsWhole) (arg13 : Memref sig .tc .vmem S112x512 .i32) (harg13 : arg13.IsWhole) (arg14 : Memref sig .tc .vmem S41600x128 .f32) (harg14 : arg14.IsWhole) (arg15 : Memref sig .tc .vmem S256x128 .f32) (harg15 : arg15.IsWhole) (arg16 : Memref sig .tc .vmem S256x128 .f32) (harg16 : arg16.IsWhole) (hc0 : ¬cond0_0 i) (hc1 : ¬cond0_1 i) (hc2 : cond0_2 i)
    (x0 : Vec Ideal S256x3584 .bf16) (x1 : Vec Ideal S3584x512 .fp8e4m3) (x2 : Vec Ideal S112x512 .i8) (x3 : Vec Ideal S1x512 .f32) (x4 : Vec Ideal S4x256x128 .f32) (x5 : Vec Ideal S3x256x128 .f32) (x6 : Vec Ideal S1x128 .f32) (x7 : Vec Ideal S1x128 .f32) (xs2 : Vec Ideal S41600x128 .f32) (xs3 : Vec Ideal S256x128 .f32) (hs : ∀ y, 1 ≤ (x2 y : BitVec 8).toNat ∧ (x2 y : BitVec 8).toNat ≤ 254) (f : BufTy.Contents (Elt Ideal) arg11.view.ty) :
    arg11.view.read (Elt Ideal) (arg11.view.writes (Elt Ideal) f (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3).1.2.2.2)
      = k0_pay4 (F := Ideal) (maxV (maxV (maxV (maxV xs3 (mmT x0 x1 x2 x3 x4 x6 x7 0)) (mmT x0 x1 x2 x3 x4 x6 x7 1)) (mmT x0 x1 x2 x3 x4 x6 x7 2)) (mmT x0 x1 x2 x3 x4 x6 x7 3)) := by
  unfold kernelRun0_D
  show arg11.view.read (Elt Ideal) (arg11.view.writes (Elt Ideal) f (kernelRun0_D.sl.H9_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x6 x7 xs3)) = _
  unfold kernelRun0_D.sl.H9_1
  refine (read_writes_whole3 arg11 _ _ _ _).trans ?_
  exact congrArg (k0_pay4 (F := Ideal)) (runD_v190 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs2 xs3 hs)

end Cert.Value
-- ==== Proof.ValueInv.lean ====
/- The specification of the body: the token buffer and the running maximum hold the tokens of the steps gone by, the output blocks the reference's codes and scales. -/
module

public import proofs.«01_k».proof.Proof.ValueBlocks
public import proofs.«01_k».proof.Proof.ValueRunA
public import proofs.«01_k».proof.Proof.ValueRunB
public import proofs.«01_k».proof.Proof.ValueRunC
public import proofs.«01_k».proof.Proof.ValueRunD
public import proofs.«01_k».proof.Proof.FrameIdeal

@[expose] public section

set_option maxRecDepth 16384

noncomputable section

namespace Cert.Value

open Idealize.ShloMosaic Idealize.ShloMosaic.TcCoe Cert.KernelIdeal Cert.KernelIdeal.Gen Cert.KernelIdeal.Body

theorem Filled.of_eq {a : Args} {P : Fin 160 → Prop} {i : Fin 16} {Y Y' : Vec Ideal S41600x128 .f32} {A A' : Vec Ideal S256x128 .f32}
    (hY : Y' = Y) (hA : A' = A) (h : Filled a P i Y A) : Filled a P i Y' A' := by
  subst hY hA
  exact h

variable (m : (ℓ : Loc nD τ sig) → Buf (Elt Ideal) ℓ) (c : Dev nD)

/-- The scale bytes stand for finite powers of two. -/
def Finite : Prop := ∀ y, 1 ≤ ((argsOf m c).s y : BitVec 8).toNat ∧ ((argsOf m c).s y : BitVec 8).toNat ≤ 254

variable {m c}
variable {P : Fin 160 → Prop} {Y : Vec Ideal S41600x128 .f32} {A : Vec Ideal S256x128 .f32}
section Step

variable (t : Fin cfg0.N) (i : Fin 16) (j : ℕ) (hj : j < 25) (ht : t.val = 25 * i.val + j)

/-- The tokens of a step. -/
def MM (m : (ℓ : Loc nD τ sig) → Buf (Elt Ideal) ℓ) (c : Dev nD) (t : Fin cfg0.N) (u : Fin 4) : Vec Ideal S256x128 .f32 :=
  mmT (iblk m c 0 t) (iblk m c 1 t) (iblk m c 2 t) (iblk m c 3 t) (iblk m c 4 t) (iblk m c 6 t) (iblk m c 7 t) u

@[inherit_doc MM] def LL (m : (ℓ : Loc nD τ sig) → Buf (Elt Ideal) ℓ) (c : Dev nD) (t : Fin cfg0.N) (u : Fin 3) : Vec Ideal S256x128 .f32 :=
  linT (iblk m c 5 t) (iblk m c 6 t) (iblk m c 7 t) u

include hj ht in
theorem finite_blk (hp : Finite m c) (y : S112x512.Idx) :
    1 ≤ ((iblk m c 2 t : Vec Ideal S112x512 .i8) y : BitVec 8).toNat ∧ ((iblk m c 2 t : Vec Ideal S112x512 .i8) y : BitVec 8).toNat ≤ 254 := by
  rw [eq_ix2 y]
  have e := blk2 m c t i j hj ht ⟨(y 0).val, (y 0).isLt⟩ ⟨(y 1).val, (y 1).isLt⟩
  exact e ▸ hp _

include hj ht in
theorem fill_mm (h : Filled (argsOf m c) P i Y A) :
    Filled (argsOf m c) (fun s => P s ∨ 4 * j ≤ s.val ∧ s.val < 4 * j + 4) i
      (putRows (putRows (putRows (putRows Y (k0_off3 (grid0.coords t) 0#32 0) (MM m c t 0)) (k0_off3 (grid0.coords t) 1#32 0) (MM m c t 1)) (k0_off3 (grid0.coords t) 2#32 0) (MM m c t 2)) (k0_off3 (grid0.coords t) 3#32 0) (MM m c t 3))
      (maxV (maxV (maxV (maxV A (MM m c t 0)) (MM m c t 1)) (MM m c t 2)) (MM m c t 3)) := by
  have e : t.val % 25 = j := by omega
  have h0 := h.put ⟨4 * j + (0 : Fin 4).val, by show 4 * j + 0 < 160; omega⟩ _ ((off3_0 t).trans (by rw [e]; rfl)) _ (mmT_blk m c t i j hj ht 0)
  have h1 := h0.put ⟨4 * j + (1 : Fin 4).val, by show 4 * j + 1 < 160; omega⟩ _ ((off3_1 t).trans (by rw [e]; rfl)) _ (mmT_blk m c t i j hj ht 1)
  have h2 := h1.put ⟨4 * j + (2 : Fin 4).val, by show 4 * j + 2 < 160; omega⟩ _ ((off3_2 t).trans (by rw [e]; rfl)) _ (mmT_blk m c t i j hj ht 2)
  have h3 := h2.put ⟨4 * j + (3 : Fin 4).val, by show 4 * j + 3 < 160; omega⟩ _ ((off3_3 t).trans (by rw [e]; rfl)) _ (mmT_blk m c t i j hj ht 3)
  refine h3.congr fun s => ?_
  simp only [Fin.ext_iff]
  show ((((P s ∨ s.val = 4 * j + 0) ∨ s.val = 4 * j + 1) ∨ s.val = 4 * j + 2) ∨ s.val = 4 * j + 3) ↔ _
  by_cases hP : P s
  · simp only [hP, true_or]
  · simp only [hP, false_or]
    omega

include hj ht in
theorem fill_lin (hj' : j ≤ 19) (h : Filled (argsOf m c) P i Y A) :
    Filled (argsOf m c) (fun s => P s ∨ 100 + 3 * j ≤ s.val ∧ s.val < 100 + 3 * j + 3) i
      (putRows (putRows (putRows Y (k0_off4 (grid0.coords t) 0#32 0) (LL m c t 0)) (k0_off4 (grid0.coords t) 1#32 0) (LL m c t 1)) (k0_off4 (grid0.coords t) 2#32 0) (LL m c t 2))
      (maxV (maxV (maxV A (LL m c t 0)) (LL m c t 1)) (LL m c t 2)) := by
  have e : t.val % 25 = j := by omega
  have h0 := h.put ⟨100 + 3 * j + (0 : Fin 3).val, by show 100 + 3 * j + 0 < 160; omega⟩ _ ((off4_0 t).trans (by rw [e]; rfl)) _ (linT_blk m c t i j hj ht hj' 0)
  have h1 := h0.put ⟨100 + 3 * j + (1 : Fin 3).val, by show 100 + 3 * j + 1 < 160; omega⟩ _ ((off4_1 t).trans (by rw [e]; rfl)) _ (linT_blk m c t i j hj ht hj' 1)
  have h2 := h1.put ⟨100 + 3 * j + (2 : Fin 3).val, by show 100 + 3 * j + 2 < 160; omega⟩ _ ((off4_2 t).trans (by rw [e]; rfl)) _ (linT_blk m c t i j hj ht hj' 2)
  refine h2.congr fun s => ?_
  simp only [Fin.ext_iff]
  show (((P s ∨ s.val = 100 + 3 * j + 0) ∨ s.val = 100 + 3 * j + 1) ∨ s.val = 100 + 3 * j + 2) ↔ _
  by_cases hP : P s
  · simp only [hP, true_or]
  · simp only [hP, false_or]
    omega

end Step

/-- What is carried from step to step: within a block the slots of the steps gone by are filled. -/
def Inv (m : (ℓ : Loc nD τ sig) → Buf (Elt Ideal) ℓ) (c : Dev nD) (n : ℕ) (Y : Vec Ideal S41600x128 .f32) (A : Vec Ideal S256x128 .f32) : Prop :=
  ∀ (i : Fin 16) (j : ℕ), n = 25 * i.val + j → 0 < j → j < 25 → Filled (argsOf m c) (slots j) i Y A

theorem codesV_filled {a : Args} (i : Fin 16) (h : Filled a (slots 25) i Y A) (r : Fin 256) (s : Fin 160) (k : Fin 128) :
    codesV Y (k0_pay3 (F := Ideal) A) (ix3 r s k) = codesG a (ix3 (row i r) s k) := by
  show codeOf (Y (ix2 (⟨260 * s.val + r.val, _⟩ : Fin 41600) k)) (k0_pay3 (F := Ideal) A (ix2 r k)) = codeOf (yG a (row i r) s k) (scaleOf (amaxG a (row i r)))
  rw [pay3_apply, h.amax, h.tok s (by unfold slots; omega) r k]

theorem scales_filled {a : Args} (i : Fin 16) (h : Filled a (slots 25) i Y A) (r : Fin 256) :
    k0_pay4 (F := Ideal) A (ix3 0 0 r) = scalesG a (ix3 i 0 r) := by
  rw [pay4_apply, h.amax]
  rfl

theorem stepA (hp : Finite m c) (t : Fin cfg0.N) (h0 : t.val % 25 = 0) (h1 : t.val % 25 ≤ 19) (h2 : ¬t.val % 25 = 24) (Y A) (f) (h : Inv m c t.val Y A) : Inv m c (t.val + 1)
    (scM0_2.view.read (Elt Ideal) (scM0_2.view.writes (Elt Ideal) ((Memref.isWhole_whole cc0_scratch2).unread Y) (runA m c t h0 h1 h2 Y A).1.1))
    (scM0_3.view.read (Elt Ideal) (scM0_3.view.writes (Elt Ideal) f (runA m c t h0 h1 h2 Y A).1.2)) := by
  intro i j' ht' hj0 hj1
  obtain ⟨j, rfl⟩ : ∃ j, j' = j + 1 := ⟨j' - 1, by omega⟩
  have ht : t.val = 25 * i.val + j := by omega
  have hj : j < 25 := by omega
  have e : t.val % 25 = j := by omega
  have hs := finite_blk t i j hj ht hp
  refine Filled.of_eq (runA_Y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A hs) (runA_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A hs f) ?_
  have hf : Filled (argsOf m c) (fun _ => False) i Y (fun _ => (0 : EReal)) := Filled.zero _ i Y
  refine Filled.congr (fill_lin (m := m) (c := c) t i j hj ht (by omega) (fill_mm (m := m) (c := c) t i j hj ht hf)) fun s => ?_
  have hj00 : j = 0 := by omega
  subst hj00
  unfold slots
  simp only [false_or]
  omega

theorem stepB (hp : Finite m c) (t : Fin cfg0.N) (h0 : ¬t.val % 25 = 0) (h1 : t.val % 25 ≤ 19) (h2 : ¬t.val % 25 = 24) (Y A) (f) (h : Inv m c t.val Y A) : Inv m c (t.val + 1)
    (scM0_2.view.read (Elt Ideal) (scM0_2.view.writes (Elt Ideal) ((Memref.isWhole_whole cc0_scratch2).unread Y) (runB m c t h0 h1 h2 Y A).1.1))
    (scM0_3.view.read (Elt Ideal) (scM0_3.view.writes (Elt Ideal) f (runB m c t h0 h1 h2 Y A).1.2)) := by
  intro i j' ht' hj0 hj1
  obtain ⟨j, rfl⟩ : ∃ j, j' = j + 1 := ⟨j' - 1, by omega⟩
  have ht : t.val = 25 * i.val + j := by omega
  have hj : j < 25 := by omega
  have e : t.val % 25 = j := by omega
  have hs := finite_blk t i j hj ht hp
  refine Filled.of_eq (runB_Y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A hs) (runB_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Y A hs f) ?_
  have hf := h i j ht (by omega) hj
  refine Filled.congr (fill_lin (m := m) (c := c) t i j hj ht (by omega) (fill_mm (m := m) (c := c) t i j hj ht hf)) fun s => ?_
  unfold slots
  omega

theorem stepC (hp : Finite m c) (t : Fin cfg0.N) (h0 : ¬t.val % 25 = 0) (h1 : ¬t.val % 25 ≤ 19) (h2 : ¬t.val % 25 = 24) (Y A) (f) (h : Inv m c t.val Y A) : Inv m c (t.val + 1)
    (scM0_2.view.read (Elt Ideal) (scM0_2.view.writes (Elt Ideal) ((Memref.isWhole_whole cc0_scratch2).unread Y) (runC m c t h0 h1 h2 Y A).1.1))
    (scM0_3.view.read (Elt Ideal) (scM0_3.view.writes (Elt Ideal) f (runC m c t h0 h1 h2 Y A).1.2)) := by
  intro i j' ht' hj0 hj1
  obtain ⟨j, rfl⟩ : ∃ j, j' = j + 1 := ⟨j' - 1, by omega⟩
  have ht : t.val = 25 * i.val + j := by omega
  have hj : j < 25 := by omega
  have e : t.val % 25 = j := by omega
  have hs := finite_blk t i j hj ht hp
  refine Filled.of_eq (runC_Y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) Y A hs) (runC_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) Y A hs f) ?_
  have hf := h i j ht (by omega) hj
  refine Filled.congr (fill_mm (m := m) (c := c) t i j hj ht hf) fun s => ?_
  unfold slots
  omega

theorem last8 (hp : Finite m c) (t : Fin cfg0.N) (h0 : ¬t.val % 25 = 0) (h1 : ¬t.val % 25 ≤ 19) (h2 : t.val % 25 = 24) (Y A) (f) (h : Inv m c t.val Y A) : ∀ (i : Fin 16), t.val = 25 * i.val + 24 → ∀ (r : Fin 256) (s : Fin 160) (k : Fin 128),
    ((ms0_8 t).view.read (Elt Ideal) ((ms0_8 t).view.writes (Elt Ideal) f (runD m c t h0 h1 h2 Y A).1.2.2.1) : Vec Ideal S256x160x128 .fp8e4m3) (ix3 r s k) = codesG (argsOf m c) (ix3 (row i r) s k) := by
  intro i ht r s k
  have hs := finite_blk t i 24 (by omega) ht hp
  have hf := h i 24 ht (by omega) (by omega)
  have hF := Filled.congr (fill_mm (m := m) (c := c) t i 24 (by omega) ht hf) (Q := slots 25) fun s => by
    unfold slots
    omega
  refine (congrFun (runD_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) Y A hs f) _).trans ?_
  exact codesV_filled i hF r s k

theorem last9 (hp : Finite m c) (t : Fin cfg0.N) (h0 : ¬t.val % 25 = 0) (h1 : ¬t.val % 25 ≤ 19) (h2 : t.val % 25 = 24) (Y A) (f) (h : Inv m c t.val Y A) : ∀ (i : Fin 16), t.val = 25 * i.val + 24 → ∀ (r : Fin 256),
    ((ms0_9 t).view.read (Elt Ideal) ((ms0_9 t).view.writes (Elt Ideal) f (runD m c t h0 h1 h2 Y A).1.2.2.2) : Vec Ideal S1x1x256 .f32) (ix3 0 0 r) = scalesG (argsOf m c) (ix3 i 0 r) := by
  intro i ht r
  have hs := finite_blk t i 24 (by omega) ht hp
  have hf := h i 24 ht (by omega) (by omega)
  have hF := Filled.congr (fill_mm (m := m) (c := c) t i 24 (by omega) ht hf) (Q := slots 25) fun s => by
    unfold slots
    omega
  refine (congrFun (runD_scales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) Y A hs f) _).trans ?_
  exact scales_filled i hF r

/-- The specification on a core. -/
def spec (hp : ∀ c, Finite m c) (c : Dev nD) : Spec m c where
  Inv := Inv m c
  R8 t X := ∀ (i : Fin 16), t.val = 25 * i.val + 24 → ∀ (r : Fin 256) (s : Fin 160) (k : Fin 128), X (ix3 r s k) = codesG (argsOf m c) (ix3 (row i r) s k)
  R9 t X := ∀ (i : Fin 16), t.val = 25 * i.val + 24 → ∀ (r : Fin 256), X (ix3 0 0 r) = scalesG (argsOf m c) (ix3 i 0 r)
  init _ _ := fun i j h h0 _ => absurd h (by omega)
  stepA t h0 h1 h2 Y A f h := stepA (hp c) t h0 h1 h2 Y A f h
  stepB t h0 h1 h2 Y A f h := stepB (hp c) t h0 h1 h2 Y A f h
  stepC t h0 h1 h2 Y A f h := stepC (hp c) t h0 h1 h2 Y A f h
  stepD t h0 h1 h2 Y A f h := fun i j ht hj0 hj1 => absurd ht (by omega)
  free8 t h X := fun i ht => absurd ht (by omega)
  free9 t h X := fun i ht => absurd ht (by omega)
  last8 t h0 h1 h2 Y A f h := last8 (hp c) t h0 h1 h2 Y A f h
  last9 t h0 h1 h2 Y A f h := last9 (hp c) t h0 h1 h2 Y A f h

end Cert.Value
-- ==== Proof.ValueKernel.lean ====
/- The kernel's two arrays after the run. -/
module

public import proofs.«01_k».proof.Proof.ValueInv
public import Idealize.ShloMosaic.Lib.Pipeline.ArrRel

@[expose] public section

set_option maxRecDepth 16384

noncomputable section

namespace Cert.Value

open Idealize.ShloMosaic Idealize.ShloMosaic.TcCoe Idealize.SL.Sem Cert.KernelIdeal Cert.KernelIdeal.Gen Cert.KernelIdeal.Body

variable (m : (ℓ : Loc nD τ sig) → Buf (Elt Ideal) ℓ) (c : Dev nD) (hp : ∀ c, Finite m c)
variable (after : (w : Fin cfg0.W) → Fin cfg0.N → (cfg0.win w).block.Idx → Elt Ideal (cfg0.win w).elt)
variable (hL : ∀ (w : Fin cfg0.W) (u : Fin cfg0.N), (cfg0.win w).flush u = true → ((dats m (spec hp) 0 c).toRRel forgets0 (rel0 m (spec hp) c)).Leaves w u (after w u))

include hL in
theorem arr8 : (((dats m (spec hp) 0 c).toRRel forgets0 (rel0 m (spec hp) c)).withAfter after).arrAt 8 cfg0.N = codesG (argsOf m c) := by
  refine Pipeline.Dat.arrAt_eq_of_covers _ 8 _ (by decide +kernel) fun t hf y => ?_
  have h24 := (flush0_8 t).mp hf
  have hN := N_eq
  have htN : t.val < cfg0.N := t.isLt
  have hR : (spec hp c).R8 t (after 8 t) := Pipeline.Dat.toRRel_leaves _ (w := 8) rfl (hL 8 t hf)
  have hR' := hR ⟨t.val / 25, by omega⟩ (by show t.val = 25 * (t.val / 25) + 24; omega)
  have e := idx8 t
  blk_simp
  show (after 8 t : Vec Ideal S256x160x128 .fp8e4m3) y = _
  rw [eq_ix3 (y : S256x160x128.Idx)]
  refine (hR' ⟨(y 0).val, (y 0).isLt⟩ ⟨(y 1).val, (y 1).isLt⟩ ⟨(y 2).val, (y 2).isLt⟩).trans ?_
  congr 1
  unfold row
  blk_ext [e]

include hL in
theorem arr9 : (((dats m (spec hp) 0 c).toRRel forgets0 (rel0 m (spec hp) c)).withAfter after).arrAt 9 cfg0.N = scalesG (argsOf m c) := by
  refine Pipeline.Dat.arrAt_eq_of_covers _ 9 _ (by decide +kernel) fun t hf y => ?_
  have h24 := (flush0_9 t).mp hf
  have hN := N_eq
  have htN : t.val < cfg0.N := t.isLt
  have hR : (spec hp c).R9 t (after 9 t) := Pipeline.Dat.toRRel_leaves _ (w := 9) rfl (hL 9 t hf)
  have hR' := hR ⟨t.val / 25, by omega⟩ (by show t.val = 25 * (t.val / 25) + 24; omega)
  have e := idx9 t
  blk_simp
  show (after 9 t : Vec Ideal S1x1x256 .f32) y = _
  have ey : (y : S1x1x256.Idx) = ix3 0 0 ⟨(y 2).val, (y 2).isLt⟩ := by
    rw [eq_ix3 (y : S1x1x256.Idx)]
    have h0 : (y 0).val < 1 := (y 0).isLt
    have h1 : (y 1).val < 1 := (y 1).isLt
    funext a
    apply Fin.ext
    match a with
    | 0 => show (y 0).val = 0; omega
    | 1 => show (y 1).val = 0; omega
    | 2 => rfl
  rw [ey]
  refine (hR' ⟨(y 2).val, (y 2).isLt⟩).trans ?_
  congr 1
  blk_ext [e]

include hp in
theorem kernel_run (ρ : Dev nD → PrngReg) : θ_run defs (onTc (τ := τ) (main (F := Ideal))) ⟨m, fun _ => 0, ρ⟩ (fun r => ∀ c : Dev nD,
    r.2.mem ((c.tc : Thread nD τ).loc main_v0_0) = codesG (argsOf m c) ∧ r.2.mem ((c.tc : Thread nD τ).loc main_v0_1) = scalesG (argsOf m c)) := by
  refine (θ_run defs _ _).mono (fun r h c => ?_) (run_main m ρ (spec hp))
  obtain ⟨after, hL, hA⟩ := h.exists_exact c
  exact ⟨(hA 8).trans (arr8 m c hp after hL), (hA 9).trans (arr9 m c hp after hL)⟩

end Cert.Value
-- ==== Proof.ValueRef.lean ====
/- The reference's values, place by place. -/
module

public import proofs.«01_k».proof.Proof.ValueSpec
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.Value.Ref

open Idealize.ShloMosaic Cert.ReferenceIdeal Cert.ReferenceIdeal.Gen

variable (a : Args)

/-- The reference's tokens less their means. -/
abbrev p5 : Vec Ideal S4096x160x128 .f32 := k0_pay5 (F := Ideal) a.s a.w a.hq a.b2 a.rg a.zl

@[inherit_doc p5] abbrev p6 : Vec Ideal S4096x160x1 .f32 := k0_pay6 (F := Ideal) a.s a.w a.hq a.b2 a.rg a.zl

theorem p5_apply (r : Fin 4096) (t : Fin 160) (k : Fin 128) : p5 a (ix3 r t k) = cen (zG a r t) k := by
  unfold p5
  pointwise [k0_pay5]
  have e : ∀ k : Fin 128, (if h : t.val < 100 then (∑ x, a.hq (ix2 r x) * (a.w (ix2 x ⟨t.val * 128 + k.val, by omega⟩) * pow2 (a.s (ix2 ⟨x.val / 32, by omega⟩ ⟨t.val * 128 + k.val, by omega⟩))) + a.b2 (ix2 0 ⟨t.val * 128 + k.val, by omega⟩)) + a.rg (ix3 ⟨t.val, h⟩ r k) else a.zl (ix3 ⟨t.val - 100, by omega⟩ r k)) = zG a r t k := fun _ => rfl
  unfold cen mean128
  simp only [← e]
  rfl

theorem p6_apply (r : Fin 4096) (t : Fin 160) : p6 a (ix3 r t 0) = ∑ j, cen (zG a r t) j * cen (zG a r t) j := by
  have h : p6 a (ix3 r t 0) = ∑ j : Fin 128, p5 a (ix3 r t j) * p5 a (ix3 r t j) := by
    unfold p6 p5 k0_pay6
    generalize k0_pay5 (F := Ideal) a.s a.w a.hq a.b2 a.rg a.zl = y
    pointwise
  rw [h]
  exact Finset.sum_congr rfl fun j _ => by rw [p5_apply]

/-- The reference's tokens after the layer norm. -/
def p1 : Vec Ideal S4096x160x128 .f32 := k0_pay1 (F := Ideal) a.g a.b (p5 a) (p6 a)

theorem p1_apply (r : Fin 4096) (t : Fin 160) (k : Fin 128) : p1 a (ix3 r t k) = yG a r t k := by
  unfold yG lnR
  rw [← p5_apply, ← p6_apply]
  unfold p1
  generalize p5 a = c
  generalize p6 a = d
  pointwise [k0_pay1]
  rfl

/-- The largest magnitude of each sample. -/
def red (y : Vec Ideal S4096x160x128 .f32) : Vec Ideal S4096 .f32 :=
  multiReduction .maximumf [1, 2] S4096 (absf (F := Ideal) (φ := .f32) y) 0xFF800000#32 reduces_S4096x160x128_S4096 (.inl rfl) rfl

theorem red_apply (y : Vec Ideal S4096x160x128 .f32) (r : Fin 4096) :
    red y (ix1 r) = Finset.fold max (Ideal.ofBits .f32 0xFF800000#32) (fun x : Fin 160 × Fin 128 => mag (y (ix3 r x.1 x.2))) Finset.univ := by
  unfold red
  pointwise
  rfl

/-- The scale of each sample. -/
def sel (v : Vec Ideal S4096 .f32) : Vec Ideal S4096 .f32 :=
  select (cmpf (F := Ideal) (φ := .f32) .oeq v (broadcast S4096 (Scalar.ofBits .f32 0x00000000#32))) (broadcast S4096 (Scalar.ofBits .f32 0x3F800000#32 : Ideal .f32))
    (divf (F := Ideal) (φ := .f32) v (broadcast S4096 (Scalar.ofBits .f32 0x43E00000#32)))

theorem sel_apply (v : Vec Ideal S4096 .f32) (r : Fin 4096) : sel v (ix1 r) = scaleOf (v (ix1 r)) := by
  unfold sel
  pointwise
  rfl

theorem fold_amax (r : Fin 4096) :
    Finset.fold max (Ideal.ofBits .f32 0xFF800000#32) (fun x : Fin 160 × Fin 128 => mag (p1 a (ix3 r x.1 x.2))) Finset.univ = amaxG a r := by
  simp only [p1_apply]
  refine le_antisymm ?_ ?_
  · rw [Finset.fold_max_le]
    refine ⟨by rw [ofBits_ninf]; exact bot_le, fun x _ => ?_⟩
    exact (amaxG_le a r _).mp le_rfl x.1 x.2
  · rw [amaxG_le]
    intro s k
    exact (Finset.le_fold_max (f := fun x : Fin 160 × Fin 128 => mag (yG a r x.1 x.2)) _).mpr (Or.inr ⟨(s, k), Finset.mem_univ _, le_rfl⟩)

/-- The reference's scale of each sample. -/
def p2 : Vec Ideal S4096 .f32 := k0_pay2 (F := Ideal) a.g a.b (p5 a) (p6 a)

theorem p2_eq : p2 a = sel (red (p1 a)) := by
  unfold p2 k0_pay2 sel red p1
  rfl

theorem p2_apply (r : Fin 4096) : p2 a (ix1 r) = scaleOf (amaxG a r) := by
  rw [p2_eq, sel_apply, red_apply, fold_amax]

/-- The codes from the values and the scales. -/
def code (y : Vec Ideal S4096x160x128 .f32) (v : Vec Ideal S4096 .f32) : Vec Ideal S4096x160x128 .fp8e4m3 :=
  truncf (F := Ideal) (φ := .f32) .fp8e4m3 (minimumf (F := Ideal) (φ := .f32) (broadcast S4096x160x128 (Scalar.ofBits .f32 0x43E00000#32 : Ideal .f32))
    (maximumf (F := Ideal) (φ := .f32) (broadcast S4096x160x128 (Scalar.ofBits .f32 0xC3E00000#32 : Ideal .f32))
      (divf (F := Ideal) (φ := .f32) y (broadcastTo S4096x160x128 (shapeCast S4096x1x1 v shapeCasts_S4096_S4096x1x1) broadcasts_S4096x1x1_S4096x160x128)))) bitsLt_fp8e4m3_f32

theorem code_apply (y : Vec Ideal S4096x160x128 .f32) (v : Vec Ideal S4096 .f32) (r : Fin 4096) (t : Fin 160) (k : Fin 128) :
    code y v (ix3 r t k) = codeOf (y (ix3 r t k)) (v (ix1 r)) := by
  unfold code
  pointwise
  rfl

/-- The reference's codes. -/
def p3 : Vec Ideal S4096x160x128 .fp8e4m3 := k0_pay3 (F := Ideal) a.g a.b (p5 a) (p6 a)

theorem p3_eq : p3 a = code (p1 a) (p2 a) := by
  unfold p3 k0_pay3 code p1 p2
  rfl

theorem p3_apply (r : Fin 4096) (t : Fin 160) (k : Fin 128) : p3 a (ix3 r t k) = codeOf (yG a r t k) (scaleOf (amaxG a r)) := by
  rw [p3_eq, code_apply, p1_apply, p2_apply]

/-- The reference's scales, in blocks of 256 samples. -/
def p4 : Vec Ideal S16x1x256 .f32 := k0_pay4 (F := Ideal) a.g a.b (p5 a) (p6 a)

theorem p4_eq : p4 a = shapeCast S16x1x256 (p2 a) shapeCasts_S4096_S16x1x256 := by
  unfold p4 k0_pay4 p2
  rfl

theorem cast_apply (v : Vec Ideal S4096 .f32) (i : Fin 16) (r : Fin 256) :
    (shapeCast S16x1x256 v shapeCasts_S4096_S16x1x256 : Vec Ideal S16x1x256 .f32) (ix3 i 0 r) = v (ix1 (row i r)) := by
  pointwise
  refine congrArg (fun n => v (ix1 n)) (Fin.ext ?_)
  show i.val * 256 + r.val = 256 * i.val + r.val
  omega

theorem p4_apply (i : Fin 16) (r : Fin 256) : p4 a (ix3 i 0 r) = scaleOf (amaxG a (row i r)) := by
  rw [p4_eq, cast_apply, p2_apply]

end Cert.Value.Ref
-- ==== Proof.ValueRefRun.lean ====
/- The reference's two arrays after the run. -/
module

public import proofs.«01_k».proof.Proof.ValueRef
public import proofs.«01_k».proof.Proof.Gen.ReferenceIdeal.Frame

@[expose] public section

set_option maxRecDepth 16384

noncomputable section

namespace Cert.Value.Ref

open Idealize.ShloMosaic Idealize.ShloMosaic.TcCoe Idealize.SL.Sem Cert.ReferenceIdeal Cert.ReferenceIdeal.Gen

variable (m : (ℓ : Loc nD τ sig) → Buf (Elt Ideal) ℓ) (c : Dev nD)

/-- The argument arrays of a core, as the memory holds them. -/
def argsOf : Args where
  hq := m ((c : Thread nD τ).loc main_arg0)
  w := m ((c : Thread nD τ).loc main_arg1)
  s := m ((c : Thread nD τ).loc main_arg2)
  b2 := m ((c : Thread nD τ).loc main_arg3)
  rg := m ((c : Thread nD τ).loc main_arg4)
  zl := m ((c : Thread nD τ).loc main_arg5)
  g := m ((c : Thread nD τ).loc main_arg6)
  b := m ((c : Thread nD τ).loc main_arg7)

theorem idx2 : (∀ t, win0_0.index t = ![0, 0]) ∧ (∀ t, win0_1.index t = ![0, 0]) ∧ (∀ t, win0_2.index t = ![0, 0]) ∧ (∀ t, win0_3.index t = ![0, 0])
    ∧ (∀ t, win0_6.index t = ![0, 0]) ∧ (∀ t, win0_7.index t = ![0, 0]) := by decide +kernel
theorem idx3 : (∀ t, win0_4.index t = ![0, 0, 0]) ∧ (∀ t, win0_5.index t = ![0, 0, 0]) := by decide +kernel

variable (t : Fin cfg0.N)

theorem blk0 : (iblk m c 0 t : Vec Ideal S4096x3584 .bf16) = (argsOf m c).hq := by
  funext y
  unfold argsOf
  have e := idx2.1 t
  rw [eq_ix2 y]
  blk_ext [iblk, V, e]

theorem blk1 : (iblk m c 1 t : Vec Ideal S3584x12800 .fp8e4m3) = (argsOf m c).w := by
  funext y
  unfold argsOf
  have e := idx2.2.1 t
  rw [eq_ix2 y]
  blk_ext [iblk, V, e]

theorem blk2 : (iblk m c 2 t : Vec Ideal S112x12800 .i8) = (argsOf m c).s := by
  funext y
  unfold argsOf
  have e := idx2.2.2.1 t
  rw [eq_ix2 y]
  blk_ext [iblk, V, e]

theorem blk3 : (iblk m c 3 t : Vec Ideal S1x12800 .f32) = (argsOf m c).b2 := by
  funext y
  unfold argsOf
  have e := idx2.2.2.2.1 t
  rw [eq_ix2 y]
  blk_ext [iblk, V, e]

theorem blk4 : (iblk m c 4 t : Vec Ideal S100x4096x128 .f32) = (argsOf m c).rg := by
  funext y
  unfold argsOf
  have e := idx3.1 t
  rw [eq_ix3 y]
  blk_ext [iblk, V, e]

theorem blk5 : (iblk m c 5 t : Vec Ideal S60x4096x128 .f32) = (argsOf m c).zl := by
  funext y
  unfold argsOf
  have e := idx3.2 t
  rw [eq_ix3 y]
  blk_ext [iblk, V, e]

theorem blk6 : (iblk m c 6 t : Vec Ideal S1x128 .f32) = (argsOf m c).g := by
  funext y
  unfold argsOf
  have e := idx2.2.2.2.2.1 t
  rw [eq_ix2 y]
  blk_ext [iblk, V, e]

theorem blk7 : (iblk m c 7 t : Vec Ideal S1x128 .f32) = (argsOf m c).b := by
  funext y
  unfold argsOf
  have e := idx2.2.2.2.2.2 t
  rw [eq_ix2 y]
  blk_ext [iblk, V, e]

theorem out8_eq (x0 : Vec Ideal S4096x3584 .bf16) (x1 : Vec Ideal S3584x12800 .fp8e4m3) (x2 : Vec Ideal S112x12800 .i8) (x3 : Vec Ideal S1x12800 .f32) (x4 : Vec Ideal S100x4096x128 .f32) (x5 : Vec Ideal S60x4096x128 .f32) (x6 x7 : Vec Ideal S1x128 .f32) :
    out0_8 (F := Ideal) x0 x1 x2 x3 x4 x5 x6 x7 = p3 ⟨x0, x1, x2, x3, x4, x5, x6, x7⟩ := by
  unfold out0_8 k0_pay7 k0_pay8
  refine (View.canon_cons_unit_lit' _ _ _ (by decide)).trans ?_
  rw [View.ld_unit_lit' _ x0 (by decide), View.ld_unit_lit' _ x1 (by decide), View.ld_unit_lit' _ x2 (by decide), View.ld_unit_lit' _ x3 (by decide), View.ld_unit_lit' _ x4 (by decide), View.ld_unit_lit' _ x5 (by decide), View.ld_unit_lit' _ x6 (by decide), View.ld_unit_lit' _ x7 (by decide)]
  rfl

theorem out9_eq (x0 : Vec Ideal S4096x3584 .bf16) (x1 : Vec Ideal S3584x12800 .fp8e4m3) (x2 : Vec Ideal S112x12800 .i8) (x3 : Vec Ideal S1x12800 .f32) (x4 : Vec Ideal S100x4096x128 .f32) (x5 : Vec Ideal S60x4096x128 .f32) (x6 x7 : Vec Ideal S1x128 .f32) :
    out0_9 (F := Ideal) x0 x1 x2 x3 x4 x5 x6 x7 = p4 ⟨x0, x1, x2, x3, x4, x5, x6, x7⟩ := by
  unfold out0_9 k0_pay7 k0_pay8
  refine (View.canon_cons_unit_lit' _ _ _ (by decide)).trans ?_
  rw [View.ld_unit_lit' _ x0 (by decide), View.ld_unit_lit' _ x1 (by decide), View.ld_unit_lit' _ x2 (by decide), View.ld_unit_lit' _ x3 (by decide), View.ld_unit_lit' _ x4 (by decide), View.ld_unit_lit' _ x5 (by decide), View.ld_unit_lit' _ x6 (by decide), View.ld_unit_lit' _ x7 (by decide)]
  rfl

theorem p3_codes (a : Args) : p3 a = codesG a := by
  funext y
  rw [eq_ix3 y]
  exact p3_apply a (y 0) (y 1) (y 2)

theorem p4_scales (a : Args) : p4 a = scalesG a := by
  funext y
  have ey : y = ix3 ⟨(y 0).val, (y 0).isLt⟩ 0 ⟨(y 2).val, (y 2).isLt⟩ := by
    have h1 : (y 1).val < 1 := (y 1).isLt
    funext a
    apply Fin.ext
    match a with
    | 0 => rfl
    | 1 => show (y 1).val = 0; omega
    | 2 => rfl
  rw [ey]
  exact p4_apply a (y 0) (y 2)

theorem arr8 : (dats m 0 c).arrAt 8 cfg0.N = codesG (argsOf m c) := by
  refine (dats m 0 c).arrAt_eq_of_after_last 8 t0_0 (by decide +kernel) _ fun j => ?_
  blk_simp
  rw [after0_8, blk0, blk1, blk2, blk3, blk4, blk5, blk6, blk7, out8_eq, p3_codes]

theorem arr9 : (dats m 0 c).arrAt 9 cfg0.N = scalesG (argsOf m c) := by
  refine (dats m 0 c).arrAt_eq_of_after_last 9 t0_0 (by decide +kernel) _ fun j => ?_
  blk_simp
  rw [after0_9, blk0, blk1, blk2, blk3, blk4, blk5, blk6, blk7, out9_eq, p4_scales]

theorem reference_run (ρ : Dev nD → PrngReg) : θ_run defs (onTc (τ := τ) (main (F := Ideal))) ⟨m, fun _ => 0, ρ⟩ (fun r => ∀ c : Dev nD,
    r.2.mem ((c.tc : Thread nD τ).loc main_v0_0) = codesG (argsOf m c) ∧ r.2.mem ((c.tc : Thread nD τ).loc main_v0_1) = scalesG (argsOf m c)) := by
  refine (θ_run defs _ _).mono (fun r h c => ?_) (run_main m ρ)
  exact ⟨(h.out_eq c 8).trans (arr8 m c), (h.out_eq c 9).trans (arr9 m c)⟩

end Cert.Value.Ref
-- ==== Proof.ValueAlg.lean ====
/- The kernel and the reference leave the same two arrays. -/
module

public import proofs.«01_k».proof.Defs
public import proofs.«01_k».proof.Proof.ValueKernel
public import proofs.«01_k».proof.Proof.ValueRefRun

@[expose] public section

set_option maxRecDepth 16384

noncomputable section

namespace Cert.Value

open Idealize.ShloMosaic Idealize.ShloMosaic.TcCoe Idealize.SL.Sem

/-- The precondition's side condition. -/
theorem preFacts : Cert.Pre_scales_finite.Facts := ⟨by decide⟩

theorem byte_bounds : ∀ n : Fin (2 ^ 8), IntOp.andi (IntOp.cmpi .uge (BitVec.ofFin (w := 8) n) 1#8) (IntOp.cmpi .ule (BitVec.ofFin (w := 8) n) 254#8) = 1#1 →
    1 ≤ n.val ∧ n.val ≤ 254 := by decide +kernel

theorem finite_of_pre (m : (ℓ : Loc Cert.KernelIdeal.nD Cert.KernelIdeal.τ Cert.KernelIdeal.sig) → Buf (Elt Ideal) ℓ)
    (h : Cert.Pre_KernelIdeal_scales_finite (hPre_scales_finite := preFacts) m) (c : Dev Cert.KernelIdeal.nD) : Finite m c := by
  intro y
  have hy := congrFun (h c) y
  exact byte_bounds ⟨((argsOf m c).s y : BitVec 8).toNat, ((argsOf m c).s y : BitVec 8).isLt⟩ hy

theorem quiescent_KernelIdeal_pre : Cert.quiescent_KernelIdeal_pre_scales_finite (hKernelIdeal := Cert.KernelIdeal.Gen.facts) (hPre_scales_finite := preFacts) :=
  fun m ρ _ => Cert.KernelIdeal.Body.frame m ρ

theorem quiescent_ReferenceIdeal_pre : Cert.quiescent_ReferenceIdeal_pre_scales_finite (hReferenceIdeal := Cert.ReferenceIdeal.Gen.facts) (hPre_scales_finite := preFacts) :=
  fun m ρ _ => Cert.ReferenceIdeal.Gen.frame m ρ

theorem algebraic : Cert.algebraic_KernelIdeal_ReferenceIdeal_pre_scales_finite (hKernelIdeal := Cert.KernelIdeal.Gen.facts)
    (hReferenceIdeal := Cert.ReferenceIdeal.Gen.facts) (hPre_scales_finite := preFacts) := by
  intro m g m' g' hpre harg
  have hargs : ∀ c : Dev Cert.KernelIdeal.nD, Ref.argsOf m' c = argsOf m c := fun c => by
    obtain ⟨h0, h1, h2, h3, h4, h5, h6, h7⟩ := harg c
    unfold Ref.argsOf argsOf
    rw [h0, h1, h2, h3, h4, h5, h6, h7]
  refine ⟨fun c => codesG (argsOf m c), fun c => scalesG (argsOf m c), ?_, ?_⟩
  · refine (θ_run _ _ _).mono (fun r h c => ?_) (θ_run_and (kernel_run m (finite_of_pre m hpre) g) (Cert.KernelIdeal.Body.unchanged m g))
    exact ⟨(h.1 c).1, (h.1 c).2, h.2 c⟩
  · refine (θ_run _ _ _).mono (fun r h c => ?_) (θ_run_and (Ref.reference_run m' g') (Cert.ReferenceIdeal.Gen.unchanged m' g'))
    exact ⟨(h.1 c).1.trans (congrArg codesG (hargs c)), (h.1 c).2.trans (congrArg scalesG (hargs c)), h.2 c⟩

end Cert.Value
-- ==== Proof.Frame1Bits.lean ====
/- The frame of the first call. -/
module

public import proofs.«01_k».proof.Proof.Gen.Kernel1.Frame
public import proofs.«01_k».proof.Proof.Gen.Kernel1.Points

@[expose] public section
-- ==== Proof.Frame1Ideal.lean ====
/- The frame of the first call. -/
module

public import proofs.«01_k».proof.Proof.Gen.Kernel1Ideal.Frame
public import proofs.«01_k».proof.Proof.Gen.Kernel1Ideal.Points

@[expose] public section
-- ==== Proof.Value1Scalar.lean ====
/- The exponent of a block: the search of the kernel and the count of the reference find the same exponent field, and the
   powers of two that the two make of it are the same numbers. -/
module

public import proofs.«01_k».proof.Proof.ValueScalar

@[expose] public section

set_option maxRecDepth 16384

noncomputable section

namespace Cert.Value1

open Idealize.ShloMosaic

/-- The float whose exponent field is `n` and whose other bits are zero. -/
def vE (n : ℕ) : EReal := Ideal.ofBits .f32 (IntOp.shli ArithUnit.vector (BitVec.ofNat 32 n) 23#32)

theorem fieldsF : ∀ n : Fin (2 ^ 8),
    ((IntOp.shli ArithUnit.vector (BitVec.ofNat 32 n.val) 23#32 : BitVec 32).extractLsb' 31 1 == 1#1) = false ∧
    ((IntOp.shli ArithUnit.vector (BitVec.ofNat 32 n.val) 23#32 : BitVec 32).extractLsb' 23 8).toNat = n.val ∧
    ((IntOp.shli ArithUnit.vector (BitVec.ofNat 32 n.val) 23#32 : BitVec 32).extractLsb' 0 23).toNat = 0 := by decide +kernel

theorem ieee_zero_frac (b : BitVec 32) (n : ℕ) (f1 : (b.extractLsb' 31 1 == 1#1) = false) (f2 : (b.extractLsb' 23 8).toNat = n)
    (f3 : (b.extractLsb' 0 23).toNat = 0) (h1 : 1 ≤ n) (h2 : n ≤ 254) :
    Ideal.ofBits .f32 b = (((2 : ℝ) ^ ((n : ℤ) - 127) : ℝ) : EReal) := by
  show Ideal.ieee 8 23 b = _
  unfold Ideal.ieee
  simp only [Nat.reduceAdd, f1, f2, f3]
  rw [if_neg (by omega), if_neg (by omega)]
  refine congrArg Real.toEReal ?_
  have h7 : ((n : ℤ) - (2 ^ (8 - 1) - 1) - ((23 : ℕ) : ℤ)) = ((n : ℤ) - 127) - 23 := by norm_num
  rw [h7, zpow_sub₀ (by norm_num)]
  norm_num
  field_simp

theorem vE_eq (n : ℕ) (h1 : 1 ≤ n) (h2 : n ≤ 254) : vE n = (((2 : ℝ) ^ ((n : ℤ) - 127) : ℝ) : EReal) := by
  obtain ⟨f1, f2, f3⟩ := fieldsF ⟨n, by omega⟩
  exact ieee_zero_frac _ n f1 f2 f3 h1 h2

theorem vE_zpow (n : ℕ) (h1 : 1 ≤ n) (h2 : n ≤ 254) (k : ℤ) (hk : (n : ℤ) - 127 = k) : vE n = (((2 : ℝ) ^ k : ℝ) : EReal) := by
  rw [vE_eq n h1 h2, hk]

theorem vE_mono {m n : ℕ} (h1 : 1 ≤ m) (hmn : m ≤ n) (h2 : n ≤ 254) : vE m ≤ vE n := by
  rw [vE_eq m h1 (by omega), vE_eq n (by omega) h2]
  exact EReal.coe_le_coe_iff.mpr (zpow_le_zpow_right₀ (by norm_num : (1 : ℝ) ≤ 2) (by omega))

/-- One step of the search: the field moves up by `w` if the power of two there is at most `q`. -/
def step (q : EReal) (e w : BitVec 32) : BitVec 32 :=
  if Ideal.ofBits .f32 (IntOp.shli ArithUnit.vector (IntOp.addi e w) 23#32) ≤ q then IntOp.addi e w else e

/-- The search for the exponent field. -/
def field (q : EReal) : BitVec 32 :=
  step q (step q (step q (step q (step q (step q (step q (step q 0#32 126#32) 63#32) 32#32) 16#32) 8#32) 4#32) 2#32) 1#32

/-- What the search knows when a distance of `R` is left: the field is between `E` and `E + R`. -/
structure Inv (q : EReal) (E R : ℕ) : Prop where
  le : E + R ≤ 252
  lo : E = 0 ∨ vE E ≤ q
  hi : E + R < 252 → q < vE (E + R + 1)

theorem step_inv {q : EReal} {e : BitVec 32} {R : ℕ} (h : ∃ E, e = BitVec.ofNat 32 E ∧ Inv q E R) (w R' : ℕ) (h1 : 1 ≤ w)
    (hR : R' + w = R) (h2 : w ≤ R' + 1) : ∃ E, step q e (BitVec.ofNat 32 w) = BitVec.ofNat 32 E ∧ Inv q E R' := by
  obtain ⟨E, rfl, hE⟩ := h
  have ha : IntOp.addi (BitVec.ofNat 32 E) (BitVec.ofNat 32 w) = BitVec.ofNat 32 (E + w) := (BitVec.ofNat_add E w).symm
  have hle := hE.le
  unfold step
  rw [ha]
  by_cases hq : Ideal.ofBits .f32 (IntOp.shli ArithUnit.vector (BitVec.ofNat 32 (E + w)) 23#32) ≤ q
  · rw [if_pos hq]
    refine ⟨E + w, rfl, by omega, Or.inr hq, fun h => ?_⟩
    have := hE.hi (by omega)
    rwa [show E + w + R' + 1 = E + R + 1 by omega]
  · rw [if_neg hq]
    refine ⟨E, rfl, by omega, hE.lo, fun h => ?_⟩
    exact lt_of_lt_of_le (not_le.mp hq) (vE_mono (by omega) (by omega) (by omega))

theorem field_inv (q : EReal) : ∃ E, field q = BitVec.ofNat 32 E ∧ Inv q E 0 := by
  have h0 : ∃ E, (0#32 : BitVec 32) = BitVec.ofNat 32 E ∧ Inv q E 252 :=
    ⟨0, rfl, by omega, Or.inl rfl, fun h => absurd h (by omega)⟩
  have h1 := step_inv h0 126 126 (by omega) (by omega) (by omega)
  have h2 := step_inv h1 63 63 (by omega) (by omega) (by omega)
  have h3 := step_inv h2 32 31 (by omega) (by omega) (by omega)
  have h4 := step_inv h3 16 15 (by omega) (by omega) (by omega)
  have h5 := step_inv h4 8 7 (by omega) (by omega) (by omega)
  have h6 := step_inv h5 4 3 (by omega) (by omega) (by omega)
  have h7 := step_inv h6 2 1 (by omega) (by omega) (by omega)
  exact step_inv h7 1 0 (by omega) (by omega) (by omega)

/-- The power of two that the reference compares with. -/
def powR (k : Fin 252) : EReal :=
  FloatOps.exp2 (F := Ideal) (φ := .f32) (FloatOps.sitofp (F := Ideal) FTy.f32 (IntOp.subi (BitVec.ofNat 32 k.val) 126#32))

theorem toInt_k : ∀ k : Fin 252, (IntOp.subi (BitVec.ofNat 32 k.val) 126#32).toInt = (k.val : ℤ) - 126 := by decide +kernel

theorem powR_eq (k : Fin 252) : powR k = vE (k.val + 1) := by
  rw [vE_zpow (k.val + 1) (by omega) (by omega) ((k.val : ℤ) - 126) (by push_cast; omega)]
  show Ideal.exp2 (((IntOp.subi (BitVec.ofNat 32 k.val) 126#32).toInt : ℝ) : EReal) = _
  rw [Ideal.exp2_coe, toInt_k]
  exact congrArg Real.toEReal (Real.rpow_intCast 2 _)

/-- The number of powers of two that are at most `q`. -/
def cnt (q : EReal) : EReal := ∑ k : Fin 252, if powR k ≤ q then (1 : EReal) else 0

theorem cnt_eq {q : EReal} {E : ℕ} (h : Inv q E 0) : cnt q = ((E : ℝ) : EReal) := by
  have hle := h.le
  have hk : ∀ k : Fin 252, powR k ≤ q ↔ k.val < E := by
    intro k
    rw [powR_eq]
    constructor
    · intro hq
      by_contra hn
      have := h.hi (by omega)
      exact absurd (lt_of_lt_of_le this (vE_mono (by omega) (by omega : E + 0 + 1 ≤ k.val + 1) (by omega))) (not_lt.mpr hq)
    · intro hlt
      rcases h.lo with h0 | h0
      · omega
      · exact le_trans (vE_mono (by omega) (by omega) (by omega)) h0
  unfold cnt
  simp only [hk]
  rw [Finset.sum_boole]
  have : (Finset.univ.filter fun k : Fin 252 => k.val < E).card = E := by
    rw [Fin.card_filter_val_lt]
    omega
  rw [this]
  rfl

/-- The exponent of a block, as the kernel finds it from the block's largest magnitude over 448. -/
def expK (q : EReal) : BitVec 32 := if q = 0 then 0#32 else IntOp.subi (field q) 126#32

/-- The exponent of a block with largest magnitude `a`, as the reference counts it. -/
def expR (a : EReal) : EReal :=
  if a = 0 then 0 else cnt (a * Ideal.ofBits .f32 0x3B124925#32) - Ideal.ofBits .f32 0x42FC0000#32

theorem ofBits_126 : Ideal.ofBits .f32 0x42FC0000#32 = ((126 : ℝ) : EReal) := by
  simp [Ideal.ofBits, Ideal.ieee]
  rw [← EReal.coe_mul]; norm_num

theorem ofBits_c_ne : Ideal.ofBits .f32 0x3B124925#32 ≠ 0 := by
  have : (0 : EReal) < Ideal.ofBits .f32 0x3B124925#32 := by
    simp [Ideal.ofBits, Ideal.ieee]
    positivity
  exact this.ne'

theorem bits_scale : ∀ E : Fin 253, IntOp.addi 127#32 (IntOp.subi (BitVec.ofNat 32 E.val) 126#32) = BitVec.ofNat 32 (E.val + 1) := by
  decide +kernel

theorem bits_inv : ∀ E : Fin 253, IntOp.subi 127#32 (IntOp.subi (BitVec.ofNat 32 E.val) 126#32) = BitVec.ofNat 32 (253 - E.val) := by
  decide +kernel

theorem exp2_int (n : ℤ) : Ideal.exp2 (((n : ℝ)) : EReal) = (((2 : ℝ) ^ n : ℝ) : EReal) := by
  rw [Ideal.exp2_coe]
  exact congrArg Real.toEReal (Real.rpow_intCast 2 n)

theorem expR_ne {a : EReal} {E : ℕ} (ha : a ≠ 0) (h : Inv (a * Ideal.ofBits .f32 0x3B124925#32) E 0) :
    expR a = ((((E : ℤ) - 126 : ℤ) : ℝ) : EReal) := by
  rw [expR, if_neg ha, cnt_eq h, ofBits_126, ← EReal.coe_sub]
  push_cast
  rfl

/-- The scale the kernel makes by its bits is the reference's power of two. -/
theorem scale_eq (a : EReal) :
    Ideal.ofBits .f32 (IntOp.shli ArithUnit.vector (IntOp.addi 127#32 (expK (a * Ideal.ofBits .f32 0x3B124925#32))) 23#32)
      = Ideal.exp2 (expR a) := by
  by_cases ha : a = 0
  · subst ha
    rw [zero_mul, expK, if_pos rfl, expR, if_pos rfl]
    have h1 := vE_eq 127 (by omega) (by omega)
    have h2 := exp2_int 0
    simp at h1 h2
    rw [h2]
    exact h1
  · have hq : a * Ideal.ofBits .f32 0x3B124925#32 ≠ 0 := mul_ne_zero ha ofBits_c_ne
    obtain ⟨E, e, hE⟩ := field_inv (a * Ideal.ofBits .f32 0x3B124925#32)
    have hle := hE.le
    rw [expR_ne ha hE, exp2_int, expK, if_neg hq, e, bits_scale ⟨E, by omega⟩]
    exact vE_zpow (E + 1) (by omega) (by omega) _ (by push_cast; omega)

/-- The reciprocal of the scale, likewise. -/
theorem inv_eq (a : EReal) :
    Ideal.ofBits .f32 (IntOp.shli ArithUnit.vector (IntOp.subi 127#32 (expK (a * Ideal.ofBits .f32 0x3B124925#32))) 23#32)
      = Ideal.exp2 (0 - expR a) := by
  by_cases ha : a = 0
  · subst ha
    rw [zero_mul, expK, if_pos rfl, expR, if_pos rfl]
    have h1 := vE_eq 127 (by omega) (by omega)
    have h2 := exp2_int 0
    simp at h1 h2
    rw [sub_zero, h2]
    exact h1
  · have hq : a * Ideal.ofBits .f32 0x3B124925#32 ≠ 0 := mul_ne_zero ha ofBits_c_ne
    obtain ⟨E, e, hE⟩ := field_inv (a * Ideal.ofBits .f32 0x3B124925#32)
    have hle := hE.le
    have hs : (0 : EReal) - ((((E : ℤ) - 126 : ℤ) : ℝ) : EReal) = (((126 - (E : ℤ) : ℤ) : ℝ) : EReal) := by
      rw [← EReal.coe_zero, ← EReal.coe_sub]
      refine congrArg Real.toEReal ?_
      push_cast
      ring
    rw [expR_ne ha hE, hs, exp2_int, expK, if_neg hq, e, bits_inv ⟨E, by omega⟩]
    exact vE_zpow (253 - E) (by omega) (by omega) _ (by omega)

/-- The magnitude of a value. -/
def mag (x : EReal) : EReal := FloatOps.absf (F := Ideal) (φ := .f32) x

/-- The largest magnitude of a block of 32 values. -/
def amax32 (f : Fin 32 → EReal) : EReal :=
  Finset.fold max (Ideal.ofBits .f32 0xFF800000#32) (fun x => mag (f x)) Finset.univ

/-- The code of a value in a block with largest magnitude `a`. -/
def code1 (y a : EReal) : EReal :=
  min (Ideal.ofBits .f32 0x43E00000#32) (max (Ideal.ofBits .f32 0xC3E00000#32) (y * Ideal.exp2 (0 - expR a)))

end Cert.Value1
-- ==== Proof.Value1Spec.lean ====
/- The first layer's mathematics on the whole arrays. -/
module

public import proofs.«01_k».proof.Proof.Value1Scalar
public import proofs.«01_k».proof.Kernel1Ideal
public import Idealize.ShloMosaic.Lib.Pipeline.ValueKit

@[expose] public section

set_option maxRecDepth 16384

noncomputable section

namespace Cert.Value1

open Idealize.ShloMosaic Cert.Kernel1Ideal
open Cert.Value (pow2)

/-- The argument arrays: quantised samples, weights, scale bytes and bias. -/
structure Args where
  hq : Vec Ideal S4096x7680 .bf16
  w : Vec Ideal S7680x3584 .fp8e4m3
  s : Vec Ideal S240x3584 .i8
  b : Vec Ideal S1x3584 .f32

variable (a : Args)

/-- A hidden value of a sample: the product with the dequantised weights and the bias, rectified. -/
def hG (r : Fin 4096) (q : Fin 3584) : EReal :=
  max (∑ x : Fin 7680, a.hq (ix2 r x) * (a.w (ix2 x q) * pow2 (a.s (ix2 ⟨x.val / 32, by omega⟩ q))) + a.b (ix2 0 q)) 0

/-- The largest magnitude of 32 hidden values in a row. -/
def aG (r : Fin 4096) (B : Fin 112) : EReal := amax32 fun k => hG a r ⟨B.val * 32 + k.val, by omega⟩

/-- The code of a hidden value. -/
def cG (r : Fin 4096) (q : Fin 3584) : EReal := code1 (hG a r q) (aG a r ⟨q.val / 32, by omega⟩)

/-- The scale of 32 hidden values in a row. -/
def sG (r : Fin 4096) (B : Fin 112) : EReal := Ideal.exp2 (expR (aG a r B))

/-- The codes. -/
def codesG : Vec Ideal S4096x3584 .fp8e4m3 := fun y => cG a ⟨(y 0).val, (y 0).isLt⟩ ⟨(y 1).val, (y 1).isLt⟩

/-- The scales, one row for each 32 columns. -/
def scalesG : Vec Ideal S112x4096 .f32 := fun y => sG a ⟨(y 1).val, (y 1).isLt⟩ ⟨(y 0).val, (y 0).isLt⟩

/-- The codes times their scales. -/
def scaledG : Vec Ideal S4096x3584 .bf16 := fun y =>
  cG a ⟨(y 0).val, (y 0).isLt⟩ ⟨(y 1).val, (y 1).isLt⟩ * sG a ⟨(y 0).val, (y 0).isLt⟩ ⟨(y 1).val / 32, by
    have h1 : (y 1).val < 3584 := (y 1).isLt
    omega⟩

end Cert.Value1
-- ==== Proof.Value1Rows.lean ====
/- The payloads of the first layer's kernel, place by place. -/
module

public import proofs.«01_k».proof.Proof.Value1Scalar
public import proofs.«01_k».proof.Proof.Gen.Kernel1Ideal.Skeleton
public import Idealize.ShloMosaic.Lib.Pipeline.ValueKit
public import Idealize.ShloMosaic.Lib.Pointwise

@[expose] public section

set_option maxRecDepth 16384

noncomputable section

namespace Cert.Value1

open Idealize.ShloMosaic Cert.Kernel1Ideal Cert.Kernel1Ideal.Gen

/-- A hidden value of a block: the product with the bias, rectified. -/
def hK (x : Vec Ideal S512x7680 .bf16) (w : Vec Ideal S7680x512 .bf16) (b : Vec Ideal S1x512 .f32) (r q : Fin 512) : EReal :=
  max (∑ j : Fin 7680, x (ix2 r j) * w (ix2 j q) + b (ix2 0 q)) 0

theorem pay4_apply (x : Vec Ideal S512x7680 .bf16) (w : Vec Ideal S7680x512 .bf16) (b : Vec Ideal S1x512 .f32) (B : Fin 16) (k : Fin 32) (r : Fin 512) :
    k0_pay4 (F := Ideal) x w b (ix3 B k r) = hK x w b r ⟨B.val * 32 + k.val, by omega⟩ := by
  pointwise [k0_pay4]
  rfl

theorem pay5_apply (x : Vec Ideal S512x7680 .bf16) (w : Vec Ideal S7680x512 .bf16) (b : Vec Ideal S1x512 .f32) (B : Fin 16) (r : Fin 512) :
    k0_pay5 (F := Ideal) x w b (ix3 B 0 r)
      = amax32 (fun k => k0_pay4 (F := Ideal) x w b (ix3 B k r)) * Ideal.ofBits .f32 0x3B124925#32 := by
  unfold k0_pay5
  generalize k0_pay4 (F := Ideal) x w b = y
  pointwise
  rfl

theorem pay6_apply (x : Vec Ideal S512x7680 .bf16) (w : Vec Ideal S7680x512 .bf16) (b : Vec Ideal S1x512 .f32) (B : Fin 16) (r : Fin 512) :
    k0_pay6 (F := Ideal) x w b (ix3 B 0 r)
      = step (k0_pay5 (F := Ideal) x w b (ix3 B 0 r)) (step (k0_pay5 (F := Ideal) x w b (ix3 B 0 r)) 0#32 126#32) 63#32 := by
  unfold k0_pay6
  generalize k0_pay5 (F := Ideal) x w b = y
  pointwise
  rfl

/-- One step of the search, on vectors. -/
def stepV (y : Vec Ideal S16x1x512 .f32) (e : IVec S16x1x512 32) (w : BitVec 32) : IVec S16x1x512 32 :=
  select (cmpf (F := Ideal) (φ := .f32) .oge y (bitcastToFloat (F := Ideal) .f32 (shli (addi e (broadcast S16x1x512 w)) (broadcast S16x1x512 23#32))))
    (addi e (broadcast S16x1x512 w)) e

theorem stepV_apply (y : Vec Ideal S16x1x512 .f32) (e : IVec S16x1x512 32) (w : BitVec 32) (B : Fin 16) (r : Fin 512) :
    stepV y e w (ix3 B 0 r) = step (y (ix3 B 0 r)) (e (ix3 B 0 r)) w := by
  unfold stepV
  pointwise
  rfl

theorem pay7_eq (y : Vec Ideal S16x1x512 .f32) (e : IVec S16x1x512 32) :
    k0_pay7 (F := Ideal) y e 32#32 = stepV y (stepV y (stepV y (stepV y (stepV y e 32#32) 16#32) 8#32) 4#32) 2#32 := by
  unfold k0_pay7 stepV
  rfl

theorem pay8_apply (y : Vec Ideal S16x1x512 .f32) (e : IVec S16x1x512 32) (B : Fin 16) (r : Fin 512) :
    k0_pay8 (F := Ideal) y e 1#32 (ix3 B 0 r)
      = if y (ix3 B 0 r) = 0 then 0#32 else IntOp.subi (step (y (ix3 B 0 r)) (e (ix3 B 0 r)) 1#32) 126#32 := by
  pointwise [k0_pay8]
  rfl

/-- The exponents of a block. -/
abbrev eV (x : Vec Ideal S512x7680 .bf16) (w : Vec Ideal S7680x512 .bf16) (b : Vec Ideal S1x512 .f32) : IVec S16x1x512 32 :=
  k0_pay8 (F := Ideal) (k0_pay5 x w b) (k0_pay7 (F := Ideal) (k0_pay5 x w b) (k0_pay6 x w b) 32#32) 1#32

theorem eV_apply (x : Vec Ideal S512x7680 .bf16) (w : Vec Ideal S7680x512 .bf16) (b : Vec Ideal S1x512 .f32) (B : Fin 16) (r : Fin 512) :
    eV x w b (ix3 B 0 r) = expK (amax32 (fun k => hK x w b r ⟨B.val * 32 + k.val, by omega⟩) * Ideal.ofBits .f32 0x3B124925#32) := by
  unfold eV
  rw [pay8_apply, pay7_eq, stepV_apply, stepV_apply, stepV_apply, stepV_apply, stepV_apply, pay6_apply, pay5_apply]
  simp only [pay4_apply]
  rfl

theorem pay9_apply (y : Vec Ideal S16x1x512 .f32) (e : IVec S16x1x512 32) (B : Fin 16) (r : Fin 512) :
    k0_pay9 (F := Ideal) y e 1#32 (ix3 B 0 r)
      = Ideal.ofBits .f32 (IntOp.shli ArithUnit.vector (IntOp.addi 127#32 (k0_pay8 (F := Ideal) y e 1#32 (ix3 B 0 r))) 23#32) := by
  unfold k0_pay9
  generalize k0_pay8 (F := Ideal) y e 1#32 = u
  pointwise

theorem pay10_apply (z : Vec Ideal S16x32x512 .f32) (y : Vec Ideal S16x1x512 .f32) (e : IVec S16x1x512 32) (q r : Fin 512) :
    k0_pay10 (F := Ideal) z y e 1#32 (ix2 q r)
      = min (Ideal.ofBits .f32 0x43E00000#32) (max (Ideal.ofBits .f32 0xC3E00000#32)
          (z (ix3 ⟨q.val / 32, by omega⟩ ⟨q.val % 32, by omega⟩ r) *
            Ideal.ofBits .f32 (IntOp.shli ArithUnit.vector (IntOp.subi 127#32 (k0_pay8 (F := Ideal) y e 1#32 (ix3 ⟨q.val / 32, by omega⟩ 0 r))) 23#32))) := by
  unfold k0_pay10
  generalize k0_pay8 (F := Ideal) y e 1#32 = u
  pointwise

theorem pay11_apply (z : Vec Ideal S16x32x512 .f32) (y : Vec Ideal S16x1x512 .f32) (e : IVec S16x1x512 32) (q r : Fin 512) :
    k0_pay11 (F := Ideal) z y e 1#32 (ix2 q r)
      = k0_pay10 (F := Ideal) z y e 1#32 (ix2 q r) * k0_pay9 (F := Ideal) y e 1#32 (ix3 ⟨q.val / 32, by omega⟩ 0 r) := by
  unfold k0_pay11
  generalize k0_pay10 (F := Ideal) z y e 1#32 = u
  generalize k0_pay9 (F := Ideal) y e 1#32 = u2
  pointwise

theorem pay12_apply (y : Vec Ideal S16x1x512 .f32) (e : IVec S16x1x512 32) (B : Fin 16) (r : Fin 512) :
    k0_pay12 (F := Ideal) y e 1#32 (ix2 B r) = k0_pay9 (F := Ideal) y e 1#32 (ix3 B 0 r) := by
  unfold k0_pay12
  generalize k0_pay9 (F := Ideal) y e 1#32 = u2
  pointwise

theorem pay13_apply (z : Vec Ideal S16x32x512 .f32) (y : Vec Ideal S16x1x512 .f32) (e : IVec S16x1x512 32) (r q : Fin 512) :
    k0_pay13 (F := Ideal) z y e 1#32 (ix2 r q) = k0_pay10 (F := Ideal) z y e 1#32 (ix2 q r) := by
  unfold k0_pay13
  generalize k0_pay10 (F := Ideal) z y e 1#32 = u
  pointwise

theorem pay1_apply (z : Vec Ideal S512x512 .bf16) (r q : Fin 512) : k0_pay1 (F := Ideal) z (ix2 r q) = z (ix2 q r) := by
  pointwise [k0_pay1]

/-- The largest magnitude of a block of 32 hidden values. -/
def aK (x : Vec Ideal S512x7680 .bf16) (w : Vec Ideal S7680x512 .bf16) (b : Vec Ideal S1x512 .f32) (r : Fin 512) (B : Fin 16) : EReal :=
  amax32 (fun k => hK x w b r ⟨B.val * 32 + k.val, by omega⟩)

theorem scale_apply (x : Vec Ideal S512x7680 .bf16) (w : Vec Ideal S7680x512 .bf16) (b : Vec Ideal S1x512 .f32) (B : Fin 16) (r : Fin 512) :
    k0_pay9 (F := Ideal) (k0_pay5 x w b) (k0_pay7 (F := Ideal) (k0_pay5 x w b) (k0_pay6 x w b) 32#32) 1#32 (ix3 B 0 r)
      = Ideal.exp2 (expR (aK x w b r B)) := by
  rw [pay9_apply]
  refine (congrArg (fun e => Ideal.ofBits .f32 (IntOp.shli ArithUnit.vector (IntOp.addi 127#32 e) 23#32)) (eV_apply x w b B r)).trans ?_
  exact scale_eq _

theorem code_apply (x : Vec Ideal S512x7680 .bf16) (w : Vec Ideal S7680x512 .bf16) (b : Vec Ideal S1x512 .f32) (q r : Fin 512) :
    k0_pay10 (F := Ideal) (k0_pay4 x w b) (k0_pay5 x w b) (k0_pay7 (F := Ideal) (k0_pay5 x w b) (k0_pay6 x w b) 32#32) 1#32 (ix2 q r)
      = code1 (hK x w b r q) (aK x w b r ⟨q.val / 32, by omega⟩) := by
  rw [pay10_apply, pay4_apply]
  have hq : (⟨q.val / 32 * 32 + q.val % 32, by omega⟩ : Fin 512) = q := Fin.ext (by show q.val / 32 * 32 + q.val % 32 = q.val; omega)
  unfold code1
  refine congrArg₂ (fun h s => min (Ideal.ofBits .f32 0x43E00000#32) (max (Ideal.ofBits .f32 0xC3E00000#32) (h * s))) (congrArg _ hq) ?_
  refine (congrArg (fun e => Ideal.ofBits .f32 (IntOp.shli ArithUnit.vector (IntOp.subi 127#32 e) 23#32)) (eV_apply x w b ⟨q.val / 32, by omega⟩ r)).trans ?_
  exact inv_eq _

end Cert.Value1
-- ==== Proof.Value1Loop.lean ====
/- The dequantising loop of the first layer: what it leaves in the buffer of bfloat16 weights. -/
module

public import proofs.«01_k».proof.Proof.ValueLoopW
public import proofs.«01_k».proof.Proof.Gen.Kernel1Ideal.Loops
public import Idealize.ShloMosaic.Lib.Pipeline.ValueKit

@[expose] public section

set_option maxRecDepth 16384

noncomputable section

namespace Cert.Value1

open Idealize.ShloMosaic Cert.Kernel1Ideal Cert.Kernel1Ideal.Gen Idealize.SL
open Cert.Value (scaleWord scaleWord_bits pow2 ofBits_pow2 word_half)

/-- The dequantised weights of a column block: each fp8 weight times the power of two of its scale byte. -/
def wblk (x1 : Vec Ideal S7680x512 .fp8e4m3) (x2 : Vec Ideal S240x512 .i8) : Vec Ideal S7680x512 .bf16 :=
  fun y => x1 y * pow2 (x2 (ix2 ⟨(y 0).val / 32, by have : (y 0).val < 7680 := (y 0).isLt; omega⟩ ⟨(y 1).val, (y 1).isLt⟩))

theorem pay2_apply (x2 : Vec Ideal S240x512 .i8) (r : Fin 240) (q : Fin 512) :
    k0_pay2 (F := Ideal) x2 (ix2 r q) = scaleWord (x2 (ix2 r q)) := by
  pointwise [k0_pay2]
  rfl

theorem bitcast_row (a : Vec Ideal S1x512 .i32) (s : BitVec 8) (R : Fin 16) (q : Fin 512)
    (ha : a (ix2 0 q) = scaleWord s) :
    (bitcast S16x512 16 (broadcastTo S8x512 a broadcasts_S1x512_S8x512) bitcasts_S8x512_w32_S16x512_w16 (ix2 R q) : BitVec 16)
      = BitVec.setWidth 16 s <<< 7 := by
  rw [bitcast_32_16]
  generalize hj : (Shape.Bitcasts.srcIdx _ _ _ _ : S8x512.Idx) = j
  have : broadcastTo S8x512 a broadcasts_S1x512_S8x512 j = a (ix2 0 q) := by
    have e : ((j 1 : Fin _).val) = q.val := by rw [← hj]; rfl
    idx_vars j
    pointwise
    congr 1
    congr 1
    exact Fin.ext e
  rw [this, ha]
  exact word_half s _ (Nat.mod_lt _ (by decide))

theorem pay3_apply (a : Vec Ideal S1x512 .i32) (b : Vec Ideal S32x512 .fp8e4m3) (s : BitVec 8) (r : Fin 32) (q : Fin 512)
    (ha : a (ix2 0 q) = scaleWord s) (h1 : 1 ≤ s.toNat) (h2 : s.toNat ≤ 254) :
    k0_pay3 (F := Ideal) a b (ix2 r q) = b (ix2 r q) * pow2 s := by
  pointwise [k0_pay3]
  rw [← ofBits_pow2 s h1 h2]
  congr 1
  split <;> rw [bitcast_row a s _ q ha]

theorem pay3_piece (x1 : Vec Ideal S7680x512 .fp8e4m3) (x2 : Vec Ideal S240x512 .i8) (n : Nat) (hn : n < 240) (h h' h'')
    (hs : ∀ y, 1 ≤ (x2 y : BitVec 8).toNat ∧ (x2 y : BitVec 8).toNat ≤ 254) (r : Fin 32) (q : Fin 512) :
    k0_pay3 (F := Ideal) (View.ld (k0_pay2 (F := Ideal) x2) (Rect.unit (s := S240x512) ![n, 0] ![1, 512] h'))
      (View.ld x1 (Rect.unit (s := S7680x512) ![32 * n, 0] ![32, 512] h'')) (ix2 r q)
      = wblk x1 x2 ((Rect.unit (s := S7680x512) ![32 * n, 0] ![32, 512] h).emb (ix2 r q)) := by
  have e : wblk x1 x2 ((Rect.unit (s := S7680x512) ![32 * n, 0] ![32, 512] h).emb (ix2 r q))
      = View.ld x1 (Rect.unit (s := S7680x512) ![32 * n, 0] ![32, 512] h'') (ix2 r q) * pow2 (x2 (ix2 ⟨n, hn⟩ q)) := by
    have e1 : (((Rect.unit (s := S7680x512) ![32 * n, 0] ![32, 512] h).emb (ix2 r q)) 0).val = 32 * n + r.val := by
      show 32 * n + 1 * r.val = _; omega
    have e2 : (((Rect.unit (s := S7680x512) ![32 * n, 0] ![32, 512] h).emb (ix2 r q)) 1).val = q.val := by
      show 0 + 1 * q.val = _; omega
    unfold wblk
    congr 3
    exact congrArg₂ (fun (a : Fin 240) (b : Fin 512) => ix2 a b) (Fin.ext (by show _ / 32 = n; rw [e1]; omega)) (Fin.ext e2)
  rw [e]
  refine pay3_apply _ _ (x2 (ix2 ⟨n, hn⟩ q)) r q ?_ (hs _).1 (hs _).2
  rw [← pay2_apply]
  pointwise

theorem mem_rows (n : Nat) (hn : n < 240) (h) (y : S7680x512.Idx) (h1 : 32 * n ≤ (y 0).val) (h2 : (y 0).val < 32 * (n + 1)) :
    y ∈ (Rect.unit (s := S7680x512) ![32 * n, 0] ![32, 512] h).set := by
  rw [Rect.mem_set_unit]
  refine Fin.forall_fin_two.mpr ⟨⟨h1, ?_⟩, ⟨Nat.zero_le _, ?_⟩⟩
  · show (y 0).val < 32 * n + 32; omega
  · show (y 1).val < 0 + 512
    have : (y 1).val < 512 := (y 1).isLt
    omega

theorem off1_eq : ∀ k : Fin k0_t1_loop.trips, k0_off1 k = ![k.val, 0] := by decide +kernel
theorem off2_eq : ∀ k : Fin k0_t1_loop.trips, k0_off2 k = ![32 * k.val, 0] := by decide +kernel
theorem trips1 : k0_t1_loop.trips = 240 := by decide +kernel

theorem tripL1_eq (𝒱 : Variants) (c : Dev nD) (bd : Option 𝒱.V) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (k0_h1 : k0_cond1 i = 1#1) (X_arg3 : BufTy.Contents (Elt Ideal) arg3.view.ty) (X_arg10 : BufTy.Contents (Elt Ideal) arg10.view.ty) (k : Fin k0_t1_loop.trips) :
    ∃ h h' h'', tripL_k0_t1 (F := Ideal) 𝒱 c bd i arg2 harg2 arg3 harg3 arg4 harg4 arg5 harg5 arg6 harg6 arg7 harg7 arg8 harg8 arg9 harg9 arg10 harg10 k0_h1 X_arg3 X_arg10 k
      = [⟨Rect.unit (s := S7680x512) ![32 * k.val, 0] ![32, 512] h,
          k0_pay3 (View.readAt (Elt Ideal) arg10.view (Rect.unit (s := S240x512) ![k.val, 0] ![1, 512] h').toLoadRect X_arg10)
            (View.readAt (Elt Ideal) arg3.view (Rect.unit (s := S7680x512) ![32 * k.val, 0] ![32, 512] h'').toLoadRect X_arg3)⟩] := by
  have base : tripL_k0_t1 (F := Ideal) 𝒱 c bd i arg2 harg2 arg3 harg3 arg4 harg4 arg5 harg5 arg6 harg6 arg7 harg7 arg8 harg8 arg9 harg9 arg10 harg10 k0_h1 X_arg3 X_arg10 k
      = [⟨Rect.unit (s := S7680x512) (k0_off2 k) ![32, 512] (k0_off2_inb i k k0_h1),
          k0_pay3 (View.readAt (Elt Ideal) arg10.view (Rect.unit (s := S240x512) (k0_off1 k) ![1, 512] (k0_off1_inb i k k0_h1)).toLoadRect X_arg10)
            (View.readAt (Elt Ideal) arg3.view (Rect.unit (s := S7680x512) (k0_off2 k) ![32, 512] (k0_off2_inb i k k0_h1)).toLoadRect X_arg3)⟩] := by
    unfold tripL_k0_t1 trip_k0_t1
    sl_unfold_words
    rfl
  rw [base]
  have gen : ∀ (o1 o2 : Fin 2 → Nat) (h1 : ∀ a, o1 a + (![1, 512] : Fin 2 → Nat) a ≤ S240x512.size a) (h2 : ∀ a, o2 a + (![32, 512] : Fin 2 → Nat) a ≤ S7680x512.size a),
      o1 = ![k.val, 0] → o2 = ![32 * k.val, 0] →
      ∃ h h' h'', ([⟨Rect.unit (s := S7680x512) o2 ![32, 512] h2,
          k0_pay3 (View.readAt (Elt Ideal) arg10.view (Rect.unit (s := S240x512) o1 ![1, 512] h1).toLoadRect X_arg10)
            (View.readAt (Elt Ideal) arg3.view (Rect.unit (s := S7680x512) o2 ![32, 512] h2).toLoadRect X_arg3)⟩] : List (View.Piece (Elt Ideal) S7680x512 .bf16))
      = [⟨Rect.unit (s := S7680x512) ![32 * k.val, 0] ![32, 512] h,
          k0_pay3 (View.readAt (Elt Ideal) arg10.view (Rect.unit (s := S240x512) ![k.val, 0] ![1, 512] h').toLoadRect X_arg10)
            (View.readAt (Elt Ideal) arg3.view (Rect.unit (s := S7680x512) ![32 * k.val, 0] ![32, 512] h'').toLoadRect X_arg3)⟩] := by
    rintro o1 o2 h1 h2 rfl rfl
    exact ⟨_, _, _, rfl⟩
  exact gen _ _ _ _ (off1_eq k) (off2_eq k)

theorem pb1_read (𝒱 : Variants) (c : Dev nD) (bd : Option 𝒱.V) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (k0_h1 : k0_cond1 i = 1#1)  (x1 : Vec Ideal S7680x512 .fp8e4m3) (x2 : Vec Ideal S240x512 .i8)
    (X_arg10 : BufTy.Contents (Elt Ideal) arg10.view.ty) (hX : arg10.view.read (Elt Ideal) X_arg10 = k0_pay2 x2)
    (hs : ∀ y, 1 ≤ (x2 y : BitVec 8).toNat ∧ (x2 y : BitVec 8).toNat ≤ 254)
    (v : View sig .tc .vmem S7680x512 .bf16) (f : BufTy.Contents (Elt Ideal) v.ty) :
    v.read (Elt Ideal) (v.writes (Elt Ideal) f (pb_k0_t1 (F := Ideal) 𝒱 c bd i arg2 harg2 arg3 harg3 arg4 harg4 arg5 harg5 arg6 harg6 arg7 harg7 arg8 harg8 arg9 harg9 arg10 harg10 k0_h1 (harg3.unread x1) X_arg10 k0_t1_loop.trips))
      = wblk x1 x2 := by
  have key : ∀ n, n ≤ k0_t1_loop.trips →
      (∀ p ∈ pb_k0_t1 (F := Ideal) 𝒱 c bd i arg2 harg2 arg3 harg3 arg4 harg4 arg5 harg5 arg6 harg6 arg7 harg7 arg8 harg8 arg9 harg9 arg10 harg10 k0_h1 (harg3.unread x1) X_arg10 n, ∀ x : p.1.shape.Idx, p.2 x = wblk x1 x2 (p.1.emb x))
      ∧ ∀ y : S7680x512.Idx, (y 0).val < 32 * n → ∃ p ∈ pb_k0_t1 (F := Ideal) 𝒱 c bd i arg2 harg2 arg3 harg3 arg4 harg4 arg5 harg5 arg6 harg6 arg7 harg7 arg8 harg8 arg9 harg9 arg10 harg10 k0_h1 (harg3.unread x1) X_arg10 n, y ∈ p.1.set := by
    intro n
    induction n with
    | zero =>
      intro _
      refine ⟨fun p hp => absurd hp (by rw [pb_k0_t1.eq_1]; exact List.not_mem_nil), fun y hy => absurd hy (by omega)⟩
    | succ n ih =>
      intro hn
      obtain ⟨ih1, ih2⟩ := ih (Nat.le_of_succ_le hn)
      have hn' : n < k0_t1_loop.trips := hn
      rw [pb_k0_t1_succ (F := Ideal) 𝒱 c bd i arg2 harg2 arg3 harg3 arg4 harg4 arg5 harg5 arg6 harg6 arg7 harg7 arg8 harg8 arg9 harg9 arg10 harg10 k0_h1 (harg3.unread x1) X_arg10 ⟨n, hn'⟩]
      obtain ⟨h, h', h'', e⟩ := tripL1_eq 𝒱 c bd i arg2 harg2 arg3 harg3 arg4 harg4 arg5 harg5 arg6 harg6 arg7 harg7 arg8 harg8 arg9 harg9 arg10 harg10 k0_h1 (harg3.unread x1) X_arg10 ⟨n, hn'⟩
      rw [e]
      have n240 : n < 240 := trips1 ▸ hn'
      refine ⟨?_, ?_⟩
      · intro p hp
        rcases List.mem_append.mp hp with hp | hp
        · obtain rfl := List.mem_singleton.mp hp
          intro x
          rw [View.readAt_eq_ld, View.readAt_eq_ld, hX, harg3.read_unread]
          change S32x512.Idx at x
          obtain ⟨r, q, rfl⟩ : ∃ (r : Fin 32) (q : Fin 512), x = ix2 r q := ⟨x 0, x 1, eq_ix2 x⟩
          exact pay3_piece x1 x2 n n240 h h' h'' hs r q
        · exact ih1 p hp
      · intro y hy
        by_cases hlt : (y 0).val < 32 * n
        · obtain ⟨p, hp, hy'⟩ := ih2 y hlt
          exact ⟨p, List.mem_append_right _ hp, hy'⟩
        · refine ⟨_, List.mem_append_left _ (List.mem_singleton.mpr rfl), ?_⟩
          exact mem_rows n n240 h y (by omega) hy
  obtain ⟨h1, h2⟩ := key _ le_rfl
  funext y
  exact View.read_writes_apply_of_pieces _ _ (wblk x1 x2) _ h1 y (h2 y (by have : (y 0).val < 7680 := (y 0).isLt; rw [trips1]; omega))

theorem readW (𝒱 : Variants) (c : Dev nD) (bd : Option 𝒱.V) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (k0_h1 : k0_cond1 i = 1#1)  (x1 : Vec Ideal S7680x512 .fp8e4m3) (x2 : Vec Ideal S240x512 .i8)
    (X_arg10 : BufTy.Contents (Elt Ideal) arg10.view.ty) (hX : arg10.view.read (Elt Ideal) X_arg10 = k0_pay2 x2)
    (hs : ∀ y, 1 ≤ (x2 y : BitVec 8).toNat ∧ (x2 y : BitVec 8).toNat ≤ 254) (h) :
    arg9.view.readCov (pb_k0_t1 (F := Ideal) 𝒱 c bd i arg2 harg2 arg3 harg3 arg4 harg4 arg5 harg5 arg6 harg6 arg7 harg7 arg8 harg8 arg9 harg9 arg10 harg10 k0_h1 (harg3.unread x1) X_arg10 (Scf.trips k0_t1_loop.lb k0_t1_loop.ub k0_t1_loop.st)) (Rect.unit (s := S7680x512) ![0, 0] S7680x512.size h).toLoadRect
      = wblk x1 x2 := by
  unfold View.readCov
  rw [View.readAt_eq_ld]
  refine (View.ld_unit_lit' _ _ (by decide)).trans ?_
  exact pb1_read 𝒱 c bd i arg2 harg2 arg3 harg3 arg4 harg4 arg5 harg5 arg6 harg6 arg7 harg7 arg8 harg8 arg9 harg9 arg10 harg10 k0_h1 x1 x2 X_arg10 hX hs _ _

end Cert.Value1
-- ==== Proof.Value1Run.lean ====
/- What one point of the first layer leaves in its outputs' blocks and in the buffer of weights. -/
module

public import proofs.«01_k».proof.Proof.Value1Loop
public import proofs.«01_k».proof.Proof.Gen.Kernel1Ideal.Frame

@[expose] public section

set_option maxRecDepth 16384

noncomputable section

namespace Cert.Value1

open Idealize.ShloMosaic Cert.Kernel1Ideal Cert.Kernel1Ideal.Gen

/-- The codes of a block, from the samples, the dequantised weights and the bias. -/
def cK (x : Vec Ideal S512x7680 .bf16) (w : Vec Ideal S7680x512 .bf16) (b : Vec Ideal S1x512 .f32) : Vec Ideal S512x512 .fp8e4m3 :=
  k0_pay13 (F := Ideal) (k0_pay4 x w b) (k0_pay5 x w b) (k0_pay7 (F := Ideal) (k0_pay5 x w b) (k0_pay6 x w b) 32#32) 1#32

/-- The scales of a block. -/
def sK (x : Vec Ideal S512x7680 .bf16) (w : Vec Ideal S7680x512 .bf16) (b : Vec Ideal S1x512 .f32) : Vec Ideal S16x512 .f32 :=
  k0_pay12 (F := Ideal) (k0_pay5 x w b) (k0_pay7 (F := Ideal) (k0_pay5 x w b) (k0_pay6 x w b) 32#32) 1#32

/-- The codes of a block times their scales. -/
def dK (x : Vec Ideal S512x7680 .bf16) (w : Vec Ideal S7680x512 .bf16) (b : Vec Ideal S1x512 .f32) : Vec Ideal S512x512 .bf16 :=
  k0_pay1 (F := Ideal) (k0_pay11 (F := Ideal) (k0_pay4 x w b) (k0_pay5 x w b) (k0_pay7 (F := Ideal) (k0_pay5 x w b) (k0_pay6 x w b) 32#32) 1#32)

theorem read_wholeQ {e : EltTy} (v : View sig .tc .vmem S512x512 e) (f : BufTy.Contents (Elt Ideal) v.ty)
    (h : ∀ a, (![0, 0] : Fin 2 → Nat) a + (![512, 512] : Fin 2 → Nat) a ≤ S512x512.size a) (V : Vec Ideal S512x512 e)
    (L : List (View.Piece (Elt Ideal) S512x512 e)) :
    v.read (Elt Ideal) (v.writes (Elt Ideal) f (⟨Rect.unit (s := S512x512) ![0, 0] ![512, 512] h, V⟩ :: L)) = V := by
  funext y
  change S512x512.Idx at y
  refine View.read_writes_cons_hit_of_coords _ _ (Rect.unit (s := S512x512) ![0, 0] ![512, 512] h) V L y y ?_
  refine Fin.forall_fin_two.mpr ⟨?_, ?_⟩
  · show (y 0).val = 0 + 1 * (y 0).val; omega
  · show (y 1).val = 0 + 1 * (y 1).val; omega

theorem read_wholeS {e : EltTy} (v : View sig .tc .vmem S16x512 e) (f : BufTy.Contents (Elt Ideal) v.ty)
    (h : ∀ a, (![0, 0] : Fin 2 → Nat) a + (![16, 512] : Fin 2 → Nat) a ≤ S16x512.size a) (V : Vec Ideal S16x512 e)
    (L : List (View.Piece (Elt Ideal) S16x512 e)) :
    v.read (Elt Ideal) (v.writes (Elt Ideal) f (⟨Rect.unit (s := S16x512) ![0, 0] ![16, 512] h, V⟩ :: L)) = V := by
  funext y
  change S16x512.Idx at y
  refine View.read_writes_cons_hit_of_coords _ _ (Rect.unit (s := S16x512) ![0, 0] ![16, 512] h) V L y y ?_
  refine Fin.forall_fin_two.mpr ⟨?_, ?_⟩
  · show (y 0).val = 0 + 1 * (y 0).val; omega
  · show (y 1).val = 0 + 1 * (y 1).val; omega

theorem read_wholeI {e : EltTy} (v : View sig .tc .vmem S240x512 e) (f : BufTy.Contents (Elt Ideal) v.ty)
    (h : ∀ a, (![0, 0] : Fin 2 → Nat) a + (![240, 512] : Fin 2 → Nat) a ≤ S240x512.size a) (V : Vec Ideal S240x512 e)
    (L : List (View.Piece (Elt Ideal) S240x512 e)) :
    v.read (Elt Ideal) (v.writes (Elt Ideal) f (⟨Rect.unit (s := S240x512) ![0, 0] ![240, 512] h, V⟩ :: L)) = V := by
  funext y
  change S240x512.Idx at y
  refine View.read_writes_cons_hit_of_coords _ _ (Rect.unit (s := S240x512) ![0, 0] ![240, 512] h) V L y y ?_
  refine Fin.forall_fin_two.mpr ⟨?_, ?_⟩
  · show (y 0).val = 0 + 1 * (y 0).val; omega
  · show (y 1).val = 0 + 1 * (y 1).val; omega

theorem wA_eq (c : Dev nD) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (hc0 : cond0_0 i)
    (x0 : Vec Ideal S512x7680 .bf16) (x1 : Vec Ideal S7680x512 .fp8e4m3) (x2 : Vec Ideal S240x512 .i8) (x3 : Vec Ideal S1x512 .f32) (hs : ∀ y, 1 ≤ (x2 y : BitVec 8).toNat ∧ (x2 y : BitVec 8).toNat ≤ 254) :
    sout0_A_0 (F := Ideal) c i arg2 harg2 arg3 harg3 arg4 harg4 arg5 harg5 arg6 harg6 arg7 harg7 arg8 harg8 arg9 harg9 arg10 harg10 hc0 x0 x1 x2 x3 = wblk x1 x2 := by
  have hX : arg10.view.read (Elt Ideal) (arg10.view.writes (Elt Ideal) arg10.view.junk (kernelRun0_A.sl.HS1_1 (F := Ideal) c arg4 harg4 x2)) = k0_pay2 (F := Ideal) x2 := by
    unfold kernelRun0_A.sl.HS1_1
    refine (read_wholeI arg10.view _ _ _ _).trans ?_
    rw [View.readAt_eq_ld, harg4.read_unread]
    exact congrArg _ (View.ld_unit_lit' _ _ (by decide))
  unfold sout0_A_0 kernelRun0_A
  dsimp only
  exact pb1_read Variants.none c none i arg2 harg2 arg3 harg3 arg4 harg4 arg5 harg5 arg6 harg6 arg7 harg7 arg8 harg8 arg9 harg9 arg10 harg10 hc0 x1 x2 _ hX hs _ _

theorem cA_eq (c : Dev nD) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (hc0 : cond0_0 i)
    (x0 : Vec Ideal S512x7680 .bf16) (x1 : Vec Ideal S7680x512 .fp8e4m3) (x2 : Vec Ideal S240x512 .i8) (x3 : Vec Ideal S1x512 .f32) (hs : ∀ y, 1 ≤ (x2 y : BitVec 8).toNat ∧ (x2 y : BitVec 8).toNat ≤ 254) :
    out0_A_4 (F := Ideal) c i arg2 harg2 arg3 harg3 arg4 harg4 arg5 harg5 arg6 harg6 arg7 harg7 arg8 harg8 arg9 harg9 arg10 harg10 hc0 x0 x1 x2 x3 = cK x0 (wblk x1 x2) x3 := by
  have hX : arg10.view.read (Elt Ideal) (arg10.view.writes (Elt Ideal) arg10.view.junk (kernelRun0_A.sl.HS1_1 (F := Ideal) c arg4 harg4 x2)) = k0_pay2 (F := Ideal) x2 := by
    unfold kernelRun0_A.sl.HS1_1
    refine (read_wholeI arg10.view _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 hc0 x1 x2 _ hX hs
  unfold out0_A_4 kernelRun0_A
  dsimp only
  refine (read_wholeQ _ _ _ _ _).trans ?_
  unfold cK
  simp only [kernelRun0_A.sl.r, kernelRun0_A.sl.r_1, kernelRun0_A.sl.r_2, kernelRun0_A.sl.r_3, kernelRun0_A.sl.r_4, kernelRun0_A.sl.r_5]
  rw [hW, View.readAt_eq_ld, View.readAt_eq_ld, harg2.read_unread, harg5.read_unread, View.ld_unit_lit' _ x0 (by decide), View.ld_unit_lit' _ x3 (by decide)]

theorem cB_eq (c : Dev nD) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (hc0 : ¬cond0_0 i)
    (x0 : Vec Ideal S512x7680 .bf16) (x1 : Vec Ideal S7680x512 .fp8e4m3) (x2 : Vec Ideal S240x512 .i8) (x3 : Vec Ideal S1x512 .f32) (xs0 : Vec Ideal S7680x512 .bf16) :
    out0_B_4 (F := Ideal) c i arg2 harg2 arg3 harg3 arg4 harg4 arg5 harg5 arg6 harg6 arg7 harg7 arg8 harg8 arg9 harg9 arg10 harg10 hc0 x0 x1 x2 x3 xs0 = cK x0 xs0 x3 := by
  unfold out0_B_4 kernelRun0_B
  dsimp only
  refine (read_wholeQ _ _ _ _ _).trans ?_
  unfold cK
  simp only [kernelRun0_B.sl.r, kernelRun0_B.sl.r_1, kernelRun0_B.sl.r_2, kernelRun0_B.sl.r_3, kernelRun0_B.sl.r_4, kernelRun0_B.sl.r_5]
  rw [View.readAt_eq_ld, View.readAt_eq_ld, View.readAt_eq_ld, harg2.read_unread, harg5.read_unread, harg9.read_unread, View.ld_unit_lit' _ x0 (by decide), View.ld_unit_lit' _ x3 (by decide), View.ld_unit_lit' _ xs0 (by decide)]

theorem sA_eq (c : Dev nD) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (hc0 : cond0_0 i)
    (x0 : Vec Ideal S512x7680 .bf16) (x1 : Vec Ideal S7680x512 .fp8e4m3) (x2 : Vec Ideal S240x512 .i8) (x3 : Vec Ideal S1x512 .f32) (hs : ∀ y, 1 ≤ (x2 y : BitVec 8).toNat ∧ (x2 y : BitVec 8).toNat ≤ 254) :
    out0_A_5 (F := Ideal) c i arg2 harg2 arg3 harg3 arg4 harg4 arg5 harg5 arg6 harg6 arg7 harg7 arg8 harg8 arg9 harg9 arg10 harg10 hc0 x0 x1 x2 x3 = sK x0 (wblk x1 x2) x3 := by
  have hX : arg10.view.read (Elt Ideal) (arg10.view.writes (Elt Ideal) arg10.view.junk (kernelRun0_A.sl.HS1_1 (F := Ideal) c arg4 harg4 x2)) = k0_pay2 (F := Ideal) x2 := by
    unfold kernelRun0_A.sl.HS1_1
    refine (read_wholeI arg10.view _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 hc0 x1 x2 _ hX hs
  unfold out0_A_5 kernelRun0_A
  dsimp only
  refine (read_wholeS _ _ _ _ _).trans ?_
  unfold sK
  simp only [kernelRun0_A.sl.r, kernelRun0_A.sl.r_1, kernelRun0_A.sl.r_2, kernelRun0_A.sl.r_3, kernelRun0_A.sl.r_4, kernelRun0_A.sl.r_5]
  rw [hW, View.readAt_eq_ld, View.readAt_eq_ld, harg2.read_unread, harg5.read_unread, View.ld_unit_lit' _ x0 (by decide), View.ld_unit_lit' _ x3 (by decide)]

theorem sB_eq (c : Dev nD) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (hc0 : ¬cond0_0 i)
    (x0 : Vec Ideal S512x7680 .bf16) (x1 : Vec Ideal S7680x512 .fp8e4m3) (x2 : Vec Ideal S240x512 .i8) (x3 : Vec Ideal S1x512 .f32) (xs0 : Vec Ideal S7680x512 .bf16) :
    out0_B_5 (F := Ideal) c i arg2 harg2 arg3 harg3 arg4 harg4 arg5 harg5 arg6 harg6 arg7 harg7 arg8 harg8 arg9 harg9 arg10 harg10 hc0 x0 x1 x2 x3 xs0 = sK x0 xs0 x3 := by
  unfold out0_B_5 kernelRun0_B
  dsimp only
  refine (read_wholeS _ _ _ _ _).trans ?_
  unfold sK
  simp only [kernelRun0_B.sl.r, kernelRun0_B.sl.r_1, kernelRun0_B.sl.r_2, kernelRun0_B.sl.r_3, kernelRun0_B.sl.r_4, kernelRun0_B.sl.r_5]
  rw [View.readAt_eq_ld, View.readAt_eq_ld, View.readAt_eq_ld, harg2.read_unread, harg5.read_unread, harg9.read_unread, View.ld_unit_lit' _ x0 (by decide), View.ld_unit_lit' _ x3 (by decide), View.ld_unit_lit' _ xs0 (by decide)]

theorem dA_eq (c : Dev nD) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (hc0 : cond0_0 i)
    (x0 : Vec Ideal S512x7680 .bf16) (x1 : Vec Ideal S7680x512 .fp8e4m3) (x2 : Vec Ideal S240x512 .i8) (x3 : Vec Ideal S1x512 .f32) (hs : ∀ y, 1 ≤ (x2 y : BitVec 8).toNat ∧ (x2 y : BitVec 8).toNat ≤ 254) :
    out0_A_6 (F := Ideal) c i arg2 harg2 arg3 harg3 arg4 harg4 arg5 harg5 arg6 harg6 arg7 harg7 arg8 harg8 arg9 harg9 arg10 harg10 hc0 x0 x1 x2 x3 = dK x0 (wblk x1 x2) x3 := by
  have hX : arg10.view.read (Elt Ideal) (arg10.view.writes (Elt Ideal) arg10.view.junk (kernelRun0_A.sl.HS1_1 (F := Ideal) c arg4 harg4 x2)) = k0_pay2 (F := Ideal) x2 := by
    unfold kernelRun0_A.sl.HS1_1
    refine (read_wholeI arg10.view _ _ _ _).trans ?_
    rw [View.readAt_eq_ld, harg4.read_unread]
    exact congrArg _ (View.ld_unit_lit' _ _ (by decide))
  have hW := readW Variants.none c none i arg2 harg2 arg3 harg3 arg4 harg4 arg5 harg5 arg6 harg6 arg7 harg7 arg8 harg8 arg9 harg9 arg10 harg10 hc0 x1 x2 _ hX hs
  unfold out0_A_6 kernelRun0_A
  dsimp only
  refine (read_wholeQ _ _ _ _ _).trans ?_
  unfold dK
  simp only [kernelRun0_A.sl.r, kernelRun0_A.sl.r_1, kernelRun0_A.sl.r_2, kernelRun0_A.sl.r_3, kernelRun0_A.sl.r_4, kernelRun0_A.sl.r_5]
  rw [hW, View.readAt_eq_ld, View.readAt_eq_ld, harg2.read_unread, harg5.read_unread, View.ld_unit_lit' _ x0 (by decide), View.ld_unit_lit' _ x3 (by decide)]

theorem dB_eq (c : Dev nD) (i : grid0.Coords) (arg2 : Memref sig .tc .vmem S512x7680 .bf16) (harg2 : arg2.IsWhole) (arg3 : Memref sig .tc .vmem S7680x512 .fp8e4m3) (harg3 : arg3.IsWhole) (arg4 : Memref sig .tc .vmem S240x512 .i8) (harg4 : arg4.IsWhole) (arg5 : Memref sig .tc .vmem S1x512 .f32) (harg5 : arg5.IsWhole) (arg6 : Memref sig .tc .vmem S512x512 .fp8e4m3) (harg6 : arg6.IsWhole) (arg7 : Memref sig .tc .vmem S16x512 .f32) (harg7 : arg7.IsWhole) (arg8 : Memref sig .tc .vmem S512x512 .bf16) (harg8 : arg8.IsWhole) (arg9 : Memref sig .tc .vmem S7680x512 .bf16) (harg9 : arg9.IsWhole) (arg10 : Memref sig .tc .vmem S240x512 .i32) (harg10 : arg10.IsWhole) (hc0 : ¬cond0_0 i)
    (x0 : Vec Ideal S512x7680 .bf16) (x1 : Vec Ideal S7680x512 .fp8e4m3) (x2 : Vec Ideal S240x512 .i8) (x3 : Vec Ideal S1x512 .f32) (xs0 : Vec Ideal S7680x512 .bf16) :
    out0_B_6 (F := Ideal) c i arg2 harg2 arg3 harg3 arg4 harg4 arg5 harg5 arg6 harg6 arg7 harg7 arg8 harg8 arg9 harg9 arg10 harg10 hc0 x0 x1 x2 x3 xs0 = dK x0 xs0 x3 := by
  unfold out0_B_6 kernelRun0_B
  dsimp only
  refine (read_wholeQ _ _ _ _ _).trans ?_
  unfold dK
  simp only [kernelRun0_B.sl.r, kernelRun0_B.sl.r_1, kernelRun0_B.sl.r_2, kernelRun0_B.sl.r_3, kernelRun0_B.sl.r_4, kernelRun0_B.sl.r_5]
  rw [View.readAt_eq_ld, View.readAt_eq_ld, View.readAt_eq_ld, harg2.read_unread, harg5.read_unread, harg9.read_unread, View.ld_unit_lit' _ x0 (by decide), View.ld_unit_lit' _ x3 (by decide), View.ld_unit_lit' _ xs0 (by decide)]

end Cert.Value1
-- ==== Proof.Value1Blocks.lean ====
/- The blocks that the first layer's windows cut from the arrays, and what a point's payloads are of the whole arrays. -/
module

public import proofs.«01_k».proof.Proof.Value1Spec
public import proofs.«01_k».proof.Proof.Value1Rows
public import proofs.«01_k».proof.Proof.Value1Run

@[expose] public section

set_option maxRecDepth 16384

noncomputable section

namespace Cert.Value1

open Idealize.ShloMosaic Idealize.ShloMosaic.TcCoe Cert.Kernel1Ideal Cert.Kernel1Ideal.Gen
open Cert.Value (pow2)

variable (m : (ℓ : Loc nD τ sig) → Buf (Elt Ideal) ℓ) (c : Dev nD)

/-- The argument arrays of a core, as the memory holds them. -/
def argsOf : Args where
  hq := m ((c : Thread nD τ).loc main_arg0)
  w := m ((c : Thread nD τ).loc main_arg1)
  s := m ((c : Thread nD τ).loc main_arg2)
  b := m ((c : Thread nD τ).loc main_arg3)

theorem idx0 : ∀ t : Fin cfg0.N, win0_0.index t = ![t.val % 8, 0] := by decide +kernel
theorem idx1 : ∀ t : Fin cfg0.N, win0_1.index t = ![0, t.val / 8] := by decide +kernel
theorem idx2 : ∀ t : Fin cfg0.N, win0_2.index t = ![0, t.val / 8] := by decide +kernel
theorem idx3 : ∀ t : Fin cfg0.N, win0_3.index t = ![0, t.val / 8] := by decide +kernel
theorem idx4 : ∀ t : Fin cfg0.N, win0_4.index t = ![t.val % 8, t.val / 8] := by decide +kernel
theorem idx5 : ∀ t : Fin cfg0.N, win0_5.index t = ![t.val / 8, t.val % 8] := by decide +kernel
theorem idx6 : ∀ t : Fin cfg0.N, win0_6.index t = ![t.val % 8, t.val / 8] := by decide +kernel

theorem N_eq : cfg0.N = 56 := by decide +kernel

/-- Row `r` of row block `i`. -/
def row (i : Fin 8) (r : Fin 512) : Fin 4096 := ⟨512 * i.val + r.val, by omega⟩

/-- Column `q` of column block `j`. -/
def col (j : Fin 7) (q : Fin 512) : Fin 3584 := ⟨512 * j.val + q.val, by omega⟩

variable (t : Fin cfg0.N) (i : Fin 8) (j : Fin 7) (ht : t.val = 8 * j.val + i.val)

include ht in
theorem blk0 (r : Fin 512) (x : Fin 7680) :
    (iblk m c 0 t : Vec Ideal S512x7680 .bf16) (ix2 r x) = (argsOf m c).hq (ix2 (row i r) x) := by
  unfold argsOf row
  have e := idx0 t
  have e1 : t.val % 8 = i.val := by omega
  blk_ext [iblk, V, e, e1]

include ht in
theorem blk1 (x : Fin 7680) (q : Fin 512) :
    (iblk m c 1 t : Vec Ideal S7680x512 .fp8e4m3) (ix2 x q) = (argsOf m c).w (ix2 x (col j q)) := by
  unfold argsOf col
  have e := idx1 t
  have e1 : t.val / 8 = j.val := by omega
  blk_ext [iblk, V, e, e1]

include ht in
theorem blk2 (x : Fin 240) (q : Fin 512) :
    (iblk m c 2 t : Vec Ideal S240x512 .i8) (ix2 x q) = (argsOf m c).s (ix2 x (col j q)) := by
  unfold argsOf col
  have e := idx2 t
  have e1 : t.val / 8 = j.val := by omega
  blk_ext [iblk, V, e, e1]

include ht in
theorem blk3 (q : Fin 512) :
    (iblk m c 3 t : Vec Ideal S1x512 .f32) (ix2 0 q) = (argsOf m c).b (ix2 0 (col j q)) := by
  unfold argsOf col
  have e := idx3 t
  have e1 : t.val / 8 = j.val := by omega
  blk_ext [iblk, V, e, e1]

include ht in
theorem hK_blk (r q : Fin 512) :
    hK (iblk m c 0 t) (wblk (iblk m c 1 t) (iblk m c 2 t)) (iblk m c 3 t) r q = hG (argsOf m c) (row i r) (col j q) := by
  unfold hK hG
  rw [blk3 m c t i j ht]
  refine congrArg (fun s => max (s + _) 0) (Finset.sum_congr rfl fun x _ => ?_)
  rw [blk0 m c t i j ht]
  refine congrArg (fun s => _ * s) ?_
  show _ * pow2 ((iblk m c 2 t : Vec Ideal S240x512 .i8) (ix2 ⟨x.val / 32, _⟩ q)) = _
  rw [blk2 m c t i j ht]
  exact congrArg (fun s => s * _) (blk1 m c t i j ht x q)

include ht in
theorem aK_blk (r : Fin 512) (B : Fin 16) :
    aK (iblk m c 0 t) (wblk (iblk m c 1 t) (iblk m c 2 t)) (iblk m c 3 t) r B = aG (argsOf m c) (row i r) ⟨16 * j.val + B.val, by omega⟩ := by
  unfold aK aG
  refine congrArg amax32 (funext fun k => ?_)
  rw [hK_blk m c t i j ht]
  refine congrArg (hG _ _) (Fin.ext ?_)
  show 512 * j.val + (B.val * 32 + k.val) = (16 * j.val + B.val) * 32 + k.val
  omega

include ht in
theorem code_blk (r q : Fin 512) :
    cK (iblk m c 0 t) (wblk (iblk m c 1 t) (iblk m c 2 t)) (iblk m c 3 t) (ix2 r q) = cG (argsOf m c) (row i r) (col j q) := by
  unfold cK
  rw [pay13_apply, code_apply, hK_blk m c t i j ht, aK_blk m c t i j ht]
  unfold cG
  refine congrArg (fun B => code1 _ (aG _ _ B)) (Fin.ext ?_)
  show 16 * j.val + q.val / 32 = (512 * j.val + q.val) / 32
  omega

include ht in
theorem scale_blk (B : Fin 16) (r : Fin 512) :
    sK (iblk m c 0 t) (wblk (iblk m c 1 t) (iblk m c 2 t)) (iblk m c 3 t) (ix2 B r)
      = sG (argsOf m c) (row i r) ⟨16 * j.val + B.val, by omega⟩ := by
  unfold sK
  rw [pay12_apply, scale_apply, aK_blk m c t i j ht]
  rfl

include ht in
theorem scaled_blk (r q : Fin 512) :
    dK (iblk m c 0 t) (wblk (iblk m c 1 t) (iblk m c 2 t)) (iblk m c 3 t) (ix2 r q)
      = cG (argsOf m c) (row i r) (col j q) * sG (argsOf m c) (row i r) ⟨(col j q).val / 32, by omega⟩ := by
  rw [← code_blk m c t i j ht]
  unfold dK cK
  rw [pay1_apply, pay11_apply, pay13_apply, scale_apply, aK_blk m c t i j ht]
  unfold sG
  refine congrArg (fun B => _ * Ideal.exp2 (expR (aG _ _ B))) (Fin.ext ?_)
  show 16 * j.val + q.val / 32 = (512 * j.val + q.val) / 32
  omega

/-- Every scale byte is between 1 and 254. -/
def Finite : Prop := ∀ y, 1 ≤ ((argsOf m c).s y : BitVec 8).toNat ∧ ((argsOf m c).s y : BitVec 8).toNat ≤ 254

variable (hp : Finite m c)

include hp in
theorem blk2_fin (t : Fin cfg0.N) (y : S240x512.Idx) :
    1 ≤ ((iblk m c 2 t : Vec Ideal S240x512 .i8) y : BitVec 8).toNat ∧ ((iblk m c 2 t : Vec Ideal S240x512 .i8) y : BitVec 8).toNat ≤ 254 := by
  have hN := N_eq
  have htN : t.val < cfg0.N := t.isLt
  obtain ⟨x, q, rfl⟩ : ∃ (x : Fin 240) (q : Fin 512), y = ix2 x q := ⟨y 0, y 1, eq_ix2 y⟩
  rw [blk2 m c t ⟨t.val % 8, by omega⟩ ⟨t.val / 8, by omega⟩ (by show t.val = 8 * (t.val / 8) + t.val % 8; omega) x q]
  exact hp _

/-- What a point leaves: its codes, scales and scaled values, and the dequantised weights of its column block. -/
theorem outs (hp : Finite m c) : ∀ (n : ℕ) (hn : n < cfg0.N),
    outsAt0 m c n hn = (cK (iblk m c 0 ⟨n, hn⟩) (wblk (iblk m c 1 ⟨n, hn⟩) (iblk m c 2 ⟨n, hn⟩)) (iblk m c 3 ⟨n, hn⟩),
      sK (iblk m c 0 ⟨n, hn⟩) (wblk (iblk m c 1 ⟨n, hn⟩) (iblk m c 2 ⟨n, hn⟩)) (iblk m c 3 ⟨n, hn⟩),
      dK (iblk m c 0 ⟨n, hn⟩) (wblk (iblk m c 1 ⟨n, hn⟩) (iblk m c 2 ⟨n, hn⟩)) (iblk m c 3 ⟨n, hn⟩),
      wblk (iblk m c 1 ⟨n, hn⟩) (iblk m c 2 ⟨n, hn⟩)) := by
  intro n
  induction n with
  | zero =>
    intro hn
    refine (outsAt0_A m c ⟨0, hn⟩ rfl).trans ?_
    have hs := blk2_fin m c hp ⟨0, hn⟩
    rw [cA_eq (hs := hs), sA_eq (hs := hs), dA_eq (hs := hs), wA_eq (hs := hs)]
  | succ n ih =>
    intro hn
    by_cases h0 : (n + 1) % 8 = 0
    · refine (outsAt0_A m c ⟨n + 1, hn⟩ h0).trans ?_
      have hs := blk2_fin m c hp ⟨n + 1, hn⟩
      rw [cA_eq (hs := hs), sA_eq (hs := hs), dA_eq (hs := hs), wA_eq (hs := hs)]
    · refine (outsAt0_B m c ⟨n + 1, hn⟩ h0).trans ?_
      have hN := N_eq
      have hw : (outsAt0 m c n (Nat.lt_of_succ_lt hn)).2.2.2
          = wblk (iblk m c 1 ⟨n + 1, hn⟩) (iblk m c 2 ⟨n + 1, hn⟩) := by
        rw [ih (Nat.lt_of_succ_lt hn)]
        dsimp only
        have e1 : (iblk m c 1 ⟨n, Nat.lt_of_succ_lt hn⟩ : Vec Ideal S7680x512 .fp8e4m3) = iblk m c 1 ⟨n + 1, hn⟩ := by
          funext y
          obtain ⟨x, q, rfl⟩ : ∃ (x : Fin 7680) (q : Fin 512), y = ix2 x q := ⟨y 0, y 1, eq_ix2 y⟩
          rw [blk1 m c ⟨n, Nat.lt_of_succ_lt hn⟩ ⟨n % 8, by omega⟩ ⟨n / 8, by omega⟩ (by show n = 8 * (n / 8) + n % 8; omega) x q,
            blk1 m c ⟨n + 1, hn⟩ ⟨(n + 1) % 8, by omega⟩ ⟨n / 8, by omega⟩ (by show n + 1 = 8 * (n / 8) + (n + 1) % 8; omega) x q]
        have e2 : (iblk m c 2 ⟨n, Nat.lt_of_succ_lt hn⟩ : Vec Ideal S240x512 .i8) = iblk m c 2 ⟨n + 1, hn⟩ := by
          funext y
          obtain ⟨x, q, rfl⟩ : ∃ (x : Fin 240) (q : Fin 512), y = ix2 x q := ⟨y 0, y 1, eq_ix2 y⟩
          rw [blk2 m c ⟨n, Nat.lt_of_succ_lt hn⟩ ⟨n % 8, by omega⟩ ⟨n / 8, by omega⟩ (by show n = 8 * (n / 8) + n % 8; omega) x q,
            blk2 m c ⟨n + 1, hn⟩ ⟨(n + 1) % 8, by omega⟩ ⟨n / 8, by omega⟩ (by show n + 1 = 8 * (n / 8) + (n + 1) % 8; omega) x q]
        exact congrArg₂ wblk e1 e2
      rw [cB_eq, sB_eq, dB_eq]
      unfold sout0_B_0
      show (cK _ (outsAt0 m c n _).2.2.2 _, sK _ (outsAt0 m c n _).2.2.2 _, dK _ (outsAt0 m c n _).2.2.2 _, (outsAt0 m c n _).2.2.2) = _
      rw [hw]

end Cert.Value1
-- ==== Proof.Value1Kernel.lean ====
/- The first layer's three arrays after the kernel's run. -/
module

public import proofs.«01_k».proof.Proof.Value1Blocks

@[expose] public section

set_option maxRecDepth 16384

noncomputable section

namespace Cert.Value1

open Idealize.ShloMosaic Idealize.ShloMosaic.TcCoe Idealize.SL.Sem Cert.Kernel1Ideal Cert.Kernel1Ideal.Gen

variable (m : (ℓ : Loc nD τ sig) → Buf (Elt Ideal) ℓ) (c : Dev nD) (hp : Finite m c)

theorem pos (t : Fin cfg0.N) : ∃ (i : Fin 8) (j : Fin 7), t.val = 8 * j.val + i.val ∧ t.val % 8 = i.val ∧ t.val / 8 = j.val := by
  have hN := N_eq
  have htN : t.val < cfg0.N := t.isLt
  exact ⟨⟨t.val % 8, by omega⟩, ⟨t.val / 8, by omega⟩, by show t.val = 8 * (t.val / 8) + t.val % 8; omega, rfl, rfl⟩

include hp in
theorem arr4 : (dats m 0 c).arrAt 4 cfg0.N = codesG (argsOf m c) := by
  refine Pipeline.Dat.arrAt_eq_of_covers _ 4 _ (by decide +kernel) fun t hf y => ?_
  obtain ⟨i, j, ht, e1, e2⟩ := pos t
  have e := idx4 t
  blk_simp
  rw [after0_4, outs m c hp]
  show (cK _ _ _ : Vec Ideal S512x512 .fp8e4m3) y = _
  rw [eq_ix2 (y : S512x512.Idx)]
  refine (code_blk m c t i j ht ⟨(y 0).val, (y 0).isLt⟩ ⟨(y 1).val, (y 1).isLt⟩).trans ?_
  show codesG (argsOf m c) (ix2 (row i ⟨(y 0).val, (y 0).isLt⟩) (col j ⟨(y 1).val, (y 1).isLt⟩)) = _
  congr 1
  unfold row col
  blk_ext [e, e1, e2]

include hp in
theorem arr5 : (dats m 0 c).arrAt 5 cfg0.N = scalesG (argsOf m c) := by
  refine Pipeline.Dat.arrAt_eq_of_covers _ 5 _ (by decide +kernel) fun t hf y => ?_
  obtain ⟨i, j, ht, e1, e2⟩ := pos t
  have e := idx5 t
  blk_simp
  rw [after0_5, outs m c hp]
  show (sK _ _ _ : Vec Ideal S16x512 .f32) y = _
  rw [eq_ix2 (y : S16x512.Idx)]
  refine (scale_blk m c t i j ht ⟨(y 0).val, (y 0).isLt⟩ ⟨(y 1).val, (y 1).isLt⟩).trans ?_
  have hy0 : (y 0).val < 16 := (y 0).isLt
  show scalesG (argsOf m c) (ix2 (⟨16 * j.val + (y 0).val, by omega⟩ : Fin 112) (row i ⟨(y 1).val, (y 1).isLt⟩)) = _
  congr 1
  unfold row
  blk_ext [e, e1, e2]

include hp in
theorem arr6 : (dats m 0 c).arrAt 6 cfg0.N = scaledG (argsOf m c) := by
  refine Pipeline.Dat.arrAt_eq_of_covers _ 6 _ (by decide +kernel) fun t hf y => ?_
  obtain ⟨i, j, ht, e1, e2⟩ := pos t
  have e := idx6 t
  blk_simp
  rw [after0_6, outs m c hp]
  show (dK _ _ _ : Vec Ideal S512x512 .bf16) y = _
  rw [eq_ix2 (y : S512x512.Idx)]
  refine (scaled_blk m c t i j ht ⟨(y 0).val, (y 0).isLt⟩ ⟨(y 1).val, (y 1).isLt⟩).trans ?_
  show scaledG (argsOf m c) (ix2 (row i ⟨(y 0).val, (y 0).isLt⟩) (col j ⟨(y 1).val, (y 1).isLt⟩)) = _
  congr 1
  unfold row col
  blk_ext [e, e1, e2]

theorem kernel_run (hp : ∀ c, Finite m c) (ρ : Dev nD → PrngReg) : θ_run defs (onTc (τ := τ) (main (F := Ideal))) ⟨m, fun _ => 0, ρ⟩ (fun r => ∀ c : Dev nD,
    r.2.mem ((c.tc : Thread nD τ).loc main_v0_0) = codesG (argsOf m c) ∧ r.2.mem ((c.tc : Thread nD τ).loc main_v0_1) = scalesG (argsOf m c)
      ∧ r.2.mem ((c.tc : Thread nD τ).loc main_v0_2) = scaledG (argsOf m c)) := by
  refine (θ_run defs _ _).mono (fun r h c => ?_) (run_main m ρ)
  exact ⟨(h.out_eq c 4).trans (arr4 m c (hp c)), (h.out_eq c 5).trans (arr5 m c (hp c)), (h.out_eq c 6).trans (arr6 m c (hp c))⟩

end Cert.Value1
-- ==== Proof.Value1Ref.lean ====
/- The first layer's reference, place by place. -/
module

public import proofs.«01_k».proof.Proof.Value1Spec
public import proofs.«01_k».proof.Proof.Gen.Reference1Ideal.Skeleton
public import Idealize.ShloMosaic.Lib.Pipeline.ValueKit
public import Idealize.ShloMosaic.Lib.Pointwise

@[expose] public section

set_option maxRecDepth 16384

noncomputable section

namespace Cert.Value1.Ref

open Idealize.ShloMosaic Cert.Reference1Ideal Cert.Reference1Ideal.Gen
open Cert.Value (pow2)

variable (a : Args)

/-- The hidden values in blocks of 32 columns. -/
abbrev p6 : Vec Ideal S4096x112x32 .f32 := k0_pay6 (F := Ideal) a.s a.w a.hq a.b

theorem p6_apply (r : Fin 4096) (B : Fin 112) (k : Fin 32) : p6 a (ix3 r B k) = hG a r ⟨B.val * 32 + k.val, by omega⟩ := by
  unfold p6
  pointwise [k0_pay6]
  rfl

/-- The largest magnitudes of the blocks. -/
abbrev p7 : Vec Ideal S4096x112 .f32 := k0_pay7 (F := Ideal) a.s a.w a.hq a.b

/-- The largest magnitudes of the blocks of a vector. -/
def red (y : Vec Ideal S4096x112x32 .f32) : Vec Ideal S4096x112 .f32 :=
  multiReduction .maximumf [2] S4096x112 (absf (F := Ideal) (φ := .f32) y) 0xFF800000#32 reduces_S4096x112x32_S4096x112 (.inl rfl) rfl

theorem red_apply (y : Vec Ideal S4096x112x32 .f32) (r : Fin 4096) (B : Fin 112) :
    red y (ix2 r B) = amax32 fun k => y (ix3 r B k) := by
  unfold red
  pointwise
  rfl

theorem p7_eq : p7 a = red (p6 a) := by
  unfold p7 p6 k0_pay7 red
  rfl

theorem p7_apply (r : Fin 4096) (B : Fin 112) : p7 a (ix2 r B) = aG a r B := by
  rw [p7_eq, red_apply]
  simp only [p6_apply]
  rfl

/-- Ones where the magnitude over 448 is at least the power of two, zeros elsewhere. -/
def ones (v : Vec Ideal S4096x112 .f32) : Vec Ideal S4096x112x252 .f32 :=
  select (cmpf (F := Ideal) (φ := .f32) .oge
      (broadcastTo S4096x112x252 (shapeCast S4096x112x1 (mulf (F := Ideal) (φ := .f32) v (broadcast S4096x112 (Scalar.ofBits .f32 0x3B124925#32))) shapeCasts_S4096x112_S4096x112x1) broadcasts_S4096x112x1_S4096x112x252)
      (broadcastTo S4096x112x252 (exp2 (F := Ideal) (φ := .f32) (sitofp (F := Ideal) .f32 (subi (iota .tc S1x1x252 32 [2] iota_S1x1x252_d2_w32) (broadcast S1x1x252 126#32)))) broadcasts_S1x1x252_S4096x112x252))
    (broadcast S4096x112x252 (Scalar.ofBits .f32 0x3F800000#32 : Ideal .f32)) (broadcast S4096x112x252 (Scalar.ofBits .f32 0x00000000#32 : Ideal .f32))

theorem ones_apply (v : Vec Ideal S4096x112 .f32) (r : Fin 4096) (B : Fin 112) (k : Fin 252) :
    ones v (ix3 r B k) = if powR k ≤ v (ix2 r B) * Ideal.ofBits .f32 0x3B124925#32 then (1 : EReal) else 0 := by
  unfold ones
  pointwise
  rfl

/-- The sum over the powers of two. -/
def summ (y : Vec Ideal S4096x112x252 .f32) : Vec Ideal S4096x112 .f32 :=
  multiReduction (F := Ideal) (φ := .f32) .add [2] S4096x112 y 0x00000000#32 reduces_S4096x112x252_S4096x112 (.inl rfl) rfl

theorem summ_apply (y : Vec Ideal S4096x112x252 .f32) (r : Fin 4096) (B : Fin 112) :
    summ y (ix2 r B) = ∑ k : Fin 252, y (ix3 r B k) := by
  unfold summ
  pointwise

/-- A count less 126. -/
def less (v : Vec Ideal S4096x112 .f32) : Vec Ideal S4096x112 .f32 :=
  subf (F := Ideal) (φ := .f32) v (broadcast S4096x112 (Scalar.ofBits .f32 0x42FC0000#32))

theorem less_apply (v : Vec Ideal S4096x112 .f32) (r : Fin 4096) (B : Fin 112) :
    less v (ix2 r B) = v (ix2 r B) - Ideal.ofBits .f32 0x42FC0000#32 := by
  unfold less
  pointwise

/-- The counted exponents. -/
abbrev p8 : Vec Ideal S4096x112 .f32 := k0_pay8 (F := Ideal) a.s a.w a.hq a.b

theorem p8_eq : p8 a = less (summ (ones (p7 a))) := by
  unfold p8 p7 k0_pay8 less summ ones
  rfl

theorem p8_apply (r : Fin 4096) (B : Fin 112) :
    p8 a (ix2 r B) = cnt (aG a r B * Ideal.ofBits .f32 0x3B124925#32) - Ideal.ofBits .f32 0x42FC0000#32 := by
  rw [p8_eq, less_apply, summ_apply]
  simp only [ones_apply, p7_apply]
  rfl

/-- The zero that the magnitudes are compared with. -/
abbrev z0 : Ideal .f32 := Scalar.ofBits .f32 0x00000000#32

/-- The exponents. -/
abbrev p1 : Vec Ideal S4096x112 .f32 := k0_pay1 (F := Ideal) (p7 a) (p8 a) z0

theorem pay1_apply (u v : Vec Ideal S4096x112 .f32) (r : Fin 4096) (B : Fin 112) :
    k0_pay1 (F := Ideal) u v z0 (ix2 r B) = if u (ix2 r B) = 0 then 0 else v (ix2 r B) := by
  pointwise [k0_pay1]

theorem p1_apply (r : Fin 4096) (B : Fin 112) : p1 a (ix2 r B) = expR (aG a r B) := by
  unfold p1
  rw [pay1_apply, p7_apply, p8_apply]
  rfl

theorem pay2_apply (y : Vec Ideal S4096x112x32 .f32) (u v : Vec Ideal S4096x112 .f32) (r : Fin 4096) (q : Fin 3584) :
    k0_pay2 (F := Ideal) y u v z0 (ix2 r q)
      = min (Ideal.ofBits .f32 0x43E00000#32) (max (Ideal.ofBits .f32 0xC3E00000#32)
          (y (ix3 r ⟨q.val / 32, by omega⟩ ⟨q.val % 32, by omega⟩) * Ideal.exp2 (0 - k0_pay1 (F := Ideal) u v z0 (ix2 r ⟨q.val / 32, by omega⟩)))) := by
  unfold k0_pay2
  generalize k0_pay1 (F := Ideal) u v z0 = e
  pointwise
  rfl

/-- The reference's codes. -/
def p2 : Vec Ideal S4096x3584 .fp8e4m3 := k0_pay2 (F := Ideal) (p6 a) (p7 a) (p8 a) z0

theorem p2_apply (r : Fin 4096) (q : Fin 3584) : p2 a (ix2 r q) = cG a r q := by
  unfold p2
  rw [pay2_apply, p6_apply]
  have hq : (⟨q.val / 32 * 32 + q.val % 32, by omega⟩ : Fin 3584) = q := Fin.ext (by show q.val / 32 * 32 + q.val % 32 = q.val; omega)
  unfold cG code1
  refine congrArg₂ (fun h s => min (Ideal.ofBits .f32 0x43E00000#32) (max (Ideal.ofBits .f32 0xC3E00000#32) (h * Ideal.exp2 (0 - s)))) (congrArg _ hq) ?_
  exact p1_apply a r _

theorem pay3_apply (u v : Vec Ideal S4096x112 .f32) (r : Fin 4096) (B : Fin 112) :
    k0_pay3 (F := Ideal) u v z0 (ix2 r B) = Ideal.exp2 (k0_pay1 (F := Ideal) u v z0 (ix2 r B)) := by
  unfold k0_pay3
  generalize k0_pay1 (F := Ideal) u v z0 = e
  pointwise
  rfl

theorem p3_apply (r : Fin 4096) (B : Fin 112) : k0_pay3 (F := Ideal) (p7 a) (p8 a) z0 (ix2 r B) = sG a r B := by
  rw [pay3_apply]
  exact congrArg Ideal.exp2 (p1_apply a r B)

/-- The reference's scales. -/
def p4 : Vec Ideal S112x4096 .f32 := k0_pay4 (F := Ideal) (p7 a) (p8 a) z0

theorem pay4_apply (u v : Vec Ideal S4096x112 .f32) (r : Fin 4096) (B : Fin 112) :
    k0_pay4 (F := Ideal) u v z0 (ix2 B r) = k0_pay3 (F := Ideal) u v z0 (ix2 r B) := by
  unfold k0_pay4
  generalize k0_pay3 (F := Ideal) u v z0 = e
  pointwise

theorem p4_apply (r : Fin 4096) (B : Fin 112) : p4 a (ix2 B r) = sG a r B := by
  unfold p4
  rw [pay4_apply, p3_apply]

/-- The reference's codes times their scales. -/
def p5 : Vec Ideal S4096x3584 .bf16 := k0_pay5 (F := Ideal) (p6 a) (p7 a) (p8 a) z0

theorem pay5_apply (y : Vec Ideal S4096x112x32 .f32) (u v : Vec Ideal S4096x112 .f32) (r : Fin 4096) (q : Fin 3584) :
    k0_pay5 (F := Ideal) y u v z0 (ix2 r q)
      = k0_pay2 (F := Ideal) y u v z0 (ix2 r q) * k0_pay3 (F := Ideal) u v z0 (ix2 r ⟨q.val / 32, by omega⟩) := by
  unfold k0_pay5
  generalize k0_pay2 (F := Ideal) y u v z0 = e
  generalize k0_pay3 (F := Ideal) u v z0 = f
  pointwise

theorem p5_apply (r : Fin 4096) (q : Fin 3584) : p5 a (ix2 r q) = cG a r q * sG a r ⟨q.val / 32, by omega⟩ := by
  unfold p5
  rw [pay5_apply, p3_apply]
  exact congrArg (fun s => s * _) (p2_apply a r q)

theorem p2_codes : p2 a = codesG a := by
  funext y
  rw [eq_ix2 y]
  exact p2_apply a (y 0) (y 1)

theorem p4_scales : p4 a = scalesG a := by
  funext y
  rw [eq_ix2 y]
  exact p4_apply a (y 1) (y 0)

theorem p5_scaled : p5 a = scaledG a := by
  funext y
  rw [eq_ix2 y]
  exact p5_apply a (y 0) (y 1)

end Cert.Value1.Ref
-- ==== Proof.Value1RefRun.lean ====
/- The first layer's three arrays after the reference's run. -/
module

public import proofs.«01_k».proof.Proof.Value1Ref
public import proofs.«01_k».proof.Proof.Gen.Reference1Ideal.Frame

@[expose] public section

set_option maxRecDepth 16384

noncomputable section

namespace Cert.Value1.Ref

open Idealize.ShloMosaic Idealize.ShloMosaic.TcCoe Idealize.SL.Sem Cert.Reference1Ideal Cert.Reference1Ideal.Gen

variable (m : (ℓ : Loc nD τ sig) → Buf (Elt Ideal) ℓ) (c : Dev nD)

/-- The argument arrays of a core, as the memory holds them. -/
def argsOf : Args where
  hq := m ((c : Thread nD τ).loc main_arg0)
  w := m ((c : Thread nD τ).loc main_arg1)
  s := m ((c : Thread nD τ).loc main_arg2)
  b := m ((c : Thread nD τ).loc main_arg3)

theorem idx : (∀ t, win0_0.index t = ![0, 0]) ∧ (∀ t, win0_1.index t = ![0, 0]) ∧ (∀ t, win0_2.index t = ![0, 0]) ∧ (∀ t, win0_3.index t = ![0, 0]) := by
  decide +kernel

variable (t : Fin cfg0.N)

theorem blk0 : (iblk m c 0 t : Vec Ideal S4096x7680 .bf16) = (argsOf m c).hq := by
  funext y
  unfold argsOf
  have e := idx.1 t
  rw [eq_ix2 y]
  blk_ext [iblk, V, e]

theorem blk1 : (iblk m c 1 t : Vec Ideal S7680x3584 .fp8e4m3) = (argsOf m c).w := by
  funext y
  unfold argsOf
  have e := idx.2.1 t
  rw [eq_ix2 y]
  blk_ext [iblk, V, e]

theorem blk2 : (iblk m c 2 t : Vec Ideal S240x3584 .i8) = (argsOf m c).s := by
  funext y
  unfold argsOf
  have e := idx.2.2.1 t
  rw [eq_ix2 y]
  blk_ext [iblk, V, e]

theorem blk3 : (iblk m c 3 t : Vec Ideal S1x3584 .f32) = (argsOf m c).b := by
  funext y
  unfold argsOf
  have e := idx.2.2.2 t
  rw [eq_ix2 y]
  blk_ext [iblk, V, e]

theorem out4_eq (x0 : Vec Ideal S4096x7680 .bf16) (x1 : Vec Ideal S7680x3584 .fp8e4m3) (x2 : Vec Ideal S240x3584 .i8) (x3 : Vec Ideal S1x3584 .f32) :
    out0_4 (F := Ideal) x0 x1 x2 x3 = p2 ⟨x0, x1, x2, x3⟩ := by
  unfold out0_4 k0_pay9 k0_pay10 k0_pay11
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem out5_eq (x0 : Vec Ideal S4096x7680 .bf16) (x1 : Vec Ideal S7680x3584 .fp8e4m3) (x2 : Vec Ideal S240x3584 .i8) (x3 : Vec Ideal S1x3584 .f32) :
    out0_5 (F := Ideal) x0 x1 x2 x3 = p4 ⟨x0, x1, x2, x3⟩ := by
  unfold out0_5 k0_pay10 k0_pay11
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem out6_eq (x0 : Vec Ideal S4096x7680 .bf16) (x1 : Vec Ideal S7680x3584 .fp8e4m3) (x2 : Vec Ideal S240x3584 .i8) (x3 : Vec Ideal S1x3584 .f32) :
    out0_6 (F := Ideal) x0 x1 x2 x3 = p5 ⟨x0, x1, x2, x3⟩ := by
  unfold out0_6 k0_pay9 k0_pay10 k0_pay11
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem arr4 : (dats m 0 c).arrAt 4 cfg0.N = codesG (argsOf m c) := by
  refine (dats m 0 c).arrAt_eq_of_after_last 4 t0_0 (by decide +kernel) _ fun j => ?_
  blk_simp
  rw [after0_4, blk0, blk1, blk2, blk3, out4_eq, p2_codes]

theorem arr5 : (dats m 0 c).arrAt 5 cfg0.N = scalesG (argsOf m c) := by
  refine (dats m 0 c).arrAt_eq_of_after_last 5 t0_0 (by decide +kernel) _ fun j => ?_
  blk_simp
  rw [after0_5, blk0, blk1, blk2, blk3, out5_eq, p4_scales]

theorem arr6 : (dats m 0 c).arrAt 6 cfg0.N = scaledG (argsOf m c) := by
  refine (dats m 0 c).arrAt_eq_of_after_last 6 t0_0 (by decide +kernel) _ fun j => ?_
  blk_simp
  rw [after0_6, blk0, blk1, blk2, blk3, out6_eq, p5_scaled]

theorem reference_run (ρ : Dev nD → PrngReg) : θ_run defs (onTc (τ := τ) (main (F := Ideal))) ⟨m, fun _ => 0, ρ⟩ (fun r => ∀ c : Dev nD,
    r.2.mem ((c.tc : Thread nD τ).loc main_v0_0) = codesG (argsOf m c) ∧ r.2.mem ((c.tc : Thread nD τ).loc main_v0_1) = scalesG (argsOf m c)
      ∧ r.2.mem ((c.tc : Thread nD τ).loc main_v0_2) = scaledG (argsOf m c)) := by
  refine (θ_run defs _ _).mono (fun r h c => ?_) (run_main m ρ)
  exact ⟨(h.out_eq c 4).trans (arr4 m c), (h.out_eq c 5).trans (arr5 m c), (h.out_eq c 6).trans (arr6 m c)⟩

end Cert.Value1.Ref
-- ==== Proof.Value1Alg.lean ====
/- The first layer's kernel and its reference leave the same three arrays. -/
module

public import proofs.«01_k».proof.Defs
public import proofs.«01_k».proof.Proof.Frame1Bits
public import proofs.«01_k».proof.Proof.Frame1Ideal
public import proofs.«01_k».proof.Proof.Value1Kernel
public import proofs.«01_k».proof.Proof.Value1RefRun

@[expose] public section

set_option maxRecDepth 16384

noncomputable section

namespace Cert.Value1

open Idealize.ShloMosaic Idealize.ShloMosaic.TcCoe Idealize.SL.Sem

/-- The precondition's side condition. -/
theorem preFacts : Cert.Pre_scales1_finite.Facts := ⟨by decide⟩

theorem byte_bounds : ∀ n : Fin (2 ^ 8), IntOp.andi (IntOp.cmpi .uge (BitVec.ofFin (w := 8) n) 1#8) (IntOp.cmpi .ule (BitVec.ofFin (w := 8) n) 254#8) = 1#1 →
    1 ≤ n.val ∧ n.val ≤ 254 := by decide +kernel

theorem finite_of_pre (m : (ℓ : Loc Cert.Kernel1Ideal.nD Cert.Kernel1Ideal.τ Cert.Kernel1Ideal.sig) → Buf (Elt Ideal) ℓ)
    (h : Cert.Pre_Kernel1Ideal_scales1_finite (hPre_scales1_finite := preFacts) m) (c : Dev Cert.Kernel1Ideal.nD) : Finite m c := by
  intro y
  have hy := congrFun (h c) y
  exact byte_bounds ⟨((argsOf m c).s y : BitVec 8).toNat, ((argsOf m c).s y : BitVec 8).isLt⟩ hy

theorem quiescent_Kernel1Ideal_pre : Cert.quiescent_Kernel1Ideal_pre_scales1_finite (hKernel1Ideal := Cert.Kernel1Ideal.Gen.facts) (hPre_scales1_finite := preFacts) :=
  fun m ρ _ => Cert.Kernel1Ideal.Gen.frame m ρ

theorem quiescent_Reference1Ideal_pre : Cert.quiescent_Reference1Ideal_pre_scales1_finite (hReference1Ideal := Cert.Reference1Ideal.Gen.facts) (hPre_scales1_finite := preFacts) :=
  fun m ρ _ => Cert.Reference1Ideal.Gen.frame m ρ

theorem algebraic : Cert.algebraic_Kernel1Ideal_Reference1Ideal_pre_scales1_finite (hKernel1Ideal := Cert.Kernel1Ideal.Gen.facts)
    (hReference1Ideal := Cert.Reference1Ideal.Gen.facts) (hPre_scales1_finite := preFacts) := by
  intro m g m' g' hpre harg
  have hargs : ∀ c : Dev Cert.Kernel1Ideal.nD, Ref.argsOf m' c = argsOf m c := fun c => by
    obtain ⟨h0, h1, h2, h3⟩ := harg c
    unfold Ref.argsOf argsOf
    rw [h0, h1, h2, h3]
  refine ⟨fun c => codesG (argsOf m c), fun c => scalesG (argsOf m c), fun c => scaledG (argsOf m c), ?_, ?_⟩
  · refine (θ_run _ _ _).mono (fun r h c => ?_) (θ_run_and (kernel_run m (finite_of_pre m hpre) g) (Cert.Kernel1Ideal.Gen.unchanged m g))
    exact ⟨(h.1 c).1, (h.1 c).2.1, (h.1 c).2.2, h.2 c⟩
  · refine (θ_run _ _ _).mono (fun r h c => ?_) (θ_run_and (Ref.reference_run m' g') (Cert.Reference1Ideal.Gen.unchanged m' g'))
    exact ⟨(h.1 c).1.trans (congrArg codesG (hargs c)), (h.1 c).2.1.trans (congrArg scalesG (hargs c)), (h.1 c).2.2.trans (congrArg scaledG (hargs c)), h.2 c⟩

end Cert.Value1
-- ==== Proof.Value2Scalar.lean ====
/- Four-bit codes: the words they are unpacked from, and the fp8 numbers their patterns stand for. -/
module

public import proofs.«01_k».proof.Proof.ValueScalar
public import proofs.«01_k».proof.Proof.Gen.Kernel2Ideal.Skeleton
public import Idealize.ShloMosaic.Lib.BitcastFour

@[expose] public section

set_option maxRecDepth 16384

noncomputable section

namespace Cert.Value2

open Idealize.ShloMosaic Cert.Kernel2Ideal Cert.Kernel2Ideal.Gen Cert.Value

/-- The low four bits of a byte, as a number. -/
def nibLo (s : BitVec 8) : EReal := FloatOps.sitofp (F := Ideal) FTy.f32 (IntOp.andi (BitVec.setWidth 32 s) 15#32)

/-- The high four bits of a byte, as a number. -/
def nibHi (s : BitVec 8) : EReal := FloatOps.sitofp (F := Ideal) FTy.f32 (IntOp.shrsi ArithUnit.vector (BitVec.setWidth 32 s) 4#32)

/-- A pooled value: the weighted sum of the bag's four codes, and of its four biases. -/
def tok (bw es eb n : Fin 4 → EReal) : EReal := ∑ p, bw p * es p * n p + ∑ p, bw p * eb p

theorem small : ∀ n : Fin (2 ^ 8), n.val < 16 →
    ((BitVec.ofFin (w := 8) n).extractLsb' 7 1 == 1#1) = false ∧
    (((BitVec.ofFin (w := 8) n).extractLsb' 3 4).toNat = 0 ∧ ((BitVec.ofFin (w := 8) n).extractLsb' 0 3).toNat = n.val ∨
      ((BitVec.ofFin (w := 8) n).extractLsb' 3 4).toNat = 1 ∧ 8 + ((BitVec.ofFin (w := 8) n).extractLsb' 0 3).toNat = n.val) := by decide +kernel

/-- The fp8 number of a four-bit pattern is the pattern over 512. -/
theorem e4_small (s : BitVec 8) (h : s.toNat < 16) : Ideal.e4m3fn s = (((s.toNat : ℝ) * (2 : ℝ) ^ (-9 : Int) : ℝ) : EReal) := by
  obtain ⟨f1, f2⟩ := small s.toFin h
  change (s.extractLsb' 7 1 == 1#1) = false at f1
  change (s.extractLsb' 3 4).toNat = 0 ∧ (s.extractLsb' 0 3).toNat = s.toNat ∨ (s.extractLsb' 3 4).toNat = 1 ∧ 8 + (s.extractLsb' 0 3).toNat = s.toNat at f2
  unfold Ideal.e4m3fn
  simp only [f1]
  rcases f2 with ⟨a, b⟩ | ⟨a, b⟩
  · rw [if_neg (by omega), if_pos a, b]
    simp
  · rw [if_neg (by omega), if_neg (by omega), a, b]
    norm_num

theorem ofBits_512 : Ideal.ofBits .f32 0x44000000#32 = ((512 : ℝ) : EReal) := by
  simp [Ideal.ofBits, Ideal.ieee]
  rw [← EReal.coe_mul]; norm_num

theorem small_mul (s : BitVec 8) (h : s.toNat < 16) (a : EReal) :
    Ideal.e4m3fn s * (a * Ideal.ofBits .f32 0x44000000#32) = a * (((s.toNat : ℝ) : ℝ) : EReal) := by
  rw [e4_small s h, ofBits_512, mul_left_comm, ← EReal.coe_mul]
  congr 2
  norm_num
  ring

theorem lo_bits : ∀ n : Fin (2 ^ 8), (IntOp.andi (BitVec.setWidth 32 (BitVec.ofFin (w := 8) n)) 15#32).toInt = ((BitVec.ofFin (w := 8) n &&& 15#8).toNat : ℤ)
    ∧ (BitVec.ofFin (w := 8) n &&& 15#8).toNat < 16 := by decide +kernel

theorem hi_bits : ∀ n : Fin (2 ^ 8), (IntOp.shrsi ArithUnit.vector (BitVec.setWidth 32 (BitVec.ofFin (w := 8) n)) 4#32).toInt = ((BitVec.ofFin (w := 8) n >>> 4).toNat : ℤ)
    ∧ (BitVec.ofFin (w := 8) n >>> 4).toNat < 16 := by decide +kernel

theorem lo_mul (s : BitVec 8) (a : EReal) : Ideal.e4m3fn (s &&& 15#8) * (a * Ideal.ofBits .f32 0x44000000#32) = a * nibLo s := by
  obtain ⟨e, h⟩ := lo_bits s.toFin
  change (IntOp.andi (BitVec.setWidth 32 s) 15#32).toInt = ((s &&& 15#8).toNat : ℤ) at e
  rw [small_mul _ h]
  congr 1
  show _ = (((IntOp.andi (BitVec.setWidth 32 s) 15#32).toInt : ℝ) : EReal)
  rw [e]
  norm_num

theorem hi_mul (s : BitVec 8) (a : EReal) : Ideal.e4m3fn (s >>> 4) * (a * Ideal.ofBits .f32 0x44000000#32) = a * nibHi s := by
  obtain ⟨e, h⟩ := hi_bits s.toFin
  change (IntOp.shrsi ArithUnit.vector (BitVec.setWidth 32 s) 4#32).toInt = ((s >>> 4).toNat : ℤ) at e
  change (s >>> 4).toNat < 16 at h
  rw [small_mul _ h]
  congr 1
  show _ = (((IntOp.shrsi ArithUnit.vector (BitVec.setWidth 32 s) 4#32).toInt : ℝ) : EReal)
  rw [e, Int.cast_natCast]

/-- A word of sixteen rows read as four bytes each. -/
theorem bytes_getLsbD (y : S16x128.Idx → BitVec 32) (h : S16x128.Bitcasts 32 S64x128 8) (r : Fin 64) (b : Fin 128) (i : ℕ) (hi : i < 8) :
    (bitcast S64x128 8 y h (ix2 r b)).getLsbD i = (y (ix2 ⟨r.val / 4, by omega⟩ b)).getLsbD (8 * (r.val % 4) + i) := by
  rw [bitcast_getLsbD y h _ i hi (by decide)]
  have er : Shape.row S64x128 (ix2 r b) = r.val := rfl
  have e2 : (Shape.row S64x128 (ix2 r b) * 8 + i) % 32 = 8 * (r.val % 4) + i := by rw [er]; omega
  rw [e2]
  congr 2
  funext c
  match c with
  | ⟨0, _⟩ => exact Fin.ext ((h.srcIdx_row _ _ _ ⟨0, Nat.zero_lt_two⟩ rfl).trans (by show _ = r.val / 4; rw [er]; omega))
  | ⟨1, _⟩ => exact Fin.ext (h.srcIdx_other _ _ _ ⟨1, Nat.one_lt_two⟩ (by show ¬ 1 + 2 = 2; omega))

theorem word_getLsbD (x : S64x128.Idx → BitVec 8) (h : S64x128.Bitcasts 8 S16x128 32) (r : Fin 64) (b : Fin 128) (q : ℕ) (hq : q < 8) :
    (bitcast S16x128 32 x h (ix2 ⟨r.val / 4, by omega⟩ b)).getLsbD (8 * (r.val % 4) + q) = (x (ix2 r b)).getLsbD q :=
  (bitcast_8_32_getLsbD_ix2 x h ⟨r.val / 4, by omega⟩ b (8 * (r.val % 4) + q) (by omega) r (by show r.val = 4 * (r.val / 4) + _; omega)).trans
    (congrArg (fun n => (x (ix2 r b)).getLsbD n) (by omega))

theorem mask_bits : ∀ q : Fin 32, (252645135#32 : BitVec 32).getLsbD q.val = decide (q.val % 8 < 4) := by decide +kernel
theorem fifteen_bits : ∀ q : Fin 8, (15#8 : BitVec 8).getLsbD q.val = decide (q.val < 4) := by decide +kernel

theorem lo_word (x : S64x128.Idx → BitVec 8) (h : S64x128.Bitcasts 8 S16x128 32) (h' : S16x128.Bitcasts 32 S64x128 8) (r : Fin 64) (b : Fin 128) :
    (bitcast S64x128 8 (andi (bitcast S16x128 32 x h) (broadcast S16x128 252645135#32)) h' (ix2 r b) : BitVec 8) = x (ix2 r b) &&& 15#8 := by
  apply BitVec.eq_of_getLsbD_eq
  intro i hi
  rw [bytes_getLsbD _ _ r b i hi]
  show ((bitcast S16x128 32 x h (ix2 ⟨r.val / 4, _⟩ b)) &&& (252645135#32 : BitVec 32)).getLsbD _ = _
  rw [BitVec.getLsbD_and, BitVec.getLsbD_and, word_getLsbD x h r b i hi]
  have m := mask_bits ⟨8 * (r.val % 4) + i, by omega⟩
  have f := fifteen_bits ⟨i, hi⟩
  dsimp only at m f
  rw [m, f, show (8 * (r.val % 4) + i) % 8 = i by omega]

theorem hi_word (x : S64x128.Idx → BitVec 8) (h : S64x128.Bitcasts 8 S16x128 32) (h' : S16x128.Bitcasts 32 S64x128 8) (r : Fin 64) (b : Fin 128) :
    (bitcast S64x128 8 (andi (shrui (bitcast S16x128 32 x h) (broadcast S16x128 4#32)) (broadcast S16x128 252645135#32)) h' (ix2 r b) : BitVec 8) = x (ix2 r b) >>> 4 := by
  apply BitVec.eq_of_getLsbD_eq
  intro i hi
  rw [bytes_getLsbD _ _ r b i hi]
  show ((IntOp.shrui ArithUnit.vector (bitcast S16x128 32 x h (ix2 ⟨r.val / 4, _⟩ b)) 4#32) &&& (252645135#32 : BitVec 32)).getLsbD _ = _
  rw [BitVec.getLsbD_and]
  have m := mask_bits ⟨8 * (r.val % 4) + i, by omega⟩
  dsimp only at m
  rw [m, show (8 * (r.val % 4) + i) % 8 = i by omega, BitVec.getLsbD_ushiftRight]
  have e : (IntOp.shrui ArithUnit.vector (bitcast S16x128 32 x h (ix2 ⟨r.val / 4, by omega⟩ b)) 4#32) = (bitcast S16x128 32 x h (ix2 ⟨r.val / 4, by omega⟩ b)) >>> 4 := rfl
  rw [e, BitVec.getLsbD_ushiftRight]
  by_cases h4 : i < 4
  · rw [show 4 + (8 * (r.val % 4) + i) = 8 * (r.val % 4) + (4 + i) by omega, word_getLsbD x h r b (4 + i) (by omega)]
    simp [h4]
  · simp [h4, BitVec.getLsbD_of_ge (x (ix2 r b)) (4 + i) (by omega)]

end Cert.Value2
-- ==== Proof.Value2Spec.lean ====
/- The pooling call: what it computes, value by value. -/
module

public import proofs.«01_k».proof.Proof.Value2Scalar

@[expose] public section

set_option maxRecDepth 16384

noncomputable section

namespace Cert.Value2

open Idealize.ShloMosaic Cert.Kernel2Ideal Cert.Kernel2Ideal.Gen
open Cert.Value (scaleOf codeOf ofBits_ninf)

/-- A pooled value at lane `d`: the low four bits of the codes give the first 64 lanes, the high four bits the others. -/
def tk (bw es eb : Fin 4 → EReal) (q : Fin 4 → Fin 64 → BitVec 8) (d : Fin 128) : EReal :=
  if h : d.val < 64 then tok bw es eb (fun p => nibLo (q p ⟨d.val, h⟩))
  else tok bw es eb (fun p => nibHi (q p ⟨d.val - 64, by omega⟩))

/-- The argument arrays: packed codes, scales, biases and bag weights. -/
structure Args where
  codes : Vec Ideal S160x4x64x4096 .i8
  es : Vec Ideal S160x4x4096 .f32
  eb : Vec Ideal S160x4x4096 .f32
  bw : Vec Ideal S160x4x4096 .f32

variable (a : Args)

/-- The pooled value of feature `f`, lane `d`, sample `b`. -/
def xG (f : Fin 160) (d : Fin 128) (b : Fin 4096) : EReal :=
  tk (fun p => a.bw (ix3 f p b)) (fun p => a.es (ix3 f p b)) (fun p => a.eb (ix3 f p b)) (fun p r => a.codes (ix4 f p r b)) d

/-- The magnitude of a value. -/
def mag (x : EReal) : EReal := FloatOps.absf (F := Ideal) (φ := .f32) x

/-- The largest magnitude of a sample. -/
def amaxG (b : Fin 4096) : EReal := Finset.univ.sup fun p : Fin 160 × Fin 128 => mag (xG a p.1 p.2 b)

/-- The codes. -/
def codesG : Vec Ideal S4096x160x128 .fp8e4m3 := fun y =>
  codeOf (xG a ⟨(y 1).val, (y 1).isLt⟩ ⟨(y 2).val, (y 2).isLt⟩ ⟨(y 0).val, (y 0).isLt⟩) (scaleOf (amaxG a ⟨(y 0).val, (y 0).isLt⟩))

/-- The scales, in blocks of 128 samples. -/
def scalesG : Vec Ideal S32x1x128 .f32 := fun y =>
  scaleOf (amaxG a ⟨128 * (y 0).val + (y 2).val, by
    have h0 : (y 0).val < 32 := (y 0).isLt
    have h2 : (y 2).val < 128 := (y 2).isLt
    omega⟩)

/-- The scales, one row of equal lanes a sample. -/
def colG : Vec Ideal S4096x128 .f32 := fun y => scaleOf (amaxG a ⟨(y 0).val, (y 0).isLt⟩)

/-- The first hundred features' pooled values. -/
def rgG : Vec Ideal S100x4096x128 .f32 := fun y =>
  xG a ⟨(y 0).val, Nat.lt_trans (y 0).isLt (by decide)⟩ ⟨(y 2).val, (y 2).isLt⟩ ⟨(y 1).val, (y 1).isLt⟩

/-- The other sixty features' pooled values. -/
def rlG : Vec Ideal S60x4096x128 .f32 := fun y =>
  xG a ⟨100 + (y 0).val, by have h0 : (y 0).val < 60 := (y 0).isLt; omega⟩ ⟨(y 2).val, (y 2).isLt⟩ ⟨(y 1).val, (y 1).isLt⟩

theorem mag_nonneg (x : EReal) : 0 ≤ mag x := by
  show 0 ≤ max x (-x)
  rcases le_total 0 x with h | h
  · exact le_max_of_le_left h
  · exact le_max_of_le_right (EReal.neg_nonneg.mpr h)

theorem amaxG_le (b : Fin 4096) (x : EReal) : amaxG a b ≤ x ↔ ∀ f d, mag (xG a f d b) ≤ x := by
  unfold amaxG
  rw [Finset.sup_le_iff]
  exact ⟨fun h s k => h (s, k) (Finset.mem_univ _), fun h p _ => h p.1 p.2⟩

/-- Sample `r` of block `i`. -/
def row (i : Fin 32) (r : Fin 128) : Fin 4096 := ⟨128 * i.val + r.val, by omega⟩

end Cert.Value2
-- ==== Proof.Value2Tok.lean ====
/- The pooled values of one trip of the kernel, value by value. -/
module

public import proofs.«01_k».proof.Proof.Value2Spec
public import Idealize.ShloMosaic.Lib.Pipeline.ValueKit
public import Idealize.ShloMosaic.Lib.Pointwise

@[expose] public section

set_option maxRecDepth 16384

noncomputable section

namespace Cert.Value2

open Idealize.ShloMosaic Cert.Kernel2Ideal Cert.Kernel2Ideal.Gen

/-- One bag entry's contribution to the first 64 lanes. -/
def loT (w : FVec Ideal S1x128 .f32) (v : Vec Ideal S1x1x64x128 .i8) : FVec Ideal S64x128 .f32 :=
  mulf (extf .f32 (bitcastToFloat (F := Ideal) .fp8e4m3 (bitcast S64x128 8 (andi (bitcast S16x128 32 (shapeCast S64x128 v shapeCasts_S1x1x64x128_S64x128) bitcasts_S64x128_w8_S16x128_w32) (broadcast S16x128 252645135#32)) bitcasts_S16x128_w32_S64x128_w8)) bitsLt_fp8e4m3_f32)
    (broadcastTo S64x128 w broadcasts_S1x128_S64x128)

/-- One bag entry's contribution to the last 64 lanes. -/
def hiT (w : FVec Ideal S1x128 .f32) (v : Vec Ideal S1x1x64x128 .i8) : FVec Ideal S64x128 .f32 :=
  mulf (extf .f32 (bitcastToFloat (F := Ideal) .fp8e4m3 (bitcast S64x128 8 (andi (shrui (bitcast S16x128 32 (shapeCast S64x128 v shapeCasts_S1x1x64x128_S64x128) bitcasts_S64x128_w8_S16x128_w32) (broadcast S16x128 4#32)) (broadcast S16x128 252645135#32)) bitcasts_S16x128_w32_S64x128_w8)) bitsLt_fp8e4m3_f32)
    (broadcastTo S64x128 w broadcasts_S1x128_S64x128)

theorem cast_apply (v : Vec Ideal S1x1x64x128 .i8) (r : Fin 64) (b : Fin 128) :
    (shapeCast S64x128 v shapeCasts_S1x1x64x128_S64x128 : IVec S64x128 8) (ix2 r b) = v (ix4 0 0 r b) := by
  pointwise

theorem bc_apply (w : FVec Ideal S1x128 .f32) (r : Fin 64) (b : Fin 128) :
    broadcastTo S64x128 w broadcasts_S1x128_S64x128 (ix2 r b) = w (ix2 0 b) := by
  pointwise

theorem loT_apply (w : FVec Ideal S1x128 .f32) (v : Vec Ideal S1x1x64x128 .i8) (r : Fin 64) (b : Fin 128) :
    loT w v (ix2 r b) = Ideal.e4m3fn (v (ix4 0 0 r b) &&& 15#8) * w (ix2 0 b) := by
  rw [← bc_apply w r b, ← cast_apply v r b, ← lo_word _ bitcasts_S64x128_w8_S16x128_w32 bitcasts_S16x128_w32_S64x128_w8 r b]
  rfl

theorem hiT_apply (w : FVec Ideal S1x128 .f32) (v : Vec Ideal S1x1x64x128 .i8) (r : Fin 64) (b : Fin 128) :
    hiT w v (ix2 r b) = Ideal.e4m3fn (v (ix4 0 0 r b) >>> 4) * w (ix2 0 b) := by
  rw [← bc_apply w r b, ← cast_apply v r b, ← hi_word _ bitcasts_S64x128_w8_S16x128_w32 bitcasts_S16x128_w32_S64x128_w8 r b]
  rfl

theorem pay14_apply (bw es : Vec Ideal S1x4x128 .f32) (p : Fin 4) (b : Fin 128) :
    k0_pay14 (F := Ideal) bw es (ix2 p b) = bw (ix3 0 p b) * es (ix3 0 p b) * Ideal.ofBits .f32 0x44000000#32 := by
  pointwise [k0_pay14, k0_pay13]

theorem pay15_apply (bw eb : Vec Ideal S1x4x128 .f32) (b : Fin 128) :
    k0_pay15 (F := Ideal) bw eb (ix2 0 b) = ∑ p : Fin 4, bw (ix3 0 p b) * eb (ix3 0 p b) := by
  pointwise [k0_pay15, k0_pay13]

theorem pay17_apply (bw es : Vec Ideal S1x4x128 .f32) (b : Fin 128) : k0_pay17 (F := Ideal) bw es (ix2 0 b) = k0_pay14 (F := Ideal) bw es (ix2 0 b) := by
  unfold k0_pay17; generalize k0_pay14 (F := Ideal) bw es = z; pointwise
theorem pay21_apply (z : FVec Ideal S4x128 .f32) (b : Fin 128) : k0_pay21 (F := Ideal) z (ix2 0 b) = z (ix2 1 b) := by pointwise [k0_pay21]
theorem pay23_apply (z : FVec Ideal S4x128 .f32) (b : Fin 128) : k0_pay23 (F := Ideal) z (ix2 0 b) = z (ix2 2 b) := by pointwise [k0_pay23]
theorem pay27_apply (z : FVec Ideal S4x128 .f32) (b : Fin 128) : k0_pay27 (F := Ideal) z (ix2 0 b) = z (ix2 3 b) := by pointwise [k0_pay27]

/-- A trip's pooled values, lane by sample. -/
abbrev xV (bw es eb : Vec Ideal S1x4x128 .f32) (q0 q1 q2 q3 : Vec Ideal S1x1x64x128 .i8) : FVec Ideal S128x128 .f32 :=
  k0_pay2 (F := Ideal) (k0_pay15 bw eb) (k0_pay24 (k0_pay14 bw es) (k0_pay18 bw es q0) q1 q2) (k0_pay25 (k0_pay14 bw es) (k0_pay19 bw es q0) q1 q2)
    (k0_pay26 (F := Ideal) q3) (k0_pay27 (k0_pay14 bw es)) (k0_pay28 (F := Ideal) q3)

/-- The two halves stacked, and the bias added. -/
def stack (s : FVec Ideal S1x128 .f32) (lo hi : FVec Ideal S64x128 .f32) : FVec Ideal S128x128 .f32 :=
  addf (concatenate S128x128 0 [⟨S64x128, lo⟩, ⟨S64x128, hi⟩] concatenates_S64x128_S64x128_S128x128_d0) (broadcastTo S128x128 s broadcasts_S1x128_S128x128)

theorem stack_apply (s : FVec Ideal S1x128 .f32) (lo hi : FVec Ideal S64x128 .f32) (d b : Fin 128) :
    stack s lo hi (ix2 d b) = (if h : d.val < 64 then lo (ix2 ⟨d.val, h⟩ b) else hi (ix2 ⟨d.val - 64, by omega⟩ b)) + s (ix2 0 b) := by
  pointwise [stack]

theorem xV_eq (bw es eb : Vec Ideal S1x4x128 .f32) (q0 q1 q2 q3 : Vec Ideal S1x1x64x128 .i8) :
    xV bw es eb q0 q1 q2 q3 = stack (k0_pay15 bw eb)
      (addf (addf (addf (addf (broadcast S64x128 (Scalar.ofBits .f32 0x00000000#32)) (loT (k0_pay17 bw es) q0)) (loT (k0_pay21 (k0_pay14 bw es)) q1)) (loT (k0_pay23 (k0_pay14 bw es)) q2)) (loT (k0_pay27 (k0_pay14 bw es)) q3))
      (addf (addf (addf (addf (broadcast S64x128 (Scalar.ofBits .f32 0x00000000#32)) (hiT (k0_pay17 bw es) q0)) (hiT (k0_pay21 (k0_pay14 bw es)) q1)) (hiT (k0_pay23 (k0_pay14 bw es)) q2)) (hiT (k0_pay27 (k0_pay14 bw es)) q3)) := by
  rfl

theorem zero_bits : Ideal.ofBits .f32 0x00000000#32 = 0 := by simp [Ideal.ofBits, Ideal.ieee]

theorem sum4_apply (z t0 t1 t2 t3 : FVec Ideal S64x128 .f32) (y : S64x128.Idx) :
    addf (addf (addf (addf z t0) t1) t2) t3 y = z y + t0 y + t1 y + t2 y + t3 y := rfl

theorem xV_apply (bw es eb : Vec Ideal S1x4x128 .f32) (q0 q1 q2 q3 : Vec Ideal S1x1x64x128 .i8) (d b : Fin 128) :
    xV bw es eb q0 q1 q2 q3 (ix2 d b) = tk (fun p => bw (ix3 0 p b)) (fun p => es (ix3 0 p b)) (fun p => eb (ix3 0 p b)) (fun p r => (![q0, q1, q2, q3] p) (ix4 0 0 r b)) d := by
  rw [xV_eq, stack_apply, pay15_apply]
  unfold tk tok
  have z0 : ∀ y : S64x128.Idx, broadcast S64x128 (Scalar.ofBits (F := Ideal) .f32 0x00000000#32) y = (0 : EReal) := fun _ => zero_bits
  split
  · congr 1
    rw [sum4_apply, loT_apply, loT_apply, loT_apply, loT_apply, z0, pay17_apply, pay21_apply, pay23_apply, pay27_apply, pay14_apply, pay14_apply, pay14_apply, pay14_apply,
      lo_mul, lo_mul, lo_mul, lo_mul, Fin.sum_univ_four, zero_add]
    rfl
  · congr 1
    rw [sum4_apply, hiT_apply, hiT_apply, hiT_apply, hiT_apply, z0, pay17_apply, pay21_apply, pay23_apply, pay27_apply, pay14_apply, pay14_apply, pay14_apply, pay14_apply,
      hi_mul, hi_mul, hi_mul, hi_mul, Fin.sum_univ_four, zero_add]
    rfl

/-- A trip's block of pooled values read off the four input blocks: lane `d`, sample `b` of feature `k`. -/
def xB (x0 : Vec Ideal S20x4x64x128 .i8) (x1 x2 x3 : Vec Ideal S20x4x128 .f32) (k : Fin 20) (d b : Fin 128) : EReal :=
  tk (fun p => x3 (ix3 k p b)) (fun p => x1 (ix3 k p b)) (fun p => x2 (ix3 k p b)) (fun p r => x0 (ix4 k p r b)) d

theorem ld3 (x : Vec Ideal S20x4x128 .f32) (o : Fin 3 → Nat) (h) (k : Fin 20) (e : o = ![k.val, 0, 0]) (p : Fin 4) (b : Fin 128) :
    View.ld x (Rect.unit (s := S20x4x128) o S1x4x128.size h) (ix3 0 p b) = x (ix3 k p b) := by
  subst e
  pointwise

theorem ld4 (x : Vec Ideal S20x4x64x128 .i8) (o : Fin 4 → Nat) (h) (k : Fin 20) (p : Fin 4) (e : o = ![k.val, p.val, 0, 0]) (r : Fin 64) (b : Fin 128) :
    View.ld x (Rect.unit (s := S20x4x64x128) o S1x1x64x128.size h) (ix4 0 0 r b) = x (ix4 k p r b) := by
  subst e
  pointwise

theorem xV_ld (x0 : Vec Ideal S20x4x64x128 .i8) (x1 x2 x3 : Vec Ideal S20x4x128 .f32) (k : Fin 20) (o1 : Fin 3 → Nat) (o2 o3 o4 o5 : Fin 4 → Nat) (h1 h1' h1'' h2 h3 h4 h5)
    (e1 : o1 = ![k.val, 0, 0]) (e2 : o2 = ![k.val, 0, 0, 0]) (e3 : o3 = ![k.val, 1, 0, 0]) (e4 : o4 = ![k.val, 2, 0, 0]) (e5 : o5 = ![k.val, 3, 0, 0]) (d b : Fin 128) :
    xV (View.ld x3 (Rect.unit (s := S20x4x128) o1 S1x4x128.size h1)) (View.ld x1 (Rect.unit (s := S20x4x128) o1 S1x4x128.size h1')) (View.ld x2 (Rect.unit (s := S20x4x128) o1 S1x4x128.size h1''))
      (View.ld x0 (Rect.unit (s := S20x4x64x128) o2 S1x1x64x128.size h2)) (View.ld x0 (Rect.unit (s := S20x4x64x128) o3 S1x1x64x128.size h3))
      (View.ld x0 (Rect.unit (s := S20x4x64x128) o4 S1x1x64x128.size h4)) (View.ld x0 (Rect.unit (s := S20x4x64x128) o5 S1x1x64x128.size h5)) (ix2 d b) = xB x0 x1 x2 x3 k d b := by
  rw [xV_apply]
  unfold xB
  congr 1
  · funext p; exact ld3 x3 o1 _ k e1 p b
  · funext p; exact ld3 x1 o1 _ k e1 p b
  · funext p; exact ld3 x2 o1 _ k e1 p b
  · funext p r
    match p with
    | 0 => exact ld4 x0 o2 _ k 0 e2 r b
    | 1 => exact ld4 x0 o3 _ k 1 e3 r b
    | 2 => exact ld4 x0 o4 _ k 2 e4 r b
    | 3 => exact ld4 x0 o5 _ k 3 e5 r b

end Cert.Value2
-- ==== Proof.Value2Blocks.lean ====
/- The blocks that the windows cut from the arrays, place by place. -/
module

public import proofs.«01_k».proof.Proof.Value2Tok
public import proofs.«01_k».proof.Proof.Gen.Kernel2Ideal.Frame

@[expose] public section

set_option maxRecDepth 16384

noncomputable section

namespace Cert.Value2

open Idealize.ShloMosaic Idealize.ShloMosaic.TcCoe Cert.Kernel2Ideal Cert.Kernel2Ideal.Gen

variable (m : (ℓ : Loc nD τ sig) → Buf (Elt Ideal) ℓ) (c : Dev nD)

/-- The argument arrays of a core, as the memory holds them. -/
def argsOf : Args where
  codes := m ((c : Thread nD τ).loc main_arg0)
  es := m ((c : Thread nD τ).loc main_arg1)
  eb := m ((c : Thread nD τ).loc main_arg2)
  bw := m ((c : Thread nD τ).loc main_arg3)

theorem idx0 : ∀ t : Fin cfg0.N, win0_0.index t = ![t.val % 8, 0, 0, t.val / 8] := by decide +kernel
theorem idx1 : ∀ t : Fin cfg0.N, win0_1.index t = ![t.val % 8, 0, t.val / 8] := by decide +kernel
theorem idx2 : ∀ t : Fin cfg0.N, win0_2.index t = ![t.val % 8, 0, t.val / 8] := by decide +kernel
theorem idx3 : ∀ t : Fin cfg0.N, win0_3.index t = ![t.val % 8, 0, t.val / 8] := by decide +kernel
theorem idx4 : ∀ t : Fin cfg0.N, win0_4.index t = ![t.val / 8, 0, 0] := by decide +kernel
theorem idx5 : ∀ t : Fin cfg0.N, win0_5.index t = ![t.val / 8, 0, 0] := by decide +kernel
theorem idx6 : ∀ t : Fin cfg0.N, win0_6.index t = ![t.val / 8, 0] := by decide +kernel
theorem idx7 : ∀ t : Fin cfg0.N, win0_7.index t = ![min (t.val % 8) 4, t.val / 8, 0] := by decide +kernel
theorem idx8 : ∀ t : Fin cfg0.N, win0_8.index t = ![t.val % 8 - 5, t.val / 8, 0] := by decide +kernel
theorem coords1 : ∀ t : Fin cfg0.N, ((grid0.coords t) 1).val = t.val % 8 := by decide +kernel
theorem N_eq : cfg0.N = 256 := by decide +kernel

variable (t : Fin cfg0.N) (i : Fin 32) (f : Fin 160) (k : Fin 20) (hi : i.val = t.val / 8) (hf : f.val = 20 * (t.val % 8) + k.val)

include hi hf in
theorem blk0 (p : Fin 4) (r : Fin 64) (b : Fin 128) :
    (iblk m c 0 t : Vec Ideal S20x4x64x128 .i8) (ix4 k p r b) = (argsOf m c).codes (ix4 f p r (row i b)) := by
  unfold argsOf row
  have e := idx0 t
  blk_ext [iblk, V, e, hi, hf]

include hi hf in
theorem blk1 (p : Fin 4) (b : Fin 128) :
    (iblk m c 1 t : Vec Ideal S20x4x128 .f32) (ix3 k p b) = (argsOf m c).es (ix3 f p (row i b)) := by
  unfold argsOf row
  have e := idx1 t
  blk_ext [iblk, V, e, hi, hf]

include hi hf in
theorem blk2 (p : Fin 4) (b : Fin 128) :
    (iblk m c 2 t : Vec Ideal S20x4x128 .f32) (ix3 k p b) = (argsOf m c).eb (ix3 f p (row i b)) := by
  unfold argsOf row
  have e := idx2 t
  blk_ext [iblk, V, e, hi, hf]

include hi hf in
theorem blk3 (p : Fin 4) (b : Fin 128) :
    (iblk m c 3 t : Vec Ideal S20x4x128 .f32) (ix3 k p b) = (argsOf m c).bw (ix3 f p (row i b)) := by
  unfold argsOf row
  have e := idx3 t
  blk_ext [iblk, V, e, hi, hf]

include hi hf in
/-- A pooled value of a step is the reference's. -/
theorem blkx (d b : Fin 128) : xB (iblk m c 0 t) (iblk m c 1 t) (iblk m c 2 t) (iblk m c 3 t) k d b = xG (argsOf m c) f d (row i b) := by
  have e0 : (fun p r => (iblk m c 0 t : Vec Ideal S20x4x64x128 .i8) (ix4 k p r b)) = fun (p : Fin 4) (r : Fin 64) => (argsOf m c).codes (ix4 f p r (row i b)) :=
    funext fun p => funext fun r => blk0 m c t i f k hi hf p r b
  have e1 : (fun p => (iblk m c 1 t : Vec Ideal S20x4x128 .f32) (ix3 k p b)) = fun (p : Fin 4) => (argsOf m c).es (ix3 f p (row i b)) :=
    funext fun p => blk1 m c t i f k hi hf p b
  have e2 : (fun p => (iblk m c 2 t : Vec Ideal S20x4x128 .f32) (ix3 k p b)) = fun (p : Fin 4) => (argsOf m c).eb (ix3 f p (row i b)) :=
    funext fun p => blk2 m c t i f k hi hf p b
  have e3 : (fun p => (iblk m c 3 t : Vec Ideal S20x4x128 .f32) (ix3 k p b)) = fun (p : Fin 4) => (argsOf m c).bw (ix3 f p (row i b)) :=
    funext fun p => blk3 m c t i f k hi hf p b
  show tk (fun p => (iblk m c 3 t : Vec Ideal S20x4x128 .f32) (ix3 k p b)) (fun p => (iblk m c 1 t : Vec Ideal S20x4x128 .f32) (ix3 k p b))
    (fun p => (iblk m c 2 t : Vec Ideal S20x4x128 .f32) (ix3 k p b)) (fun p r => (iblk m c 0 t : Vec Ideal S20x4x64x128 .i8) (ix4 k p r b)) d = _
  rw [e0, e1, e2, e3]
  rfl

end Cert.Value2
-- ==== Proof.Value2Rows.lean ====
/- What the kernel's stores leave: blocks of rows, slabs and the running maximum. -/
module

public import proofs.«01_k».proof.Proof.Value2Tok

@[expose] public section

set_option maxRecDepth 16384

noncomputable section

namespace Cert.Value2

open Idealize.ShloMosaic Cert.Kernel2Ideal Cert.Kernel2Ideal.Gen
open Cert.Value (ofBits_ninf)

variable (v21 : FVec Ideal S1x128 .f32) (v77 v86 : FVec Ideal S64x128 .f32) (v90 : IVec S16x128 32) (v91 : FVec Ideal S1x128 .f32) (v93 : IVec S16x128 32)

theorem pay5_apply (b d : Fin 128) : k0_pay5 (F := Ideal) v21 v77 v86 v90 v91 v93 (ix2 b d) = k0_pay2 (F := Ideal) v21 v77 v86 v90 v91 v93 (ix2 d b) := by
  unfold k0_pay5 k0_pay4
  generalize k0_pay2 (F := Ideal) v21 v77 v86 v90 v91 v93 = z
  pointwise

theorem pay6_apply (b d : Fin 128) : k0_pay6 (F := Ideal) v21 v77 v86 v90 v91 v93 (ix3 0 b d) = k0_pay2 (F := Ideal) v21 v77 v86 v90 v91 v93 (ix2 d b) := by
  unfold k0_pay6 k0_pay4
  generalize k0_pay2 (F := Ideal) v21 v77 v86 v90 v91 v93 = z
  pointwise

theorem pay7_apply (b d : Fin 128) : k0_pay7 (F := Ideal) v21 v77 v86 v90 v91 v93 (ix3 0 b d) = k0_pay2 (F := Ideal) v21 v77 v86 v90 v91 v93 (ix2 d b) := by
  unfold k0_pay7 k0_pay4
  generalize k0_pay2 (F := Ideal) v21 v77 v86 v90 v91 v93 = z
  pointwise

/-- The running maximum with a block of values folded in, eight groups apart. -/
def maxG (z : FVec Ideal S128x128 .f32) (A : Vec Ideal S8x128 .f32) : Vec Ideal S8x128 .f32 :=
  shapeCast S8x128 (maximumf (F := Ideal) (φ := .f32) A (multiReduction .maximumf [0] S8x128 (shapeCast S16x8x128 (absf (F := Ideal) (φ := .f32) z) shapeCasts_S128x128_S16x8x128) 0xFF800000#32 reduces_S16x8x128_S8x128 (.inl rfl) rfl)) shapeCasts_S8x128_S8x128

theorem pay3_eq (A : Vec Ideal S8x128 .f32) : k0_pay3 (F := Ideal) v21 v77 v86 v90 v91 v93 A = maxG (k0_pay2 (F := Ideal) v21 v77 v86 v90 v91 v93) A := rfl

theorem maxG_apply (z : FVec Ideal S128x128 .f32) (A : Vec Ideal S8x128 .f32) (r : Fin 8) (b : Fin 128) :
    maxG z A (ix2 r b) = max (A (ix2 r b)) (Finset.fold max (Ideal.ofBits .f32 0xFF800000#32) (fun g : Fin 16 => mag (z (ix2 ⟨g.val * 8 + r.val, by omega⟩ b))) Finset.univ) := by
  unfold maxG
  pointwise
  rfl

theorem maxG_le (z : FVec Ideal S128x128 .f32) (A : Vec Ideal S8x128 .f32) (r : Fin 8) (b : Fin 128) (x : EReal) :
    maxG z A (ix2 r b) ≤ x ↔ A (ix2 r b) ≤ x ∧ ∀ d : Fin 128, d.val % 8 = r.val → mag (z (ix2 d b)) ≤ x := by
  rw [maxG_apply, max_le_iff, Finset.fold_max_le]
  refine and_congr_right fun _ => ⟨fun h d hd => ?_, fun h => ⟨by rw [ofBits_ninf]; exact bot_le, fun g _ => h _ (by show (g.val * 8 + r.val) % 8 = r.val; omega)⟩⟩
  have := h.2 ⟨d.val / 8, by omega⟩ (Finset.mem_univ _)
  have e : (⟨d.val / 8 * 8 + r.val, by omega⟩ : Fin 128) = d := Fin.ext (by show d.val / 8 * 8 + r.val = d.val; omega)
  rwa [e] at this

section
variable (M : Memref sig .tc .vmem S21120x128 .f32) (f : BufTy.Contents (Elt Ideal) M.view.ty) (L : List (View.Piece (Elt Ideal) S21120x128 .f32))
  (V : Vec Ideal S128x128 .f32) (o : Fin 2 → Nat) (h : ∀ a, o a + S128x128.size a ≤ S21120x128.size a)

theorem rows_hit (n : ℕ) (e : o = ![n, 0]) (y : ℕ) (hy : y < 21120) (r d : Fin 128) (hr : y = n + r.val) :
    M.view.read (Elt Ideal) (M.view.writes (Elt Ideal) f (⟨Rect.unit (s := S21120x128) o S128x128.size h, V⟩ :: L)) (ix2 ⟨y, hy⟩ d) = V (ix2 r d) := by
  subst e hr
  refine View.read_writes_cons_hit_of_coords _ _ (Rect.unit (s := S21120x128) ![n, 0] S128x128.size h) V L (ix2 r d) _ ?_
  refine Fin.forall_fin_two.mpr ⟨?_, ?_⟩
  · show n + r.val = n + 1 * r.val; omega
  · show d.val = 0 + 1 * d.val; omega

theorem rows_miss (n : ℕ) (e : o = ![n, 0]) (y : S21120x128.Idx) (hy : (y 0).val < n ∨ n + 128 ≤ (y 0).val) :
    M.view.read (Elt Ideal) (M.view.writes (Elt Ideal) f (⟨Rect.unit (s := S21120x128) o S128x128.size h, V⟩ :: L)) y
      = M.view.read (Elt Ideal) (M.view.writes (Elt Ideal) f L) y := by
  subst e
  exact View.read_writes_cons_miss_of_axis _ _ _ _ y 0 n 128 rfl rfl rfl hy
end

section
variable (M : Memref sig .tc .vmem S20x128x128 .f32) (f : BufTy.Contents (Elt Ideal) M.view.ty) (L : List (View.Piece (Elt Ideal) S20x128x128 .f32))
  (V : Vec Ideal S1x128x128 .f32) (o : Fin 3 → Nat) (h : ∀ a, o a + S1x128x128.size a ≤ S20x128x128.size a)

theorem slab_hit (n : ℕ) (e : o = ![n, 0, 0]) (k : Fin 20) (b d : Fin 128) (hk : k.val = n) :
    M.view.read (Elt Ideal) (M.view.writes (Elt Ideal) f (⟨Rect.unit (s := S20x128x128) o S1x128x128.size h, V⟩ :: L)) (ix3 k b d) = V (ix3 0 b d) := by
  subst e hk
  refine View.read_writes_cons_hit_of_coords _ _ (Rect.unit (s := S20x128x128) ![k.val, 0, 0] S1x128x128.size h) V L (ix3 0 b d) _ ?_
  intro a
  match a with
  | 0 => show k.val = k.val + 1 * 0; omega
  | 1 => show b.val = 0 + 1 * b.val; omega
  | 2 => show d.val = 0 + 1 * d.val; omega

theorem slab_miss (n : ℕ) (e : o = ![n, 0, 0]) (y : S20x128x128.Idx) (hy : (y 0).val ≠ n) :
    M.view.read (Elt Ideal) (M.view.writes (Elt Ideal) f (⟨Rect.unit (s := S20x128x128) o S1x128x128.size h, V⟩ :: L)) y
      = M.view.read (Elt Ideal) (M.view.writes (Elt Ideal) f L) y := by
  subst e
  exact View.read_writes_cons_miss_of_axis _ _ _ _ y 0 n 1 rfl rfl rfl (by omega)
end

theorem whole_hit (M : Memref sig .tc .vmem S8x128 .f32) (f : BufTy.Contents (Elt Ideal) M.view.ty) (L : List (View.Piece (Elt Ideal) S8x128 .f32))
    (V : Vec Ideal S8x128 .f32) (h : ∀ a, (![0, 0] : Fin 2 → Nat) a + S8x128.size a ≤ S8x128.size a) :
    M.view.read (Elt Ideal) (M.view.writes (Elt Ideal) f (⟨Rect.unit (s := S8x128) ![0, 0] S8x128.size h, V⟩ :: L)) = V := by
  funext y
  refine View.read_writes_cons_hit_of_coords _ _ (Rect.unit (s := S8x128) ![0, 0] S8x128.size h) V L y y ?_
  refine Fin.forall_fin_two.mpr ⟨?_, ?_⟩
  · show (y 0).val = 0 + 1 * (y 0).val; omega
  · show (y 1).val = 0 + 1 * (y 1).val; omega

end Cert.Value2
-- ==== Proof.Value2Trip.lean ====
/- The stores of one trip of the feature loop. -/
module

public import proofs.«01_k».proof.Proof.Value2Rows
public import proofs.«01_k».proof.Proof.Gen.Kernel2Ideal.Loops

@[expose] public section

set_option maxRecDepth 16384

noncomputable section

namespace Cert.Value2

open Idealize.ShloMosaic Cert.Kernel2Ideal Cert.Kernel2Ideal.Gen Idealize.SL

variable (𝒱 : Variants) (c : Dev nD) (bd : Option 𝒱.V) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole)

section
variable (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (k : Fin k0_t1_loop.trips)

theorem trip11 : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 k g9 g10 g11 g12).2.2.1
    = [⟨Rect.unit (s := S21120x128) (k0_off6 i k) S128x128.size (k0_off6_inb i k), k0_pay5 (F := Ideal) (k0_pay15 (View.readAt (Elt Ideal) arg5.view (Rect.unit (s := S20x4x128) (k0_off1 k) S1x4x128.size (k0_off1_inb k)).toLoadRect X5) (View.readAt (Elt Ideal) arg4.view (Rect.unit (s := S20x4x128) (k0_off1 k) S1x4x128.size (k0_off1_inb k)).toLoadRect X4))
        (k0_pay24 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay18 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay25 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay19 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay26 (F := Ideal) (View.readAt (Elt Ideal) arg2.view (Rect.unit (s := S20x4x64x128) (k0_off5 k) S1x1x64x128.size (k0_off5_inb k)).toLoadRect X2)) (k0_pay27 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3))) (k0_pay28 (F := Ideal) (View.readAt (Elt Ideal) arg2.view (Rect.unit (s := S20x4x64x128) (k0_off5 k) S1x1x64x128.size (k0_off5_inb k)).toLoadRect X2))⟩] := by
  unfold tripL_k0_t1 trip_k0_t1
  sl_unfold_words
  rfl

theorem trip12 : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 k g9 g10 g11 g12).2.2.2
    = [⟨Rect.unit (s := S8x128) ![0, 0] S8x128.size inb_S8x128_S8x128_0_0, k0_pay3 (F := Ideal) (k0_pay15 (View.readAt (Elt Ideal) arg5.view (Rect.unit (s := S20x4x128) (k0_off1 k) S1x4x128.size (k0_off1_inb k)).toLoadRect X5) (View.readAt (Elt Ideal) arg4.view (Rect.unit (s := S20x4x128) (k0_off1 k) S1x4x128.size (k0_off1_inb k)).toLoadRect X4))
        (k0_pay24 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay18 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay25 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay19 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay26 (F := Ideal) (View.readAt (Elt Ideal) arg2.view (Rect.unit (s := S20x4x64x128) (k0_off5 k) S1x1x64x128.size (k0_off5_inb k)).toLoadRect X2)) (k0_pay27 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3))) (k0_pay28 (F := Ideal) (View.readAt (Elt Ideal) arg2.view (Rect.unit (s := S20x4x64x128) (k0_off5 k) S1x1x64x128.size (k0_off5_inb k)).toLoadRect X2))
        (View.readAt (Elt Ideal) arg12.view (Rect.unit (s := S8x128) ![0, 0] S8x128.size inb_S8x128_S8x128_0_0).toLoadRect g12)⟩] := by
  unfold tripL_k0_t1 trip_k0_t1
  sl_unfold_words
  rfl

theorem trip9 (h2 : k0_cond2 i = 1#1) (h3 : ¬k0_cond3 i = 1#1) : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 k g9 g10 g11 g12).1
    = [⟨Rect.unit (s := S20x128x128) (k0_off7 k) S1x128x128.size (k0_off7_inb i k h2), k0_pay6 (F := Ideal) (k0_pay15 (View.readAt (Elt Ideal) arg5.view (Rect.unit (s := S20x4x128) (k0_off1 k) S1x4x128.size (k0_off1_inb k)).toLoadRect X5) (View.readAt (Elt Ideal) arg4.view (Rect.unit (s := S20x4x128) (k0_off1 k) S1x4x128.size (k0_off1_inb k)).toLoadRect X4))
        (k0_pay24 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay18 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay25 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay19 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay26 (F := Ideal) (View.readAt (Elt Ideal) arg2.view (Rect.unit (s := S20x4x64x128) (k0_off5 k) S1x1x64x128.size (k0_off5_inb k)).toLoadRect X2)) (k0_pay27 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3))) (k0_pay28 (F := Ideal) (View.readAt (Elt Ideal) arg2.view (Rect.unit (s := S20x4x64x128) (k0_off5 k) S1x1x64x128.size (k0_off5_inb k)).toLoadRect X2))⟩] := by
  refine ((dif_pos h2).trans (dif_neg h3)).trans ?_
  unfold trip_k0_t1
  sl_unfold_words
  rfl

theorem trip9_nil (h2 : ¬k0_cond2 i = 1#1) (h3 : k0_cond3 i = 1#1) : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 k g9 g10 g11 g12).1 = [] :=
  (dif_neg h2).trans (dif_pos h3)

theorem trip10 (h2 : ¬k0_cond2 i = 1#1) (h3 : k0_cond3 i = 1#1) : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 X2 X3 X4 X5 k g9 g10 g11 g12).2.1
    = [⟨Rect.unit (s := S20x128x128) (k0_off8 k) S1x128x128.size (k0_off8_inb i k h3), k0_pay7 (F := Ideal) (k0_pay15 (View.readAt (Elt Ideal) arg5.view (Rect.unit (s := S20x4x128) (k0_off1 k) S1x4x128.size (k0_off1_inb k)).toLoadRect X5) (View.readAt (Elt Ideal) arg4.view (Rect.unit (s := S20x4x128) (k0_off1 k) S1x4x128.size (k0_off1_inb k)).toLoadRect X4))
        (k0_pay24 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay18 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay25 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3)) (k0_pay19 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3) (View.readAt (Elt Ideal) arg2.view (Rect.unit (s := S20x4x64x128) (k0_off2 k) S1x1x64x128.size (k0_off2_inb k)).toLoadRect X2)) (View.readAt (Elt Ideal) arg2.view (Rect.unit (s := S20x4x64x128) (k0_off3 k) S1x1x64x128.size (k0_off3_inb k)).toLoadRect X2) (View.readAt (Elt Ideal) arg2.view (Rect.unit (s := S20x4x64x128) (k0_off4 k) S1x1x64x128.size (k0_off4_inb k)).toLoadRect X2))
        (k0_pay26 (F := Ideal) (View.readAt (Elt Ideal) arg2.view (Rect.unit (s := S20x4x64x128) (k0_off5 k) S1x1x64x128.size (k0_off5_inb k)).toLoadRect X2)) (k0_pay27 (k0_pay14 (View.readAt (Elt Ideal) arg5.view (Rect.unit (s := S20x4x128) (k0_off1 k) S1x4x128.size (k0_off1_inb k)).toLoadRect X5) (View.readAt (Elt Ideal) arg3.view (Rect.unit (s := S20x4x128) (k0_off1 k) S1x4x128.size (k0_off1_inb k)).toLoadRect X3))) (k0_pay28 (F := Ideal) (View.readAt (Elt Ideal) arg2.view (Rect.unit (s := S20x4x64x128) (k0_off5 k) S1x1x64x128.size (k0_off5_inb k)).toLoadRect X2))⟩] := by
  refine ((dif_neg h2).trans (dif_pos h3)).trans ?_
  unfold trip_k0_t1
  sl_unfold_words
  rfl
end

end Cert.Value2
-- ==== Proof.Value2Loop.lean ====
/- What twenty trips of the feature loop leave in the token buffer, the running maximum and the two output blocks. -/
module

public import proofs.«01_k».proof.Proof.Value2Trip

@[expose] public section

set_option maxRecDepth 16384

noncomputable section

namespace Cert.Value2

open Idealize.ShloMosaic Cert.Kernel2Ideal Cert.Kernel2Ideal.Gen Idealize.SL

theorem trips1 : k0_t1_loop.trips = 20 := by decide +kernel

variable (𝒱 : Variants) (c : Dev nD) (bd : Option 𝒱.V) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole)
variable (x0 : Vec Ideal S20x4x64x128 .i8) (x1 x2 x3 : Vec Ideal S20x4x128 .f32) (g9 : BufTy.Contents (Elt Ideal) arg9.view.ty) (g10 : BufTy.Contents (Elt Ideal) arg10.view.ty) (g11 : BufTy.Contents (Elt Ideal) arg11.view.ty) (g12 : BufTy.Contents (Elt Ideal) arg12.view.ty)

theorem trip_tok (k : Fin k0_t1_loop.trips) (kk : Fin 20) (ek : kk.val = k.val) (d b : Fin 128) :
    k0_pay2 (F := Ideal) (k0_pay15 (View.readAt (Elt Ideal) arg5.view (Rect.unit (s := S20x4x128) (k0_off1 k) S1x4x128.size (k0_off1_inb k)).toLoadRect (harg5.unread x3)) (View.readAt (Elt Ideal) arg4.view (Rect.unit (s := S20x4x128) (k0_off1 k) S1x4x128.size (k0_off1_inb k)).toLoadRect (harg4.unread x2)))
        (k0_pay24 (k0_pay14 (View.readAt (Elt Ideal) arg5.view (Rect.unit (s := S20x4x128) (k0_off1 k) S1x4x128.size (k0_off1_inb k)).toLoadRect (harg5.unread x3)) (View.readAt (Elt Ideal) arg3.view (Rect.unit (s := S20x4x128) (k0_off1 k) S1x4x128.size (k0_off1_inb k)).toLoadRect (harg3.unread x1))) (k0_pay18 (View.readAt (Elt Ideal) arg5.view (Rect.unit (s := S20x4x128) (k0_off1 k) S1x4x128.size (k0_off1_inb k)).toLoadRect (harg5.unread x3)) (View.readAt (Elt Ideal) arg3.view (Rect.unit (s := S20x4x128) (k0_off1 k) S1x4x128.size (k0_off1_inb k)).toLoadRect (harg3.unread x1)) (View.readAt (Elt Ideal) arg2.view (Rect.unit (s := S20x4x64x128) (k0_off2 k) S1x1x64x128.size (k0_off2_inb k)).toLoadRect (harg2.unread x0))) (View.readAt (Elt Ideal) arg2.view (Rect.unit (s := S20x4x64x128) (k0_off3 k) S1x1x64x128.size (k0_off3_inb k)).toLoadRect (harg2.unread x0)) (View.readAt (Elt Ideal) arg2.view (Rect.unit (s := S20x4x64x128) (k0_off4 k) S1x1x64x128.size (k0_off4_inb k)).toLoadRect (harg2.unread x0)))
        (k0_pay25 (k0_pay14 (View.readAt (Elt Ideal) arg5.view (Rect.unit (s := S20x4x128) (k0_off1 k) S1x4x128.size (k0_off1_inb k)).toLoadRect (harg5.unread x3)) (View.readAt (Elt Ideal) arg3.view (Rect.unit (s := S20x4x128) (k0_off1 k) S1x4x128.size (k0_off1_inb k)).toLoadRect (harg3.unread x1))) (k0_pay19 (View.readAt (Elt Ideal) arg5.view (Rect.unit (s := S20x4x128) (k0_off1 k) S1x4x128.size (k0_off1_inb k)).toLoadRect (harg5.unread x3)) (View.readAt (Elt Ideal) arg3.view (Rect.unit (s := S20x4x128) (k0_off1 k) S1x4x128.size (k0_off1_inb k)).toLoadRect (harg3.unread x1)) (View.readAt (Elt Ideal) arg2.view (Rect.unit (s := S20x4x64x128) (k0_off2 k) S1x1x64x128.size (k0_off2_inb k)).toLoadRect (harg2.unread x0))) (View.readAt (Elt Ideal) arg2.view (Rect.unit (s := S20x4x64x128) (k0_off3 k) S1x1x64x128.size (k0_off3_inb k)).toLoadRect (harg2.unread x0)) (View.readAt (Elt Ideal) arg2.view (Rect.unit (s := S20x4x64x128) (k0_off4 k) S1x1x64x128.size (k0_off4_inb k)).toLoadRect (harg2.unread x0)))
        (k0_pay26 (F := Ideal) (View.readAt (Elt Ideal) arg2.view (Rect.unit (s := S20x4x64x128) (k0_off5 k) S1x1x64x128.size (k0_off5_inb k)).toLoadRect (harg2.unread x0))) (k0_pay27 (k0_pay14 (View.readAt (Elt Ideal) arg5.view (Rect.unit (s := S20x4x128) (k0_off1 k) S1x4x128.size (k0_off1_inb k)).toLoadRect (harg5.unread x3)) (View.readAt (Elt Ideal) arg3.view (Rect.unit (s := S20x4x128) (k0_off1 k) S1x4x128.size (k0_off1_inb k)).toLoadRect (harg3.unread x1)))) (k0_pay28 (F := Ideal) (View.readAt (Elt Ideal) arg2.view (Rect.unit (s := S20x4x64x128) (k0_off5 k) S1x1x64x128.size (k0_off5_inb k)).toLoadRect (harg2.unread x0))) (ix2 d b) = xB x0 x1 x2 x3 kk d b := by
  simp only [View.readAt_eq_ld, harg2.read_unread, harg3.read_unread, harg4.read_unread, harg5.read_unread]
  exact xV_ld x0 x1 x2 x3 kk _ _ _ _ _ _ _ _ _ _ _ _ ((k0_off1_eq k).trans (by rw [ek])) ((k0_off2_eq k).trans (by rw [ek])) ((k0_off3_eq k).trans (by rw [ek])) ((k0_off4_eq k).trans (by rw [ek])) ((k0_off5_eq k).trans (by rw [ek])) d b

theorem loop11 (n : ℕ) (hn : n ≤ 20) :
    (∀ k : Fin 20, k.val < n → ∀ (r d : Fin 128) (y : ℕ) (hy : y < 21120), y = 2640 * (i 1).val + 132 * k.val + r.val →
      arg11.view.read (Elt Ideal) (arg11.view.writes (Elt Ideal) g11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).2.2.1) (ix2 ⟨y, hy⟩ d) = xB x0 x1 x2 x3 k d r)
    ∧ ∀ y : S21120x128.Idx, ((y 0).val < 2640 * (i 1).val ∨ 2640 * (i 1).val + 132 * n ≤ (y 0).val) →
      arg11.view.read (Elt Ideal) (arg11.view.writes (Elt Ideal) g11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).2.2.1) y = arg11.view.read (Elt Ideal) g11 y := by
  induction n with
  | zero =>
    rw [pb_k0_t1.eq_1]
    exact ⟨fun k hk => absurd hk (by omega), fun y _ => rfl⟩
  | succ n ih =>
    obtain ⟨ih1, ih2⟩ := ih (by omega)
    have hn' : n < k0_t1_loop.trips := by rw [trips1]; omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 ⟨n, hn'⟩
    have es : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 (n + 1)).2.2.1 = _ := (congrArg (fun z => z.2.2.1) hs).trans (congrArg (fun L => L ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).2.2.1) (trip11 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) _ _ _ _ ⟨n, hn'⟩))
    rw [es]
    rw [List.singleton_append]
    have eo := k0_off6_eq i ⟨n, hn'⟩
    refine ⟨fun k hk r d y hy ey => ?_, fun y hy => ?_⟩
    · by_cases hkn : k.val = n
      · rw [rows_hit _ _ _ _ _ _ (2640 * (i 1).val + 132 * n) eo y hy r d (by rw [ey, hkn]), pay5_apply]
        exact trip_tok arg2 harg2 arg3 harg3 arg4 harg4 arg5 harg5 x0 x1 x2 x3 ⟨n, hn'⟩ k hkn d r
      · rw [rows_miss _ _ _ _ _ _ (2640 * (i 1).val + 132 * n) eo _ (by show y < _ ∨ _ ≤ y; have := r.isLt; omega)]
        exact ih1 k (by omega) r d y hy ey
    · rw [rows_miss _ _ _ _ _ _ (2640 * (i 1).val + 132 * n) eo y (by omega)]
      exact ih2 y (by omega)

theorem loop12 (n : ℕ) (hn : n ≤ 20) (r : Fin 8) (b : Fin 128) (x : EReal) :
    arg12.view.read (Elt Ideal) (arg12.view.writes (Elt Ideal) g12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).2.2.2) (ix2 r b) ≤ x
      ↔ arg12.view.read (Elt Ideal) g12 (ix2 r b) ≤ x ∧ ∀ k : Fin 20, k.val < n → ∀ d : Fin 128, d.val % 8 = r.val → mag (xB x0 x1 x2 x3 k d b) ≤ x := by
  induction n with
  | zero =>
    rw [pb_k0_t1.eq_1]
    exact ⟨fun h => ⟨h, fun k hk => absurd hk (by omega)⟩, fun h => h.1⟩
  | succ n ih =>
    have ih := ih (by omega)
    have hn' : n < k0_t1_loop.trips := by rw [trips1]; omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 ⟨n, hn'⟩
    have es : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 (n + 1)).2.2.2 = _ := (congrArg (fun z => z.2.2.2) hs).trans (congrArg (fun L => L ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).2.2.2) (trip12 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) _ _ _ _ ⟨n, hn'⟩))
    rw [es]
    rw [List.singleton_append, whole_hit, pay3_eq, maxG_le, View.readAt_eq_ld, View.ld_unit_lit' _ _ (by decide), ih]
    constructor
    · rintro ⟨⟨h0, h1⟩, h2⟩
      refine ⟨h0, fun k hk d hd => ?_⟩
      by_cases hkn : k.val = n
      · rw [← trip_tok arg2 harg2 arg3 harg3 arg4 harg4 arg5 harg5 x0 x1 x2 x3 ⟨n, hn'⟩ k hkn d b]
        exact h2 d hd
      · exact h1 k (by omega) d hd
    · rintro ⟨h0, h1⟩
      refine ⟨⟨h0, fun k hk => h1 k (by omega)⟩, fun d hd => ?_⟩
      rw [trip_tok arg2 harg2 arg3 harg3 arg4 harg4 arg5 harg5 x0 x1 x2 x3 ⟨n, hn'⟩ ⟨n, by omega⟩ rfl d b]
      exact h1 ⟨n, by omega⟩ (Nat.lt_succ_self n) d hd

theorem loop9 (h2 : k0_cond2 i = 1#1) (h3 : ¬k0_cond3 i = 1#1) (n : ℕ) (hn : n ≤ 20) :
    ∀ k : Fin 20, k.val < n → ∀ b d : Fin 128, arg9.view.read (Elt Ideal) (arg9.view.writes (Elt Ideal) g9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).1) (ix3 k b d) = xB x0 x1 x2 x3 k d b := by
  induction n with
  | zero => exact fun k hk => absurd hk (by omega)
  | succ n ih =>
    have ih := ih (by omega)
    have hn' : n < k0_t1_loop.trips := by rw [trips1]; omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 ⟨n, hn'⟩
    have es : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 (n + 1)).1 = _ := (congrArg (fun z => z.1) hs).trans (congrArg (fun L => L ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).1) (trip9 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) _ _ _ _ ⟨n, hn'⟩ h2 h3))
    rw [es]
    rw [List.singleton_append]
    intro k hk b d
    by_cases hkn : k.val = n
    · rw [slab_hit _ _ _ _ _ _ n (k0_off7_eq ⟨n, hn'⟩) k b d hkn, pay6_apply]
      exact trip_tok arg2 harg2 arg3 harg3 arg4 harg4 arg5 harg5 x0 x1 x2 x3 ⟨n, hn'⟩ k hkn d b
    · rw [slab_miss _ _ _ _ _ _ n (k0_off7_eq ⟨n, hn'⟩) _ hkn]
      exact ih k (by omega) b d

theorem loop10 (h2 : ¬k0_cond2 i = 1#1) (h3 : k0_cond3 i = 1#1) (n : ℕ) (hn : n ≤ 20) :
    ∀ k : Fin 20, k.val < n → ∀ b d : Fin 128, arg10.view.read (Elt Ideal) (arg10.view.writes (Elt Ideal) g10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).2.1) (ix3 k b d) = xB x0 x1 x2 x3 k d b := by
  induction n with
  | zero => exact fun k hk => absurd hk (by omega)
  | succ n ih =>
    have ih := ih (by omega)
    have hn' : n < k0_t1_loop.trips := by rw [trips1]; omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 ⟨n, hn'⟩
    have es : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 (n + 1)).2.1 = _ := (congrArg (fun z => z.2.1) hs).trans (congrArg (fun L => L ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).2.1) (trip10 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) _ _ _ _ ⟨n, hn'⟩ h2 h3))
    rw [es]
    rw [List.singleton_append]
    intro k hk b d
    by_cases hkn : k.val = n
    · rw [slab_hit _ _ _ _ _ _ n (k0_off8_eq ⟨n, hn'⟩) k b d hkn, pay7_apply]
      exact trip_tok arg2 harg2 arg3 harg3 arg4 harg4 arg5 harg5 x0 x1 x2 x3 ⟨n, hn'⟩ k hkn d b
    · rw [slab_miss _ _ _ _ _ _ n (k0_off8_eq ⟨n, hn'⟩) _ hkn]
      exact ih k (by omega) b d

theorem loop9_nil (h2 : ¬k0_cond2 i = 1#1) (h3 : k0_cond3 i = 1#1) (n : ℕ) (hn : n ≤ 20) : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).1 = [] := by
  induction n with
  | zero => rw [pb_k0_t1.eq_1]
  | succ n ih =>
    have ih := ih (by omega)
    have hn' : n < k0_t1_loop.trips := by rw [trips1]; omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 ⟨n, hn'⟩
    have es : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 (n + 1)).1 = _ := (congrArg (fun z => z.1) hs).trans (congrArg (fun L => L ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 n).1) (trip9_nil 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) _ _ _ _ ⟨n, hn'⟩ h2 h3))
    rw [es]
    rw [List.nil_append]
    exact ih

end Cert.Value2
-- ==== Proof.Value2Base.lean ====
/- The effect of a step, and the scale of a sample from the running maximum. -/
module

public import proofs.«01_k».proof.Proof.Value2Loop

@[expose] public section

set_option maxRecDepth 16384

noncomputable section

namespace Cert.Value2

open Idealize.ShloMosaic Cert.Kernel2Ideal Cert.Kernel2Ideal.Gen Idealize.SL
open Cert.Value (scaleOf codeOf)

/-- What a step does to the token buffer and the running maximum: twenty tokens stored at its part, and folded in. -/
structure Step (p : ℕ) (x0 : Vec Ideal S20x4x64x128 .i8) (x1 x2 x3 : Vec Ideal S20x4x128 .f32) (Y Y' : Vec Ideal S21120x128 .f32) (A A' : Vec Ideal S8x128 .f32) : Prop where
  tok : ∀ (k : Fin 20) (r d : Fin 128) (y : ℕ) (hy : y < 21120), y = 2640 * p + 132 * k.val + r.val → Y' (ix2 ⟨y, hy⟩ d) = xB x0 x1 x2 x3 k d r
  old : ∀ y : S21120x128.Idx, ((y 0).val < 2640 * p ∨ 2640 * p + 132 * 20 ≤ (y 0).val) → Y' y = Y y
  bnd : ∀ (r : Fin 8) (b : Fin 128) (x : EReal), A' (ix2 r b) ≤ x ↔ A (ix2 r b) ≤ x ∧ ∀ (k : Fin 20) (d : Fin 128), d.val % 8 = r.val → mag (xB x0 x1 x2 x3 k d b) ≤ x

/-- The scale of a sample from the running maximum. -/
def topS (A : Vec Ideal S8x128 .f32) (b : Fin 128) : EReal :=
  scaleOf (Finset.fold max (Ideal.ofBits .f32 0xFF800000#32) (fun r : Fin 8 => A (ix2 r b)) Finset.univ)

theorem pay8_apply (A : Vec Ideal S8x128 .f32) (b : Fin 128) : k0_pay8 (F := Ideal) A (ix2 0 b) = topS A b := by
  unfold topS
  pointwise [k0_pay8]
  rfl

theorem pay9_apply (A : Vec Ideal S8x128 .f32) (b : Fin 128) : k0_pay9 (F := Ideal) A (ix3 0 0 b) = topS A b := by
  rw [← pay8_apply]
  unfold k0_pay9
  generalize k0_pay8 (F := Ideal) A = z
  pointwise

theorem pay10_apply (A : Vec Ideal S8x128 .f32) (b d : Fin 128) : k0_pay10 (F := Ideal) A (ix2 b d) = topS A b := by
  rw [← pay8_apply]
  unfold k0_pay10
  generalize k0_pay8 (F := Ideal) A = z
  pointwise

theorem pay11_apply (A : Vec Ideal S8x128 .f32) (b d : Fin 128) : k0_pay11 (F := Ideal) A (ix2 b d) = topS A b := by
  rw [← pay10_apply A b d]
  unfold k0_pay11
  generalize k0_pay10 (F := Ideal) A = z
  pointwise

theorem whole7 (M : Memref sig .tc .vmem S1x1x128 .f32) (f : BufTy.Contents (Elt Ideal) M.view.ty) (L : List (View.Piece (Elt Ideal) S1x1x128 .f32))
    (V : Vec Ideal S1x1x128 .f32) (h : ∀ a, (![0, 0, 0] : Fin 3 → Nat) a + S1x1x128.size a ≤ S1x1x128.size a) :
    M.view.read (Elt Ideal) (M.view.writes (Elt Ideal) f (⟨Rect.unit (s := S1x1x128) ![0, 0, 0] S1x1x128.size h, V⟩ :: L)) = V := by
  funext y
  refine View.read_writes_cons_hit_of_coords _ _ (Rect.unit (s := S1x1x128) ![0, 0, 0] S1x1x128.size h) V L y y ?_
  intro a
  match a with
  | 0 => show (y 0).val = 0 + 1 * (y 0).val; omega
  | 1 => show (y 1).val = 0 + 1 * (y 1).val; omega
  | 2 => show (y 2).val = 0 + 1 * (y 2).val; omega

theorem whole8 (M : Memref sig .tc .vmem S128x128 .f32) (f : BufTy.Contents (Elt Ideal) M.view.ty) (L : List (View.Piece (Elt Ideal) S128x128 .f32))
    (V : Vec Ideal S128x128 .f32) (h : ∀ a, (![0, 0] : Fin 2 → Nat) a + S128x128.size a ≤ S128x128.size a) :
    M.view.read (Elt Ideal) (M.view.writes (Elt Ideal) f (⟨Rect.unit (s := S128x128) ![0, 0] S128x128.size h, V⟩ :: L)) = V := by
  funext y
  refine View.read_writes_cons_hit_of_coords _ _ (Rect.unit (s := S128x128) ![0, 0] S128x128.size h) V L y y ?_
  refine Fin.forall_fin_two.mpr ⟨?_, ?_⟩
  · show (y 0).val = 0 + 1 * (y 0).val; omega
  · show (y 1).val = 0 + 1 * (y 1).val; omega

/-- After twenty trips the running maximum's buffer holds what the last trip stored, whatever it held before. -/
theorem last12 (𝒱 : Variants) (c : Dev nD) (bd : Option 𝒱.V) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (x0 : Vec Ideal S20x4x64x128 .i8) (x1 x2 x3 : Vec Ideal S20x4x128 .f32) (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (f f' : BufTy.Contents (Elt Ideal) arg12.view.ty) :
    arg12.view.read (Elt Ideal) (arg12.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 20).2.2.2)
      = arg12.view.read (Elt Ideal) (arg12.view.writes (Elt Ideal) f' (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 20).2.2.2) := by
  have n := 19
  have hn' : 19 < k0_t1_loop.trips := by rw [trips1]; omega
  have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 ⟨19, hn'⟩
  have es : (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 20).2.2.2 = _ := (congrArg (fun z => z.2.2.2) hs).trans (congrArg (fun L => L ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) g9 g10 g11 g12 19).2.2.2) (trip12 𝒱 c bd i arg2 harg2 arg3 harg3 arg4 harg4 arg5 harg5 arg6 harg6 arg7 harg7 arg8 harg8 arg9 harg9 arg10 harg10 arg11 harg11 arg12 harg12 arg13 harg13 (harg2.unread x0) (harg3.unread x1) (harg4.unread x2) (harg5.unread x3) _ _ _ _ ⟨19, hn'⟩))
  rw [es, List.singleton_append, whole_hit, whole_hit]

end Cert.Value2
-- ==== Proof.Value2LoopQ.lean ====
/- The quantising loop: the codes of a block of samples. -/
module

public import proofs.«01_k».proof.Proof.Value2Rows
public import proofs.«01_k».proof.Proof.Gen.Kernel2Ideal.Loops

@[expose] public section

set_option maxRecDepth 16384

noncomputable section

namespace Cert.Value2

open Idealize.ShloMosaic Cert.Kernel2Ideal Cert.Kernel2Ideal.Gen Idealize.SL
open Cert.Value (scaleOf codeOf)

/-- The codes of a block: row `132 s + r` of the token buffer under the scale of sample `r`. -/
def codesV (Y : Vec Ideal S21120x128 .f32) (S : Vec Ideal S128x128 .f32) : Vec Ideal S128x160x128 .fp8e4m3 :=
  fun y => codeOf (Y (ix2 ⟨132 * (y 1).val + (y 0).val, by
      have h0 : (y 0).val < 128 := (y 0).isLt
      have h1 : (y 1).val < 160 := (y 1).isLt
      omega⟩ ⟨(y 2).val, (y 2).isLt⟩)) (S (ix2 ⟨(y 0).val, (y 0).isLt⟩ ⟨(y 2).val, (y 2).isLt⟩))

theorem pay12_apply (a : Vec Ideal S160x128 .f32) (b : Vec Ideal S1x128 .f32) (r : Fin 160) (k : Fin 128) :
    k0_pay12 (F := Ideal) a b (ix3 0 r k) = codeOf (a (ix2 r k)) (b (ix2 0 k)) := by
  pointwise [k0_pay12]
  rfl

theorem pay12_piece (Y : Vec Ideal S21120x128 .f32) (S : Vec Ideal S128x128 .f32) (n : Nat) (hn : n < 128) (h h' h'') (x : S1x160x128.Idx) :
    k0_pay12 (F := Ideal) (fun x => Y ((⟨![n, 0], ![160, 128], ![132, 1], h'⟩ : LoadRect S21120x128).idx x))
      (View.ld S (Rect.unit (s := S128x128) ![n, 0] ![1, 128] h'')) x
      = codesV Y S ((Rect.unit (s := S128x160x128) ![n, 0, 0] ![1, 160, 128] h).emb x) := by
  obtain ⟨u, r, k, rfl⟩ : ∃ (u : Fin 1) (r : Fin 160) (k : Fin 128), x = ix3 u r k := ⟨x 0, x 1, x 2, eq_ix3 x⟩
  obtain rfl : u = 0 := Subsingleton.elim _ _
  rw [pay12_apply]
  refine congrArg₂ codeOf (congrArg Y ?_) (congrArg S ?_)
  · refine Shape.idx_ext₂ ?_ ?_
    · show n + 132 * r.val = 132 * (0 + 1 * r.val) + (n + 1 * 0); omega
    · show 0 + 1 * k.val = 0 + 1 * k.val; rfl
  · refine Shape.idx_ext₂ ?_ ?_
    · show n + 1 * 0 = n + 1 * 0; rfl
    · show 0 + 1 * k.val = 0 + 1 * k.val; rfl

theorem mem_sample (n : Nat) (h) (y : S128x160x128.Idx) (h1 : (y 0).val = n) :
    y ∈ (Rect.unit (s := S128x160x128) ![n, 0, 0] ![1, 160, 128] h).set := by
  rw [Rect.mem_set_unit]
  intro a
  match a with
  | 0 => exact ⟨h1.ge, by show (y 0).val < n + 1; omega⟩
  | 1 => exact ⟨Nat.zero_le _, by show (y 1).val < 0 + 160; have : (y 1).val < 160 := (y 1).isLt; omega⟩
  | 2 => exact ⟨Nat.zero_le _, by show (y 2).val < 0 + 128; have : (y 2).val < 128 := (y 2).isLt; omega⟩

theorem off9_eq : ∀ k : Fin k0_t2_loop.trips, k0_off9 k = ![k.val, 0] := by decide +kernel
theorem off10_eq : ∀ k : Fin k0_t2_loop.trips, k0_off10 k = ![k.val, 0] := by decide +kernel
theorem off11_eq : ∀ k : Fin k0_t2_loop.trips, k0_off11 k = ![k.val, 0, 0] := by decide +kernel
theorem trips2 : k0_t2_loop.trips = 128 := by decide +kernel

theorem tripL2_eq (𝒱 : Variants) (c : Dev nD) (bd : Option 𝒱.V) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (k0_h4 : k0_cond4 i = 1#1) (X_arg11 : BufTy.Contents (Elt Ideal) arg11.view.ty) (X_arg13 : BufTy.Contents (Elt Ideal) arg13.view.ty) (k : Fin k0_t2_loop.trips) :
    ∃ h h' h'', tripL_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h4 X_arg11 X_arg13 k
      = [⟨Rect.unit (s := S128x160x128) ![k.val, 0, 0] ![1, 160, 128] h,
          k0_pay12 (View.readAt (Elt Ideal) arg11.view (⟨![k.val, 0], ![160, 128], ![132, 1], h'⟩ : LoadRect S21120x128) X_arg11)
            (View.readAt (Elt Ideal) arg13.view (Rect.unit (s := S128x128) ![k.val, 0] ![1, 128] h'').toLoadRect X_arg13)⟩] := by
  have base : tripL_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h4 X_arg11 X_arg13 k
      = [⟨Rect.unit (s := S128x160x128) (k0_off11 k) ![1, 160, 128] (k0_off11_inb i k k0_h4),
          k0_pay12 (View.readAt (Elt Ideal) arg11.view (⟨k0_off9 k, ![160, 128], ![132, 1], k0_off9_inb i k k0_h4⟩ : LoadRect S21120x128) X_arg11)
            (View.readAt (Elt Ideal) arg13.view (Rect.unit (s := S128x128) (k0_off10 k) ![1, 128] (k0_off10_inb i k k0_h4)).toLoadRect X_arg13)⟩] := by
    unfold tripL_k0_t2 trip_k0_t2
    sl_unfold_words
    rfl
  rw [base]
  have gen : ∀ (o7 : Fin 3 → Nat) (o5 o6 : Fin 2 → Nat) (h7 : ∀ a, o7 a + (![1, 160, 128] : Fin 3 → Nat) a ≤ S128x160x128.size a)
      (h5 : ∀ a, (![160, 128] : Fin 2 → Nat) a = 0 ∨ o5 a + (![132, 1] : Fin 2 → Nat) a * ((![160, 128] : Fin 2 → Nat) a - 1) < S21120x128.size a)
      (h6 : ∀ a, o6 a + (![1, 128] : Fin 2 → Nat) a ≤ S128x128.size a), o7 = ![k.val, 0, 0] → o5 = ![k.val, 0] → o6 = ![k.val, 0] →
      ∃ h h' h'', ([⟨Rect.unit (s := S128x160x128) o7 ![1, 160, 128] h7,
          k0_pay12 (View.readAt (Elt Ideal) arg11.view (⟨o5, ![160, 128], ![132, 1], h5⟩ : LoadRect S21120x128) X_arg11)
            (View.readAt (Elt Ideal) arg13.view (Rect.unit (s := S128x128) o6 ![1, 128] h6).toLoadRect X_arg13)⟩] : List (View.Piece (Elt Ideal) S128x160x128 .fp8e4m3))
      = [⟨Rect.unit (s := S128x160x128) ![k.val, 0, 0] ![1, 160, 128] h,
          k0_pay12 (View.readAt (Elt Ideal) arg11.view (⟨![k.val, 0], ![160, 128], ![132, 1], h'⟩ : LoadRect S21120x128) X_arg11)
            (View.readAt (Elt Ideal) arg13.view (Rect.unit (s := S128x128) ![k.val, 0] ![1, 128] h'').toLoadRect X_arg13)⟩] := by
    rintro o7 o5 o6 h7 h5 h6 rfl rfl rfl
    exact ⟨_, _, _, rfl⟩
  exact gen _ _ _ _ _ _ (off11_eq k) (off9_eq k) (off10_eq k)

theorem pb2_read (𝒱 : Variants) (c : Dev nD) (bd : Option 𝒱.V) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (k0_h4 : k0_cond4 i = 1#1)  (Y : Vec Ideal S21120x128 .f32) (S : Vec Ideal S128x128 .f32)
    (X_arg11 : BufTy.Contents (Elt Ideal) arg11.view.ty) (hY : arg11.view.read (Elt Ideal) X_arg11 = Y)
    (X_arg13 : BufTy.Contents (Elt Ideal) arg13.view.ty) (hS : arg13.view.read (Elt Ideal) X_arg13 = S)
    (f : BufTy.Contents (Elt Ideal) arg6.view.ty) :
    arg6.view.read (Elt Ideal) (arg6.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h4 X_arg11 X_arg13 k0_t2_loop.trips))
      = codesV Y S := by
  have key : ∀ n, n ≤ k0_t2_loop.trips →
      (∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h4 X_arg11 X_arg13 n, ∀ x : p.1.shape.Idx, p.2 x = codesV Y S (p.1.emb x))
      ∧ ∀ y : S128x160x128.Idx, (y 0).val < n → ∃ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 k0_h4 X_arg11 X_arg13 n, y ∈ p.1.set := by
    intro n
    induction n with
    | zero =>
      intro _
      refine ⟨fun p hp => absurd hp (by rw [pb_k0_t2.eq_1]; exact List.not_mem_nil), fun y hy => absurd hy (by omega)⟩
    | succ n ih =>
      intro hn
      obtain ⟨ih1, ih2⟩ := ih (Nat.le_of_succ_le hn)
      have hn' : n < k0_t2_loop.trips := hn
      rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 k0_h4 X_arg11 X_arg13 ⟨n, hn'⟩]
      obtain ⟨h, h', h'', e⟩ := tripL2_eq 𝒱 c bd i arg2 harg2 arg3 harg3 arg4 harg4 arg5 harg5 arg6 harg6 arg7 harg7 arg8 harg8 arg9 harg9 arg10 harg10 arg11 harg11 arg12 harg12 arg13 harg13 k0_h4 X_arg11 X_arg13 ⟨n, hn'⟩
      rw [e]
      have n128 : n < 128 := trips2 ▸ hn'
      refine ⟨?_, ?_⟩
      · intro p hp
        rcases List.mem_append.mp hp with hp | hp
        · obtain rfl := List.mem_singleton.mp hp
          intro x
          rw [View.readAt_eq_ld, hS]
          subst hY
          exact pay12_piece _ S n n128 h h' h'' x
        · exact ih1 p hp
      · intro y hy
        by_cases hlt : (y 0).val < n
        · obtain ⟨p, hp, hy'⟩ := ih2 y hlt
          exact ⟨p, List.mem_append_right _ hp, hy'⟩
        · refine ⟨_, List.mem_append_left _ (List.mem_singleton.mpr rfl), ?_⟩
          exact mem_sample n h y (by omega)
  obtain ⟨h1, h2⟩ := key _ le_rfl
  funext y
  exact View.read_writes_apply_of_pieces _ _ (codesV Y S) _ h1 y (h2 y (by have : (y 0).val < 128 := (y 0).isLt; rw [trips2]; omega))

end Cert.Value2
-- ==== Proof.Value2Filled.lean ====
/- What the token buffer and the running maximum hold within a block of samples. -/
module

public import proofs.«01_k».proof.Proof.Value2Base
public import proofs.«01_k».proof.Proof.Value2LoopQ

@[expose] public section

set_option maxRecDepth 16384

noncomputable section

namespace Cert.Value2

open Idealize.ShloMosaic Idealize.ShloMosaic.TcCoe Cert.Kernel2Ideal Cert.Kernel2Ideal.Gen
open Cert.Value (scaleOf codeOf ofBits_ninf)

/-- The features in `P` of block `i` lie in the token buffer, and the running maximum is the largest of their magnitudes, lane by lane modulo eight. -/
structure Filled (a : Args) (P : Fin 160 → Prop) (i : Fin 32) (Y : Vec Ideal S21120x128 .f32) (A : Vec Ideal S8x128 .f32) : Prop where
  tok : ∀ f, P f → ∀ (r d : Fin 128) (y : ℕ) (hy : y < 21120), y = 132 * f.val + r.val → Y (ix2 ⟨y, hy⟩ d) = xG a f d (row i r)
  bnd : ∀ (r : Fin 8) (b : Fin 128) (x : EReal), A (ix2 r b) ≤ x ↔ 0 ≤ x ∧ ∀ f, P f → ∀ d : Fin 128, d.val % 8 = r.val → mag (xG a f d (row i b)) ≤ x

/-- The features of the first `j` steps. -/
def slots (j : ℕ) (f : Fin 160) : Prop := f.val < 20 * j

theorem Filled.zero (a : Args) (i : Fin 32) (Y : Vec Ideal S21120x128 .f32) : Filled a (slots 0) i Y (fun _ => (0 : EReal)) where
  tok f hf := absurd hf (by unfold slots; omega)
  bnd r b x := ⟨fun h => ⟨h, fun f hf => absurd hf (by unfold slots; omega)⟩, fun h => h.1⟩

variable {a : Args} {i : Fin 32} {Y Y' : Vec Ideal S21120x128 .f32} {A A' : Vec Ideal S8x128 .f32}

theorem Filled.step {p j : ℕ} {x0 : Vec Ideal S20x4x64x128 .i8} {x1 x2 x3 : Vec Ideal S20x4x128 .f32} (h : Filled a (slots j) i Y A)
    (hs : Step p x0 x1 x2 x3 Y Y' A A') (hp : p = j) (hj : j < 8)
    (hx : ∀ (f : Fin 160) (k : Fin 20) (d b : Fin 128), f.val = 20 * j + k.val → xB x0 x1 x2 x3 k d b = xG a f d (row i b)) :
    Filled a (slots (j + 1)) i Y' A' := by
  subst hp
  refine ⟨fun f hf r d y hy e => ?_, fun r b x => ?_⟩
  · unfold slots at hf
    by_cases hlt : f.val < 20 * p
    · refine (hs.old (ix2 ⟨y, hy⟩ d) (Or.inl ?_)).trans (h.tok f hlt r d y hy e)
      show y < 2640 * p
      omega
    · have hk : f.val - 20 * p < 20 := by omega
      refine (hs.tok ⟨f.val - 20 * p, hk⟩ r d y hy (by show y = 2640 * p + 132 * (f.val - 20 * p) + r.val; omega)).trans ?_
      exact hx f ⟨f.val - 20 * p, hk⟩ d r (by show f.val = 20 * p + (f.val - 20 * p); omega)
  · rw [hs.bnd r b x, h.bnd r b x]
    constructor
    · rintro ⟨⟨h0, h1⟩, h2⟩
      refine ⟨h0, fun f hf d hd => ?_⟩
      unfold slots at hf
      by_cases hlt : f.val < 20 * p
      · exact h1 f hlt d hd
      · have hk : f.val - 20 * p < 20 := by omega
        have e := hx f ⟨f.val - 20 * p, hk⟩ d b (by show f.val = 20 * p + (f.val - 20 * p); omega)
        rw [← e]
        exact h2 ⟨f.val - 20 * p, hk⟩ d hd
    · rintro ⟨h0, h1⟩
      refine ⟨⟨h0, fun f hf d hd => h1 f ?_ d hd⟩, fun k d hd => ?_⟩
      · unfold slots at hf ⊢
        omega
      · have hlt : 20 * p + k.val < 160 := by omega
        rw [hx ⟨20 * p + k.val, hlt⟩ k d b rfl]
        exact h1 _ (by show 20 * p + k.val < 20 * (p + 1); omega) d hd

theorem Filled.top (h : Filled a (slots 8) i Y A) (b : Fin 128) : topS A b = scaleOf (amaxG a (row i b)) := by
  unfold topS
  refine congrArg scaleOf (eq_of_forall_ge_iff fun x => ?_)
  rw [Finset.fold_max_le, ofBits_ninf, amaxG_le]
  constructor
  · rintro ⟨-, h1⟩ f d
    exact ((h.bnd ⟨d.val % 8, by omega⟩ b x).mp (h1 _ (Finset.mem_univ _))).2 f (by unfold slots; omega) d rfl
  · intro h1
    refine ⟨bot_le, fun r _ => (h.bnd r b x).mpr ⟨?_, fun f _ d _ => h1 f d⟩⟩
    exact le_trans (mag_nonneg _) (h1 0 0)

theorem Filled.codes (h : Filled a (slots 8) i Y A) (b : Fin 128) (f : Fin 160) (d : Fin 128) :
    codesV Y (fun y => topS A ⟨(y 0).val, (y 0).isLt⟩) (ix3 b f d) = codesG a (ix3 (row i b) f d) := by
  show codeOf (Y (ix2 (⟨132 * f.val + b.val, _⟩ : Fin 21120) d)) (topS A b) = codeOf (xG a f d (row i b)) (scaleOf (amaxG a (row i b)))
  rw [h.top]
  exact congrArg (fun z => codeOf z (scaleOf (amaxG a (row i b)))) (h.tok f (by unfold slots; omega) b d _ _ rfl)

end Cert.Value2
-- ==== Proof.Body2IdealBase.lean ====
/- The grid of the call, its branch conditions by the point, the names of its buffers, and the frame from a relational run. -/
module

public import proofs.«01_k».proof.Proof.Gen.Kernel2Ideal.Frame
public import proofs.«01_k».proof.Proof.Gen.Kernel2Ideal.Loops
public import proofs.«01_k».proof.Proof.Gen.Kernel2Ideal.Points
public import Idealize.ShloMosaic.Lib.Pipeline.DatRel

@[expose] public section

set_option maxRecDepth 16384

noncomputable section

namespace Cert.Kernel2Ideal.Body

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run that leaves every staged array at what relational proof data say of it leaves the arguments as they were. -/
theorem frame_of_rdat (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The body's branch conditions -/

/-- The condition of the body's first branch, from the grid coordinates. -/
abbrev cond0_0 (i : grid0.Coords) : Prop := (Scalar.cmpi .ne (Scalar.extui (Scalar.cmpi .eq (BitVec.ofNat 32 (i 1).val) 0#32)) 0#32) = 1#1
/-- It holds at the first of the eight points of a batch block. -/
theorem hcond0_0 : ∀ t : Fin cfg0.N, cond0_0 (grid0.coords t) ↔ t.val % 8 = 0 :=
  (by decide +kernel : ∀ t : Fin grid0.N, cond0_0 (grid0.coords t) ↔ t.val % 8 = 0)
/-- The condition of the body's last branch, from the grid coordinates. -/
abbrev cond0_3 (i : grid0.Coords) : Prop := k0_cond4 i = 1#1
/-- It holds at the last of the eight points of a batch block. -/
theorem hcond0_3 : ∀ t : Fin cfg0.N, cond0_3 (grid0.coords t) ↔ t.val % 8 = 7 :=
  (by decide +kernel : ∀ t : Fin grid0.N, cond0_3 (grid0.coords t) ↔ t.val % 8 = 7)
/-- The tokens of the first output range are stored at the first five points of a batch block, -/
theorem hcond0_1 : ∀ t : Fin cfg0.N, k0_cond2 (grid0.coords t) = 1#1 ↔ t.val % 8 < 5 :=
  (by decide +kernel : ∀ t : Fin grid0.N, k0_cond2 (grid0.coords t) = 1#1 ↔ t.val % 8 < 5)
/-- and those of the second at the others. -/
theorem hcond0_2 : ∀ t : Fin cfg0.N, k0_cond3 (grid0.coords t) = 1#1 ↔ ¬t.val % 8 < 5 :=
  (by decide +kernel : ∀ t : Fin grid0.N, k0_cond3 (grid0.coords t) = 1#1 ↔ ¬t.val % 8 < 5)

/-! ## The staging buffers of a point -/

/-- Each window's current staging memref at point `t`, spelled as the pipeline passes it (`bodyAt0`), and its wholeness. -/
abbrev ms0_0 (t : Fin cfg0.N) : Memref sig .tc .vmem S20x4x64x128 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S20x4x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x4x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x4x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x160x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S20x128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S20x128x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S21120x128 .f32 := Memref.whole cc0_scratch0
abbrev scM0_1 : Memref sig .tc .vmem S8x128 .f32 := Memref.whole cc0_scratch1
abbrev scM0_2 : Memref sig .tc .vmem S128x128 .f32 := Memref.whole cc0_scratch2

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel2Ideal.Body

end
-- ==== Proof.Body2IdealA.lean ====
/- First step of a batch block: the body's triple, the stores it makes found by running it. -/
module

public import proofs.«01_k».proof.Proof.Body2IdealBase

@[expose] public section

set_option maxRecDepth 16384

noncomputable section

namespace Cert.Kernel2Ideal.Body

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- First step of a batch block: the running maximum is reset, then twenty tokens are computed. -/
noncomputable def kernelRun0_A (c : Dev nD) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (hc0 : cond0_0 i) (hc3 : ¬cond0_3 i)
    (x0 : Vec F S20x4x64x128 .i8) (x1 : Vec F S20x4x128 .f32) (x2 : Vec F S20x4x128 .f32) (x3 : Vec F S20x4x128 .f32) (y7 : Vec F S20x128x128 .f32) (y8 : Vec F S20x128x128 .f32) (s0 : Vec F S21120x128 .f32) (s1 : Vec F S8x128 .f32) :
    { L : List (View.Piece (Elt F) S20x128x128 .f32) × List (View.Piece (Elt F) S20x128x128 .f32) × List (View.Piece (Elt F) S21120x128 .f32) × List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare y7 ∗ owns (c : Thread nD τ) arg10 fullShare y8 ∗ owns (c : Thread nD τ) arg11 fullShare s0 ∗ owns (c : Thread nD τ) arg12 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg9.view.loc (c : Thread nD τ) ↦[arg9.view.set]{fullShare} arg9.view.writes (Elt F) (harg9.unread y7) L.1) ∗ (arg10.view.loc (c : Thread nD τ) ↦[arg10.view.set]{fullShare} arg10.view.writes (Elt F) (harg10.unread y8) L.2.1) ∗ (arg11.view.loc (c : Thread nD τ) ↦[arg11.view.set]{fullShare} arg11.view.writes (Elt F) (harg11.unread s0) L.2.2.1) ∗ (∃ f, arg12.view.loc (c : Thread nD τ) ↦[arg12.view.set]{fullShare} arg12.view.writes (Elt F) f L.2.2.2)) -∗ K ⟨⟩))
          ⊢ wp frame (wpE (defs₀ (F := F)) Variants.none c none) E (cc0_pool i arg2 harg2 arg3 harg3 arg4 harg4 arg5 harg5 arg6 harg6 arg7 harg7 arg8 harg8 arg9 harg9 arg10 harg10 arg11 harg11 arg12 harg12 arg13 harg13) K } := by
  refine ⟨(?_, ?_, ?_, ?_), fun E K => ?run⟩
  case run =>
    simp only [cc0_pool_eq_skeleton]; unfold cc0_pool_skel
    unfold owns
    iintro ⟨⟨%f2, %hf2, H2⟩, ⟨%f3, %hf3, H3⟩, ⟨%f4, %hf4, H4⟩, ⟨%f5, %hf5, H5⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | sl_exact hc0 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]; · iexact H9
    isplitl [H10]; · iexact H10
    isplitl [H11]; · iexact H11
    iexists _; iexact H12

end Cert.Kernel2Ideal.Body

end
-- ==== Proof.Value2RunA.lean ====
/- The first step of a block: what its stores leave. -/
module

public import proofs.«01_k».proof.Proof.Value2Base
public import proofs.«01_k».proof.Proof.Value2LoopQ
public import proofs.«01_k».proof.Proof.Body2IdealA

@[expose] public section

set_option maxRecDepth 16384

noncomputable section

namespace Cert.Value2

open Idealize.ShloMosaic Cert.Kernel2Ideal Cert.Kernel2Ideal.Gen Cert.Kernel2Ideal.Body Idealize.SL
open Cert.Value (scaleOf codeOf)

variable (c : Dev nD) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (hc0 : cond0_0 i) (hc3 : ¬cond0_3 i) (x0 : Vec Ideal S20x4x64x128 .i8) (x1 x2 x3 : Vec Ideal S20x4x128 .f32) (y7 y8 : Vec Ideal S20x128x128 .f32) (s0 : Vec Ideal S21120x128 .f32) (s1 : Vec Ideal S8x128 .f32)

theorem runA_step (e12 : BufTy.Contents (Elt Ideal) arg12.view.ty) : Step (i 1).val x0 x1 x2 x3 s0
    (arg11.view.read (Elt Ideal) (arg11.view.writes (Elt Ideal) (harg11.unread s0) (kernelRun0_A (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.2.2.1))
    (fun _ => 0)
    (arg12.view.read (Elt Ideal) (arg12.view.writes (Elt Ideal) e12 (kernelRun0_A (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.2.2.2)) := by
  unfold kernelRun0_A
  dsimp only
  have hT : Scf.trips (0#32) (Scalar.addi 0#32 20#32) 1#32 = 20 := trips1
  rw [hT]
  refine ⟨fun k r d y hy e => (loop11 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ 20 le_rfl).1 k k.isLt r d y hy e, fun y hy => ((loop11 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ 20 le_rfl).2 y hy).trans (by rw [harg11.read_unread]), fun r b x => ?_⟩
  have h12 : arg12.view.read (Elt Ideal) (arg12.view.writes (Elt Ideal) arg12.view.junk (kernelRun0_A.sl.H12_1 (F := Ideal))) = fun _ => (0 : EReal) := by
    unfold kernelRun0_A.sl.H12_1
    refine (whole_hit arg12 _ _ _ _).trans ?_
    funext y
    rw [eq_ix2 y]
    pointwise [k0_pay1]
  have hl := loop12 Variants.none c none i arg2 harg2 arg3 harg3 arg4 harg4 arg5 harg5 arg6 harg6 arg7 harg7 arg8 harg8 arg9 harg9 arg10 harg10 arg11 harg11 arg12 harg12 arg13 harg13 x0 x1 x2 x3 (harg9.unread y7) (harg10.unread y8) (harg11.unread s0) (arg12.view.writes (Elt Ideal) arg12.view.junk (kernelRun0_A.sl.H12_1 (F := Ideal))) 20 le_rfl r b x
  rw [h12] at hl
  refine Iff.trans ?_ (hl.trans (and_congr_right fun _ => ⟨fun h k => h k k.isLt, fun h k _ => h k⟩))
  refine iff_of_eq (congrArg (fun z : EReal => z ≤ x) ?_)
  rw [View.writes_append]
  exact congrFun (last12 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ _ _) _

theorem runA_9 (h2 : k0_cond2 i = 1#1) (h3 : ¬k0_cond3 i = 1#1) (k : Fin 20) (b d : Fin 128) :
    (arg9.view.read (Elt Ideal) (arg9.view.writes (Elt Ideal) (harg9.unread y7) (kernelRun0_A (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.1)) (ix3 k b d) = xB x0 x1 x2 x3 k d b := by
  unfold kernelRun0_A
  dsimp only
  exact loop9 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ h2 h3 _ (le_of_eq trips1) k (lt_of_lt_of_eq k.isLt trips1.symm) b d

end Cert.Value2
-- ==== Proof.Body2IdealB.lean ====
/- Inner step of a batch block: the body's triple, the stores it makes found by running it. -/
module

public import proofs.«01_k».proof.Proof.Body2IdealBase

@[expose] public section

set_option maxRecDepth 16384

noncomputable section

namespace Cert.Kernel2Ideal.Body

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- Inner step of a batch block: twenty tokens are computed. -/
noncomputable def kernelRun0_B (c : Dev nD) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (hc0 : ¬cond0_0 i) (hc3 : ¬cond0_3 i)
    (x0 : Vec F S20x4x64x128 .i8) (x1 : Vec F S20x4x128 .f32) (x2 : Vec F S20x4x128 .f32) (x3 : Vec F S20x4x128 .f32) (y7 : Vec F S20x128x128 .f32) (y8 : Vec F S20x128x128 .f32) (s0 : Vec F S21120x128 .f32) (s1 : Vec F S8x128 .f32) :
    { L : List (View.Piece (Elt F) S20x128x128 .f32) × List (View.Piece (Elt F) S20x128x128 .f32) × List (View.Piece (Elt F) S21120x128 .f32) × List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare y7 ∗ owns (c : Thread nD τ) arg10 fullShare y8 ∗ owns (c : Thread nD τ) arg11 fullShare s0 ∗ owns (c : Thread nD τ) arg12 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg9.view.loc (c : Thread nD τ) ↦[arg9.view.set]{fullShare} arg9.view.writes (Elt F) (harg9.unread y7) L.1) ∗ (arg10.view.loc (c : Thread nD τ) ↦[arg10.view.set]{fullShare} arg10.view.writes (Elt F) (harg10.unread y8) L.2.1) ∗ (arg11.view.loc (c : Thread nD τ) ↦[arg11.view.set]{fullShare} arg11.view.writes (Elt F) (harg11.unread s0) L.2.2.1) ∗ (arg12.view.loc (c : Thread nD τ) ↦[arg12.view.set]{fullShare} arg12.view.writes (Elt F) (harg12.unread s1) L.2.2.2)) -∗ K ⟨⟩))
          ⊢ wp frame (wpE (defs₀ (F := F)) Variants.none c none) E (cc0_pool i arg2 harg2 arg3 harg3 arg4 harg4 arg5 harg5 arg6 harg6 arg7 harg7 arg8 harg8 arg9 harg9 arg10 harg10 arg11 harg11 arg12 harg12 arg13 harg13) K } := by
  refine ⟨(?_, ?_, ?_, ?_), fun E K => ?run⟩
  case run =>
    simp only [cc0_pool_eq_skeleton]; unfold cc0_pool_skel
    unfold owns
    iintro ⟨⟨%f2, %hf2, H2⟩, ⟨%f3, %hf3, H3⟩, ⟨%f4, %hf4, H4⟩, ⟨%f5, %hf5, H5⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | sl_exact hc0 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]; · iexact H9
    isplitl [H10]; · iexact H10
    isplitl [H11]; · iexact H11
    iexact H12

end Cert.Kernel2Ideal.Body

end
-- ==== Proof.Value2RunB.lean ====
/- The middle step of a block: what its stores leave. -/
module

public import proofs.«01_k».proof.Proof.Value2Base
public import proofs.«01_k».proof.Proof.Value2LoopQ
public import proofs.«01_k».proof.Proof.Body2IdealB

@[expose] public section

set_option maxRecDepth 16384

noncomputable section

namespace Cert.Value2

open Idealize.ShloMosaic Cert.Kernel2Ideal Cert.Kernel2Ideal.Gen Cert.Kernel2Ideal.Body Idealize.SL
open Cert.Value (scaleOf codeOf)

variable (c : Dev nD) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (hc0 : ¬cond0_0 i) (hc3 : ¬cond0_3 i) (x0 : Vec Ideal S20x4x64x128 .i8) (x1 x2 x3 : Vec Ideal S20x4x128 .f32) (y7 y8 : Vec Ideal S20x128x128 .f32) (s0 : Vec Ideal S21120x128 .f32) (s1 : Vec Ideal S8x128 .f32)

theorem runB_step : Step (i 1).val x0 x1 x2 x3 s0
    (arg11.view.read (Elt Ideal) (arg11.view.writes (Elt Ideal) (harg11.unread s0) (kernelRun0_B (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.2.2.1))
    s1
    (arg12.view.read (Elt Ideal) (arg12.view.writes (Elt Ideal) (harg12.unread s1) (kernelRun0_B (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.2.2.2)) := by
  unfold kernelRun0_B
  dsimp only
  have hT : Scf.trips (0#32) (Scalar.addi 0#32 20#32) 1#32 = 20 := trips1
  rw [hT]
  refine ⟨fun k r d y hy e => (loop11 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ 20 le_rfl).1 k k.isLt r d y hy e, fun y hy => ((loop11 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ 20 le_rfl).2 y hy).trans (by rw [harg11.read_unread]), fun r b x => ?_⟩
  have hl := loop12 Variants.none c none i arg2 harg2 arg3 harg3 arg4 harg4 arg5 harg5 arg6 harg6 arg7 harg7 arg8 harg8 arg9 harg9 arg10 harg10 arg11 harg11 arg12 harg12 arg13 harg13 x0 x1 x2 x3 (harg9.unread y7) (harg10.unread y8) (harg11.unread s0) (harg12.unread s1) 20 le_rfl r b x
  rw [harg12.read_unread] at hl
  exact hl.trans (and_congr_right fun _ => ⟨fun h k => h k k.isLt, fun h k _ => h k⟩)

theorem runB_9 (h2 : k0_cond2 i = 1#1) (h3 : ¬k0_cond3 i = 1#1) (k : Fin 20) (b d : Fin 128) :
    (arg9.view.read (Elt Ideal) (arg9.view.writes (Elt Ideal) (harg9.unread y7) (kernelRun0_B (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.1)) (ix3 k b d) = xB x0 x1 x2 x3 k d b := by
  unfold kernelRun0_B
  dsimp only
  exact loop9 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ h2 h3 _ (le_of_eq trips1) k (lt_of_lt_of_eq k.isLt trips1.symm) b d

theorem runB_9n (h2 : ¬k0_cond2 i = 1#1) (h3 : k0_cond3 i = 1#1) :
    (arg9.view.read (Elt Ideal) (arg9.view.writes (Elt Ideal) (harg9.unread y7) (kernelRun0_B (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.1)) = y7 := by
  unfold kernelRun0_B
  dsimp only
  rw [loop9_nil Variants.none c none i arg2 harg2 arg3 harg3 arg4 harg4 arg5 harg5 arg6 harg6 arg7 harg7 arg8 harg8 arg9 harg9 arg10 harg10 arg11 harg11 arg12 harg12 arg13 harg13 x0 x1 x2 x3 _ _ _ _ h2 h3 _ (le_of_eq trips1)]
  exact harg9.read_unread _

theorem runB_10 (h2 : ¬k0_cond2 i = 1#1) (h3 : k0_cond3 i = 1#1) (k : Fin 20) (b d : Fin 128) :
    (arg10.view.read (Elt Ideal) (arg10.view.writes (Elt Ideal) (harg10.unread y8) (kernelRun0_B (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y7 y8 s0 s1).1.2.1)) (ix3 k b d) = xB x0 x1 x2 x3 k d b := by
  unfold kernelRun0_B
  dsimp only
  exact loop10 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ h2 h3 _ (le_of_eq trips1) k (lt_of_lt_of_eq k.isLt trips1.symm) b d

end Cert.Value2
-- ==== Proof.Body2IdealC.lean ====
/- Last step of a batch block: the body's triple, the stores it makes found by running it. -/
module

public import proofs.«01_k».proof.Proof.Body2IdealBase

@[expose] public section

set_option maxRecDepth 16384

noncomputable section

namespace Cert.Kernel2Ideal.Body

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 8000000 in
/-- Last step of a batch block: twenty tokens are computed, then the scale is taken and every token quantised. -/
noncomputable def kernelRun0_C (c : Dev nD) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (hc0 : ¬cond0_0 i) (hc3 : cond0_3 i)
    (x0 : Vec F S20x4x64x128 .i8) (x1 : Vec F S20x4x128 .f32) (x2 : Vec F S20x4x128 .f32) (x3 : Vec F S20x4x128 .f32) (y4 : Vec F S128x160x128 .fp8e4m3) (y5 : Vec F S1x1x128 .f32) (y6 : Vec F S128x128 .f32) (y7 : Vec F S20x128x128 .f32) (y8 : Vec F S20x128x128 .f32) (s0 : Vec F S21120x128 .f32) (s1 : Vec F S8x128 .f32) (s2 : Vec F S128x128 .f32) :
    { L : List (View.Piece (Elt F) S20x128x128 .f32) × List (View.Piece (Elt F) S20x128x128 .f32) × List (View.Piece (Elt F) S21120x128 .f32) × List (View.Piece (Elt F) S8x128 .f32) × List (View.Piece (Elt F) S128x128 .f32) × List (View.Piece (Elt F) S128x160x128 .fp8e4m3) × List (View.Piece (Elt F) S1x1x128 .f32) × List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare s0 ∗ owns (c : Thread nD τ) arg12 fullShare s1 ∗ owns (c : Thread nD τ) arg13 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.2.2.2.2.2.1) ∗ (∃ f, arg7.view.loc (c : Thread nD τ) ↦[arg7.view.set]{fullShare} arg7.view.writes (Elt F) f L.2.2.2.2.2.2.1) ∗ (∃ f, arg8.view.loc (c : Thread nD τ) ↦[arg8.view.set]{fullShare} arg8.view.writes (Elt F) f L.2.2.2.2.2.2.2) ∗ (arg9.view.loc (c : Thread nD τ) ↦[arg9.view.set]{fullShare} arg9.view.writes (Elt F) (harg9.unread y7) L.1) ∗ (arg10.view.loc (c : Thread nD τ) ↦[arg10.view.set]{fullShare} arg10.view.writes (Elt F) (harg10.unread y8) L.2.1) ∗ (arg11.view.loc (c : Thread nD τ) ↦[arg11.view.set]{fullShare} arg11.view.writes (Elt F) (harg11.unread s0) L.2.2.1) ∗ (arg12.view.loc (c : Thread nD τ) ↦[arg12.view.set]{fullShare} arg12.view.writes (Elt F) (harg12.unread s1) L.2.2.2.1) ∗ (∃ f, arg13.view.loc (c : Thread nD τ) ↦[arg13.view.set]{fullShare} arg13.view.writes (Elt F) f L.2.2.2.2.1)) -∗ K ⟨⟩))
          ⊢ wp frame (wpE (defs₀ (F := F)) Variants.none c none) E (cc0_pool i arg2 harg2 arg3 harg3 arg4 harg4 arg5 harg5 arg6 harg6 arg7 harg7 arg8 harg8 arg9 harg9 arg10 harg10 arg11 harg11 arg12 harg12 arg13 harg13) K } := by
  refine ⟨(?_, ?_, ?_, ?_, ?_, ?_, ?_, ?_), fun E K => ?run⟩
  case run =>
    simp only [cc0_pool_eq_skeleton]; unfold cc0_pool_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc0 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexact H9
    isplitl [H10]; · iexact H10
    isplitl [H11]; · iexact H11
    isplitl [H12]; · iexact H12
    iexists _; iexact H13

end Cert.Kernel2Ideal.Body

end
-- ==== Proof.Value2RunC.lean ====
/- The last step of a block: what its stores leave. -/
module

public import proofs.«01_k».proof.Proof.Value2Base
public import proofs.«01_k».proof.Proof.Value2LoopQ
public import proofs.«01_k».proof.Proof.Body2IdealC

@[expose] public section

set_option maxRecDepth 16384

noncomputable section

namespace Cert.Value2

open Idealize.ShloMosaic Cert.Kernel2Ideal Cert.Kernel2Ideal.Gen Cert.Kernel2Ideal.Body Idealize.SL
open Cert.Value (scaleOf codeOf)

variable (c : Dev nD) (i : grid0.Coords) (arg2 : Memref sig .tc .vmem S20x4x64x128 .i8) (harg2 : arg2.IsWhole) (arg3 : Memref sig .tc .vmem S20x4x128 .f32) (harg3 : arg3.IsWhole) (arg4 : Memref sig .tc .vmem S20x4x128 .f32) (harg4 : arg4.IsWhole) (arg5 : Memref sig .tc .vmem S20x4x128 .f32) (harg5 : arg5.IsWhole) (arg6 : Memref sig .tc .vmem S128x160x128 .fp8e4m3) (harg6 : arg6.IsWhole) (arg7 : Memref sig .tc .vmem S1x1x128 .f32) (harg7 : arg7.IsWhole) (arg8 : Memref sig .tc .vmem S128x128 .f32) (harg8 : arg8.IsWhole) (arg9 : Memref sig .tc .vmem S20x128x128 .f32) (harg9 : arg9.IsWhole) (arg10 : Memref sig .tc .vmem S20x128x128 .f32) (harg10 : arg10.IsWhole) (arg11 : Memref sig .tc .vmem S21120x128 .f32) (harg11 : arg11.IsWhole) (arg12 : Memref sig .tc .vmem S8x128 .f32) (harg12 : arg12.IsWhole) (arg13 : Memref sig .tc .vmem S128x128 .f32) (harg13 : arg13.IsWhole) (hc0 : ¬cond0_0 i) (hc3 : cond0_3 i) (x0 : Vec Ideal S20x4x64x128 .i8) (x1 x2 x3 : Vec Ideal S20x4x128 .f32) (y4 : Vec Ideal S128x160x128 .fp8e4m3) (y5 : Vec Ideal S1x1x128 .f32) (y6 : Vec Ideal S128x128 .f32) (y7 y8 : Vec Ideal S20x128x128 .f32) (s0 : Vec Ideal S21120x128 .f32) (s1 : Vec Ideal S8x128 .f32) (s2 : Vec Ideal S128x128 .f32)

theorem runC_step : Step (i 1).val x0 x1 x2 x3 s0
    (arg11.view.read (Elt Ideal) (arg11.view.writes (Elt Ideal) (harg11.unread s0) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.1))
    s1
    (arg12.view.read (Elt Ideal) (arg12.view.writes (Elt Ideal) (harg12.unread s1) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.1)) := by
  unfold kernelRun0_C
  dsimp only
  have hT : Scf.trips (0#32) (Scalar.addi 0#32 20#32) 1#32 = 20 := trips1
  rw [hT]
  refine ⟨fun k r d y hy e => (loop11 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ 20 le_rfl).1 k k.isLt r d y hy e, fun y hy => ((loop11 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ 20 le_rfl).2 y hy).trans (by rw [harg11.read_unread]), fun r b x => ?_⟩
  have hl := loop12 Variants.none c none i arg2 harg2 arg3 harg3 arg4 harg4 arg5 harg5 arg6 harg6 arg7 harg7 arg8 harg8 arg9 harg9 arg10 harg10 arg11 harg11 arg12 harg12 arg13 harg13 x0 x1 x2 x3 (harg9.unread y7) (harg10.unread y8) (harg11.unread s0) (harg12.unread s1) 20 le_rfl r b x
  rw [harg12.read_unread] at hl
  exact hl.trans (and_congr_right fun _ => ⟨fun h k => h k k.isLt, fun h k _ => h k⟩)

theorem runC_9n (h2 : ¬k0_cond2 i = 1#1) (h3 : k0_cond3 i = 1#1) :
    (arg9.view.read (Elt Ideal) (arg9.view.writes (Elt Ideal) (harg9.unread y7) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.1)) = y7 := by
  unfold kernelRun0_C
  dsimp only
  rw [loop9_nil Variants.none c none i arg2 harg2 arg3 harg3 arg4 harg4 arg5 harg5 arg6 harg6 arg7 harg7 arg8 harg8 arg9 harg9 arg10 harg10 arg11 harg11 arg12 harg12 arg13 harg13 x0 x1 x2 x3 _ _ _ _ h2 h3 _ (le_of_eq trips1)]
  exact harg9.read_unread _

theorem runC_10 (h2 : ¬k0_cond2 i = 1#1) (h3 : k0_cond3 i = 1#1) (k : Fin 20) (b d : Fin 128) :
    (arg10.view.read (Elt Ideal) (arg10.view.writes (Elt Ideal) (harg10.unread y8) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.1)) (ix3 k b d) = xB x0 x1 x2 x3 k d b := by
  unfold kernelRun0_C
  dsimp only
  exact loop10 Variants.none c none i arg2 harg2 arg3 harg3 arg4 harg4 arg5 harg5 arg6 harg6 arg7 harg7 arg8 harg8 arg9 harg9 arg10 harg10 arg11 harg11 arg12 harg12 arg13 harg13 x0 x1 x2 x3 _ _ _ _ h2 h3 _ (le_of_eq trips1) k (lt_of_lt_of_eq k.isLt trips1.symm) b d

theorem runC_v7 : kernelRun0_C.sl.v7 (F := Ideal) c i arg2 harg2 arg3 harg3 arg4 harg4 arg5 harg5 arg6 harg6 arg7 harg7 arg8 harg8 arg9 harg9 arg10 harg10 arg11 harg11 arg12 harg12 arg13 harg13 x0 x1 x2 x3 y7 y8 s0 s1 = (arg12.view.read (Elt Ideal) (arg12.view.writes (Elt Ideal) (harg12.unread s1) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.1)) := by
  unfold kernelRun0_C.sl.v7
  rw [View.readAt_eq_ld]
  exact View.ld_unit_lit' _ _ (by decide)

theorem runC_7 (f : BufTy.Contents (Elt Ideal) arg7.view.ty) (b : Fin 128) :
    (arg7.view.read (Elt Ideal) (arg7.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.2.2.2.1)) (ix3 0 0 b) = topS (arg12.view.read (Elt Ideal) (arg12.view.writes (Elt Ideal) (harg12.unread s1) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.1)) b := by
  rw [← runC_v7]
  unfold kernelRun0_C
  dsimp only
  unfold kernelRun0_C.sl.H7_1
  rw [whole7, pay9_apply]

theorem runC_8 (f : BufTy.Contents (Elt Ideal) arg8.view.ty) (b d : Fin 128) :
    (arg8.view.read (Elt Ideal) (arg8.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.2.2.2.2)) (ix2 b d) = topS (arg12.view.read (Elt Ideal) (arg12.view.writes (Elt Ideal) (harg12.unread s1) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.1)) b := by
  rw [← runC_v7]
  unfold kernelRun0_C
  dsimp only
  unfold kernelRun0_C.sl.H8_1
  rw [whole8, pay10_apply]

theorem runC_6 (f : BufTy.Contents (Elt Ideal) arg6.view.ty) :
    (arg6.view.read (Elt Ideal) (arg6.view.writes (Elt Ideal) f (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.2.2.1)) = codesV (arg11.view.read (Elt Ideal) (arg11.view.writes (Elt Ideal) (harg11.unread s0) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.1)) (fun y => topS (arg12.view.read (Elt Ideal) (arg12.view.writes (Elt Ideal) (harg12.unread s1) (kernelRun0_C (F := Ideal) c i arg2 harg2 arg3 harg3 arg4 harg4 arg5 harg5 arg6 harg6 arg7 harg7 arg8 harg8 arg9 harg9 arg10 harg10 arg11 harg11 arg12 harg12 arg13 harg13 hc0 hc3 x0 x1 x2 x3 y4 y5 y6 y7 y8 s0 s1 s2).1.2.2.2.1)) ⟨(y 0).val, (y 0).isLt⟩) := by
  rw [← runC_v7]
  unfold kernelRun0_C
  dsimp only
  refine pb2_read Variants.none c none i arg2 harg2 arg3 harg3 arg4 harg4 arg5 harg5 arg6 harg6 arg7 harg7 arg8 harg8 arg9 harg9 arg10 harg10 arg11 harg11 arg12 harg12 arg13 harg13 hc3 _ _ _ rfl _ ?_ f
  unfold kernelRun0_C.sl.H13_1
  rw [whole8]
  funext y
  rw [eq_ix2 y]
  exact pay11_apply _ _ _

end Cert.Value2
-- ==== Proof.Frame2Ideal.lean ====
/- The launch: the body's runs put together point by point, and the frame. -/
module

public import proofs.«01_k».proof.Proof.Body2IdealA
public import proofs.«01_k».proof.Proof.Body2IdealB
public import proofs.«01_k».proof.Proof.Body2IdealC
public import Idealize.ShloMosaic.Lib.Claim

@[expose] public section

set_option maxRecDepth 16384

noncomputable section

namespace Cert.Kernel2Ideal.Body

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs of the body at a point of the grid -/

/-- The point before. -/
abbrev pred (t : Fin cfg0.N) : Fin cfg0.N := ⟨t.val - 1, Nat.lt_of_le_of_lt (Nat.sub_le _ _) t.isLt⟩

/-- The run of case A at point `t`, from the contents of the buffers it writes. -/
abbrev runA (c : Dev nD) (t : Fin cfg0.N) (h0 : t.val % 8 = 0) (h3 : ¬t.val % 8 = 7) (y7 : Vec F S20x128x128 .f32) (y8 : Vec F S20x128x128 .f32) (s0 : Vec F S21120x128 .f32) (s1 : Vec F S8x128 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h3 ((hcond0_3 t).mp h)) (iblk m c 0 t) (iblk m c 1 t) (iblk m c 2 t) (iblk m c 3 t) y7 y8 s0 s1

/-- The run of case B at point `t`, from the contents of the buffers it writes. -/
abbrev runB (c : Dev nD) (t : Fin cfg0.N) (h0 : ¬t.val % 8 = 0) (h3 : ¬t.val % 8 = 7) (y7 : Vec F S20x128x128 .f32) (y8 : Vec F S20x128x128 .f32) (s0 : Vec F S21120x128 .f32) (s1 : Vec F S8x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h3 ((hcond0_3 t).mp h)) (iblk m c 0 t) (iblk m c 1 t) (iblk m c 2 t) (iblk m c 3 t) y7 y8 s0 s1

/-- The run of case C at point `t`, from the contents of the buffers it writes. -/
abbrev runC (c : Dev nD) (t : Fin cfg0.N) (h0 : ¬t.val % 8 = 0) (h3 : t.val % 8 = 7) (y4 : Vec F S128x160x128 .fp8e4m3) (y5 : Vec F S1x1x128 .f32) (y6 : Vec F S128x128 .f32) (y7 : Vec F S20x128x128 .f32) (y8 : Vec F S20x128x128 .f32) (s0 : Vec F S21120x128 .f32) (s1 : Vec F S8x128 .f32) (s2 : Vec F S128x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_3 t).mpr h3) (iblk m c 0 t) (iblk m c 1 t) (iblk m c 2 t) (iblk m c 3 t) y4 y5 y6 y7 y8 s0 s1 s2

/-! ## What is claimed of the carried scratch and of the outputs -/

/-- A specification of the body on core `c`: `Inv n Y A` is claimed of the token buffer `Y` and of the running maximum `A` before point `n`, `R4` to
    `R8` of the five output blocks after a point; each case of the body keeps them. -/
structure Spec (c : Dev nD) where
  Inv : ℕ → Vec F S21120x128 .f32 → Vec F S8x128 .f32 → Prop
  R4 : Fin cfg0.N → Vec F S128x160x128 .fp8e4m3 → Prop
  R5 : Fin cfg0.N → Vec F S1x1x128 .f32 → Prop
  R6 : Fin cfg0.N → Vec F S128x128 .f32 → Prop
  R7 : Fin cfg0.N → Vec F S20x128x128 .f32 → Prop
  R8 : Fin cfg0.N → Vec F S20x128x128 .f32 → Prop
  init : ∀ Y A, Inv 0 Y A
  stepA : ∀ (t : Fin cfg0.N) (h0 : t.val % 8 = 0) (h3 : ¬t.val % 8 = 7) (y7 : Vec F S20x128x128 .f32) (y8 : Vec F S20x128x128 .f32) (s0 : Vec F S21120x128 .f32) (s1 : Vec F S8x128 .f32) (e12), Inv t.val s0 s1 → (∀ h : 5 ≤ t.val % 8, R7 (pred t) y7) →
    Inv (t.val + 1) (scM0_0.view.read (Elt F) (scM0_0.view.writes (Elt F) ((Memref.isWhole_whole cc0_scratch0).unread s0) (runA m c t h0 h3 y7 y8 s0 s1).1.2.2.1))
      (scM0_1.view.read (Elt F) (scM0_1.view.writes (Elt F) e12 (runA m c t h0 h3 y7 y8 s0 s1).1.2.2.2))
    ∧ R7 t ((ms0_7 t).view.read (Elt F) ((ms0_7 t).view.writes (Elt F) ((hs0_7 t).unread y7) (runA m c t h0 h3 y7 y8 s0 s1).1.1))
    ∧ R8 t ((ms0_8 t).view.read (Elt F) ((ms0_8 t).view.writes (Elt F) ((hs0_8 t).unread y8) (runA m c t h0 h3 y7 y8 s0 s1).1.2.1))
  stepB : ∀ (t : Fin cfg0.N) (h0 : ¬t.val % 8 = 0) (h3 : ¬t.val % 8 = 7) (y7 : Vec F S20x128x128 .f32) (y8 : Vec F S20x128x128 .f32) (s0 : Vec F S21120x128 .f32) (s1 : Vec F S8x128 .f32), Inv t.val s0 s1 → (∀ h : 5 ≤ t.val % 8, R7 (pred t) y7) →
    Inv (t.val + 1) (scM0_0.view.read (Elt F) (scM0_0.view.writes (Elt F) ((Memref.isWhole_whole cc0_scratch0).unread s0) (runB m c t h0 h3 y7 y8 s0 s1).1.2.2.1))
      (scM0_1.view.read (Elt F) (scM0_1.view.writes (Elt F) ((Memref.isWhole_whole cc0_scratch1).unread s1) (runB m c t h0 h3 y7 y8 s0 s1).1.2.2.2))
    ∧ R7 t ((ms0_7 t).view.read (Elt F) ((ms0_7 t).view.writes (Elt F) ((hs0_7 t).unread y7) (runB m c t h0 h3 y7 y8 s0 s1).1.1))
    ∧ R8 t ((ms0_8 t).view.read (Elt F) ((ms0_8 t).view.writes (Elt F) ((hs0_8 t).unread y8) (runB m c t h0 h3 y7 y8 s0 s1).1.2.1))
  stepC : ∀ (t : Fin cfg0.N) (h0 : ¬t.val % 8 = 0) (h3 : t.val % 8 = 7) (y4 : Vec F S128x160x128 .fp8e4m3) (y5 : Vec F S1x1x128 .f32) (y6 : Vec F S128x128 .f32) (y7 : Vec F S20x128x128 .f32) (y8 : Vec F S20x128x128 .f32) (s0 : Vec F S21120x128 .f32) (s1 : Vec F S8x128 .f32) (s2 : Vec F S128x128 .f32) (e6) (e7) (e8), Inv t.val s0 s1 → (∀ h : 5 ≤ t.val % 8, R7 (pred t) y7) →
    Inv (t.val + 1) (scM0_0.view.read (Elt F) (scM0_0.view.writes (Elt F) ((Memref.isWhole_whole cc0_scratch0).unread s0) (runC m c t h0 h3 y4 y5 y6 y7 y8 s0 s1 s2).1.2.2.1))
      (scM0_1.view.read (Elt F) (scM0_1.view.writes (Elt F) ((Memref.isWhole_whole cc0_scratch1).unread s1) (runC m c t h0 h3 y4 y5 y6 y7 y8 s0 s1 s2).1.2.2.2.1))
    ∧ R7 t ((ms0_7 t).view.read (Elt F) ((ms0_7 t).view.writes (Elt F) ((hs0_7 t).unread y7) (runC m c t h0 h3 y4 y5 y6 y7 y8 s0 s1 s2).1.1))
    ∧ R8 t ((ms0_8 t).view.read (Elt F) ((ms0_8 t).view.writes (Elt F) ((hs0_8 t).unread y8) (runC m c t h0 h3 y4 y5 y6 y7 y8 s0 s1 s2).1.2.1))
    ∧ R4 t ((ms0_4 t).view.read (Elt F) ((ms0_4 t).view.writes (Elt F) e6 (runC m c t h0 h3 y4 y5 y6 y7 y8 s0 s1 s2).1.2.2.2.2.2.1))
    ∧ R5 t ((ms0_5 t).view.read (Elt F) ((ms0_5 t).view.writes (Elt F) e7 (runC m c t h0 h3 y4 y5 y6 y7 y8 s0 s1 s2).1.2.2.2.2.2.2.1))
    ∧ R6 t ((ms0_6 t).view.read (Elt F) ((ms0_6 t).view.writes (Elt F) e8 (runC m c t h0 h3 y4 y5 y6 y7 y8 s0 s1 s2).1.2.2.2.2.2.2.2))
  free4 : ∀ (t : Fin cfg0.N), ¬t.val % 8 = 7 → ∀ X, R4 t X
  free5 : ∀ (t : Fin cfg0.N), ¬t.val % 8 = 7 → ∀ X, R5 t X
  free6 : ∀ (t : Fin cfg0.N), ¬t.val % 8 = 7 → ∀ X, R6 t X

/-- The specification that claims nothing. -/
def Spec.trivial (c : Dev nD) : Spec m c where
  Inv _ _ _ := True
  R4 _ _ := True
  R5 _ _ := True
  R6 _ _ := True
  R7 _ _ := True
  R8 _ _ := True
  init _ _ := True.intro
  stepA _ _ _ _ _ _ _ _ _ _ := ⟨True.intro, True.intro, True.intro⟩
  stepB _ _ _ _ _ _ _ _ _ := ⟨True.intro, True.intro, True.intro⟩
  stepC _ _ _ _ _ _ _ _ _ _ _ _ _ _ _ _ := ⟨True.intro, True.intro, True.intro, True.intro, True.intro, True.intro⟩
  free4 _ _ _ := True.intro
  free5 _ _ _ := True.intro
  free6 _ _ _ := True.intro

variable (S : (c : Dev nD) → Spec m c)

/-- The invariant before point `n`: the token buffer and the running maximum at contents that meet the specification, the other scratch buffer
    at anything. -/
def PhiS (c : Dev nD) (n : ℕ) : sProp 𝕄 :=
  iprop(∃ Y, ∃ A, ⌜(S c).Inv n Y A⌝ ∗ iprop(owns (c : Thread nD τ) scM0_0 fullShare Y ∗ owns (c : Thread nD τ) scM0_1 fullShare A ∗ (∃ d, owns (c : Thread nD τ) scM0_2 fullShare d)) ∗ (∃ r, prngReg c r))

/-- The output windows, each held to its claim. -/
def forgets0 : Fin 9 → Bool := fun w => w.val == 4 || w.val == 5 || w.val == 6 || w.val == 7 || w.val == 8

/-- What is claimed of window `w` after point `t`. -/
def rel0 (c : Dev nD) : (w : Fin cfg0.W) → Fin cfg0.N → ((cfg0.win w).block.Idx → Elt F (cfg0.win w).elt) → Prop := fun w t => match w with
    | ⟨4, _⟩ => fun X => (S c).R4 t X
    | ⟨5, _⟩ => fun X => (S c).R5 t X
    | ⟨6, _⟩ => fun X => (S c).R6 t X
    | ⟨7, _⟩ => fun X => (S c).R7 t X
    | ⟨8, _⟩ => fun X => (S c).R8 t X
    | _ => fun _ => True

/-- The proof data on core `c`: every input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m S c t.val
  q _ := fullShare
  owed _ := 0

theorem A_eq (c : Dev nD) (w : Fin cfg0.W) : (dats m S 0 c).A w = V m c (Pipeline.arrRef spec0 w) := by
  dsimp only [dats]

theorem after0_0 (c : Dev nD) (t : Fin cfg0.N) : (dats m S 0 c).after 0 t = iblk m c 0 t := by dsimp only [dats]
theorem after0_1 (c : Dev nD) (t : Fin cfg0.N) : (dats m S 0 c).after 1 t = iblk m c 1 t := by dsimp only [dats]
theorem after0_2 (c : Dev nD) (t : Fin cfg0.N) : (dats m S 0 c).after 2 t = iblk m c 2 t := by dsimp only [dats]
theorem after0_3 (c : Dev nD) (t : Fin cfg0.N) : (dats m S 0 c).after 3 t = iblk m c 3 t := by dsimp only [dats]

theorem before0_0 (c : Dev nD) (t : Fin cfg0.N) (d) : (dats m S 0 c).before 0 t d = iblk m c 0 t :=
  before0_0_of m (dats m S 0 c) (A_eq m S c 0) (after0_0 m S c) t d
theorem before0_1 (c : Dev nD) (t : Fin cfg0.N) (d) : (dats m S 0 c).before 1 t d = iblk m c 1 t :=
  before0_1_of m (dats m S 0 c) (A_eq m S c 1) (after0_1 m S c) t d
theorem before0_2 (c : Dev nD) (t : Fin cfg0.N) (d) : (dats m S 0 c).before 2 t d = iblk m c 2 t :=
  before0_2_of m (dats m S 0 c) (A_eq m S c 2) (after0_2 m S c) t d
theorem before0_3 (c : Dev nD) (t : Fin cfg0.N) (d) : (dats m S 0 c).before 3 t d = iblk m c 3 t :=
  before0_3_of m (dats m S 0 c) (A_eq m S c 3) (after0_3 m S c) t d

/-- The first output range's block is not written back between its last store and the end of the batch block. -/
theorem noflush7 : ∀ t : Fin cfg0.N, 5 ≤ t.val % 8 → (cfg0.win 7).flush (pred t) = false :=
  (by decide +kernel : ∀ t : Fin grid0.N, 5 ≤ t.val % 8 → win0_7.flush ⟨t.val - 1, Nat.lt_of_le_of_lt (Nat.sub_le _ _) t.isLt⟩ = false)

/-- So what a later point finds in it meets what was claimed after the point before. -/
theorem finds7 (c : Dev nD) (t : Fin cfg0.N) (d) (h : ((dats m S 0 c).toRRel forgets0 (rel0 m S c)).Finds 7 t d) (h5 : 5 ≤ t.val % 8) : (S c).R7 (pred t) d := by
  have h0 : t.val ≠ 0 := by omega
  rcases (Pipeline.RDat.finds_of_pos _ (w := 7) (t := t) rfl h0 d).mp h with hf | hl
  · exact absurd hf (by rw [noflush7 t h5]; exact Bool.false_ne_true)
  · exact Pipeline.Dat.toRRel_leaves _ (w := 7) rfl hl

/-- What the body is called with at point `t`, -/
def bodyPre (c : Dev nD) (t : Fin cfg0.N) : sProp 𝕄 :=
  iprop((dats m S 0 c).Φ t.castSucc ∗ (dats m S 0 c).owesAt () t.castSucc
    ∗ (∃ d, owns (c : Thread nD τ) (ms0_0 t) fullShare ((dats m S 0 c).before 0 t d))
    ∗ (∃ d, owns (c : Thread nD τ) (ms0_1 t) fullShare ((dats m S 0 c).before 1 t d))
    ∗ (∃ d, owns (c : Thread nD τ) (ms0_2 t) fullShare ((dats m S 0 c).before 2 t d))
    ∗ (∃ d, owns (c : Thread nD τ) (ms0_3 t) fullShare ((dats m S 0 c).before 3 t d))
    ∗ (∃ d, ⌜((dats m S 0 c).toRRel forgets0 (rel0 m S c)).Finds 4 t d⌝ ∗ owns (c : Thread nD τ) (ms0_4 t) fullShare d)
    ∗ (∃ d, ⌜((dats m S 0 c).toRRel forgets0 (rel0 m S c)).Finds 5 t d⌝ ∗ owns (c : Thread nD τ) (ms0_5 t) fullShare d)
    ∗ (∃ d, ⌜((dats m S 0 c).toRRel forgets0 (rel0 m S c)).Finds 6 t d⌝ ∗ owns (c : Thread nD τ) (ms0_6 t) fullShare d)
    ∗ (∃ d, ⌜((dats m S 0 c).toRRel forgets0 (rel0 m S c)).Finds 7 t d⌝ ∗ owns (c : Thread nD τ) (ms0_7 t) fullShare d)
    ∗ (∃ d, ⌜((dats m S 0 c).toRRel forgets0 (rel0 m S c)).Finds 8 t d⌝ ∗ owns (c : Thread nD τ) (ms0_8 t) fullShare d))

/-- and what it returns. -/
def bodyPost (c : Dev nD) (t : Fin cfg0.N) : sProp 𝕄 :=
  iprop((dats m S 0 c).Φ t.succ ∗ (dats m S 0 c).owesAt () t.succ
    ∗ owns (c : Thread nD τ) (ms0_0 t) fullShare ((dats m S 0 c).after 0 t)
    ∗ owns (c : Thread nD τ) (ms0_1 t) fullShare ((dats m S 0 c).after 1 t)
    ∗ owns (c : Thread nD τ) (ms0_2 t) fullShare ((dats m S 0 c).after 2 t)
    ∗ owns (c : Thread nD τ) (ms0_3 t) fullShare ((dats m S 0 c).after 3 t)
    ∗ (∃ X, ⌜(S c).R4 t X⌝ ∗ owns (c : Thread nD τ) (ms0_4 t) fullShare X)
    ∗ (∃ X, ⌜(S c).R5 t X⌝ ∗ owns (c : Thread nD τ) (ms0_5 t) fullShare X)
    ∗ (∃ X, ⌜(S c).R6 t X⌝ ∗ owns (c : Thread nD τ) (ms0_6 t) fullShare X)
    ∗ (∃ X, ⌜(S c).R7 t X⌝ ∗ owns (c : Thread nD τ) (ms0_7 t) fullShare X)
    ∗ (∃ X, ⌜(S c).R8 t X⌝ ∗ owns (c : Thread nD τ) (ms0_8 t) fullShare X))

set_option maxHeartbeats 4000000 in
/-- The body at a point of case A. -/
theorem sound_bodyA (c : Dev nD) (t : Fin cfg0.N) (h0 : t.val % 8 = 0) (h3 : ¬t.val % 8 = 7) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, after0_0, after0_1, after0_2, after0_3]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%s0, %s1, %hI, ⟨HS0, HS1, ⟨%s2, HS2⟩⟩, Hg⟩, Ho, ⟨%d0, H0⟩, ⟨%d1, H1⟩, ⟨%d2, H2⟩, ⟨%d3, H3⟩, ⟨%y4, -, H4⟩, ⟨%y5, -, H5⟩, ⟨%y6, -, H6⟩, ⟨%y7, %hy7, H7⟩, ⟨%y8, -, H8⟩⟩
  iapply (runA m c t h0 h3 y7 y8 s0 s1).2 Set.univ _
  isplitl [H0]; · iexact H0
  isplitl [H1]; · iexact H1
  isplitl [H2]; · iexact H2
  isplitl [H3]; · iexact H3
  isplitl [H7]; · iexact H7
  isplitl [H8]; · iexact H8
  isplitl [HS0]; · iexact HS0
  isplitl [HS1]; · iexact HS1
  iintro ⟨H0, H1, H2, H3, H7, H8, HS0, ⟨%e12, HS1⟩⟩
  obtain ⟨hInv, hR7, hR8⟩ := (S c).stepA t h0 h3 y7 y8 s0 s1 e12 hI (fun h => finds7 m S c t y7 hy7 h)
  isplitl [HS0 HS1 HS2 Hg]
  · iexists _, _; isplitr
    · ipureintro; exact hInv
    isplitl [HS0 HS1 HS2]
    · isplitl [HS0]
      · unfold owns; iexists _; isplitr
        swap; · iexact HS0
        ipureintro; rfl
      isplitl [HS1]
      · unfold owns; iexists _; isplitr
        swap; · iexact HS1
        ipureintro; rfl
      iexists s2; iexact HS2
    iexact Hg
  isplitl [Ho]; · iexact Ho
  isplitl [H0]; · iexact H0
  isplitl [H1]; · iexact H1
  isplitl [H2]; · iexact H2
  isplitl [H3]; · iexact H3
  isplitl [H4]
  · iexists y4; isplitr
    · ipureintro; exact (S c).free4 t h3 _
    iexact H4
  isplitl [H5]
  · iexists y5; isplitr
    · ipureintro; exact (S c).free5 t h3 _
    iexact H5
  isplitl [H6]
  · iexists y6; isplitr
    · ipureintro; exact (S c).free6 t h3 _
    iexact H6
  isplitl [H7]
  · iexists _; isplitr
    · ipureintro; exact hR7
    unfold owns; iexists _; isplitr
    swap; · iexact H7
    ipureintro; rfl
  iexists _; isplitr
  · ipureintro; exact hR8
  unfold owns; iexists _; isplitr
  swap; · iexact H8
  ipureintro; rfl

set_option maxHeartbeats 4000000 in
/-- The body at a point of case B. -/
theorem sound_bodyB (c : Dev nD) (t : Fin cfg0.N) (h0 : ¬t.val % 8 = 0) (h3 : ¬t.val % 8 = 7) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, after0_0, after0_1, after0_2, after0_3]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%s0, %s1, %hI, ⟨HS0, HS1, ⟨%s2, HS2⟩⟩, Hg⟩, Ho, ⟨%d0, H0⟩, ⟨%d1, H1⟩, ⟨%d2, H2⟩, ⟨%d3, H3⟩, ⟨%y4, -, H4⟩, ⟨%y5, -, H5⟩, ⟨%y6, -, H6⟩, ⟨%y7, %hy7, H7⟩, ⟨%y8, -, H8⟩⟩
  iapply (runB m c t h0 h3 y7 y8 s0 s1).2 Set.univ _
  isplitl [H0]; · iexact H0
  isplitl [H1]; · iexact H1
  isplitl [H2]; · iexact H2
  isplitl [H3]; · iexact H3
  isplitl [H7]; · iexact H7
  isplitl [H8]; · iexact H8
  isplitl [HS0]; · iexact HS0
  isplitl [HS1]; · iexact HS1
  iintro ⟨H0, H1, H2, H3, H7, H8, HS0, HS1⟩
  obtain ⟨hInv, hR7, hR8⟩ := (S c).stepB t h0 h3 y7 y8 s0 s1 hI (fun h => finds7 m S c t y7 hy7 h)
  isplitl [HS0 HS1 HS2 Hg]
  · iexists _, _; isplitr
    · ipureintro; exact hInv
    isplitl [HS0 HS1 HS2]
    · isplitl [HS0]
      · unfold owns; iexists _; isplitr
        swap; · iexact HS0
        ipureintro; rfl
      isplitl [HS1]
      · unfold owns; iexists _; isplitr
        swap; · iexact HS1
        ipureintro; rfl
      iexists s2; iexact HS2
    iexact Hg
  isplitl [Ho]; · iexact Ho
  isplitl [H0]; · iexact H0
  isplitl [H1]; · iexact H1
  isplitl [H2]; · iexact H2
  isplitl [H3]; · iexact H3
  isplitl [H4]
  · iexists y4; isplitr
    · ipureintro; exact (S c).free4 t h3 _
    iexact H4
  isplitl [H5]
  · iexists y5; isplitr
    · ipureintro; exact (S c).free5 t h3 _
    iexact H5
  isplitl [H6]
  · iexists y6; isplitr
    · ipureintro; exact (S c).free6 t h3 _
    iexact H6
  isplitl [H7]
  · iexists _; isplitr
    · ipureintro; exact hR7
    unfold owns; iexists _; isplitr
    swap; · iexact H7
    ipureintro; rfl
  iexists _; isplitr
  · ipureintro; exact hR8
  unfold owns; iexists _; isplitr
  swap; · iexact H8
  ipureintro; rfl

set_option maxHeartbeats 4000000 in
/-- The body at a point of case C. -/
theorem sound_bodyC (c : Dev nD) (t : Fin cfg0.N) (h0 : ¬t.val % 8 = 0) (h3 : t.val % 8 = 7) :
    bodyPre m S c t ⊢ wp frame (wpE (defs₀ (F := F)) Variants.none c none) Set.univ (bodyAt0 t) (fun _ => bodyPost m S c t) := by
  unfold bodyPre bodyPost bodyAt0
  simp only [before0_0, before0_1, before0_2, before0_3, after0_0, after0_1, after0_2, after0_3]
  rw [show (dats m S 0 c).owesAt () t.succ = (dats m S 0 c).owesAt () t.castSucc from rfl]
  rw [show (dats m S 0 c).Φ t.succ = PhiS m S c (t.val + 1) from rfl, show (dats m S 0 c).Φ t.castSucc = PhiS m S c t.val from rfl]
  unfold PhiS
  iintro ⟨⟨%s0, %s1, %hI, ⟨HS0, HS1, ⟨%s2, HS2⟩⟩, Hg⟩, Ho, ⟨%d0, H0⟩, ⟨%d1, H1⟩, ⟨%d2, H2⟩, ⟨%d3, H3⟩, ⟨%y4, -, H4⟩, ⟨%y5, -, H5⟩, ⟨%y6, -, H6⟩, ⟨%y7, %hy7, H7⟩, ⟨%y8, -, H8⟩⟩
  iapply (runC m c t h0 h3 y4 y5 y6 y7 y8 s0 s1 s2).2 Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, ⟨%e6, H4⟩, ⟨%e7, H5⟩, ⟨%e8, H6⟩, H7, H8, HS0, HS1, ⟨%e13, HS2⟩⟩
  obtain ⟨hInv, hR7, hR8, hR4, hR5, hR6⟩ := (S c).stepC t h0 h3 y4 y5 y6 y7 y8 s0 s1 s2 e6 e7 e8 hI (fun h => finds7 m S c t y7 hy7 h)
  isplitl [HS0 HS1 HS2 Hg]
  · iexists _, _; isplitr
    · ipureintro; exact hInv
    isplitl [HS0 HS1 HS2]
    · isplitl [HS0]
      · unfold owns; iexists _; isplitr
        swap; · iexact HS0
        ipureintro; rfl
      isplitl [HS1]
      · unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]
  · iexists _; isplitr
    · ipureintro; exact hR4
    unfold owns; iexists _; isplitr
    swap; · iexact H4
    ipureintro; rfl
  isplitl [H5]
  · iexists _; isplitr
    · ipureintro; exact hR5
    unfold owns; iexists _; isplitr
    swap; · iexact H5
    ipureintro; rfl
  isplitl [H6]
  · iexists _; isplitr
    · ipureintro; exact hR6
    unfold owns; iexists _; isplitr
    swap; · iexact H6
    ipureintro; rfl
  isplitl [H7]
  · iexists _; isplitr
    · ipureintro; exact hR7
    unfold owns; iexists _; isplitr
    swap; · iexact H7
    ipureintro; rfl
  iexists _; isplitr
  · ipureintro; exact hR8
  unfold owns; iexists _; isplitr
  swap; · iexact H8
  ipureintro; rfl

/-- The body at any point. -/
theorem sound_body (c : Dev nD) (t : Fin cfg0.N) :
    bodyPre m S c t ⊢ wp frame (wpE (defs₀ (F := F)) Variants.none c none) Set.univ (bodyAt0 t) (fun _ => bodyPost m S c t) := by
  by_cases h0 : t.val % 8 = 0
  · exact sound_bodyA m S c t h0 (by omega)
  · by_cases h3 : t.val % 8 = 7
    · exact sound_bodyC m S c t h0 h3
    · exact sound_bodyB m S c t h0 h3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) :
    Pipeline.BodyObligationRel (dats (F := F) m S 0 c) (defs₀ (F := F)) Variants.none () Set.univ forgets0 (rel0 m S c) := fun t => by
  rw [bigSep_W0, bigSep_W0, defs₀_row]
  exact triple_restated (sound_body m S c t) rfl .rfl fun _ => .rfl

theorem hin (c : Dev nD) : Pipeline.ΦA spec0 c ⊢ (dats m S 0 c).Φ 0 := by
  rw [show (dats m S 0 c).Φ 0 = PhiS m S c 0 from rfl, PhiA0_eq]
  unfold PhiS
  iintro ⟨⟨⟨%Y, HS0⟩, ⟨%A, HS1⟩, HS2⟩, Hg⟩
  iexists Y, A; isplitr
  · ipureintro; exact (S c).init Y A
  isplitl [HS0 HS1 HS2]
  · isplitl [HS0]; · iexact HS0
    isplitl [HS1]; · iexact HS1
    iexact HS2
  iexact Hg

theorem hout (c : Dev nD) : (dats m S 0 c).Φ (Fin.last cfg0.N) ⊢ Pipeline.ΦA spec0 c := by
  rw [show (dats m S 0 c).Φ (Fin.last cfg0.N) = PhiS m S c (Fin.last cfg0.N).val from rfl, PhiA0_eq]
  unfold PhiS
  iintro ⟨%Y, %A, -, ⟨HS0, HS1, HS2⟩, Hg⟩
  isplitl [HS0 HS1 HS2]
  · isplitl [HS0]; · iexists _; iexact HS0
    isplitl [HS1]; · iexists _; iexact HS1
    iexact HS2
  iexact Hg

set_option backward.isDefEq.respectTransparency.types false in
/-- THE LAUNCH: from any memory with zero counters every execution of @main ends; the staged inputs are unchanged, the outputs hold blocks that
    meet the specification, and every semaphore counter is zero. -/
theorem run_main_quiescent : θ_run defs (onTc (τ := τ) (main (F := F))) (s₀ m ρ) (fun r => (Pipeline.RDat.FramePost (cfgs 0) (fun c => (dats m S 0 c).toRRel forgets0 (rel0 m S c)) (V m)) r ∧ r.2.sem = fun _ => 0) :=
  Pipeline.RDat.θ_run_frame_track (Q' := _) cfgs (0 : Fin 1) launch0 defs₀ Variants.none (fun c => (dats m S 0 c).toRRel forgets0 (rel0 m S c)) m ρ main
    (hbody := fun c => (body_obligation m S c).toRRel) (hshare := fun c => (dats m S 0 c).share_full fun _ => rfl)
    (howed := fun _ _ => rfl) (V := V m) (hmain := hmain m Variants.none) (hA := A_eq m S) (hin := hin m S) (hout := hout m S) (hQ' := fun _ h => h)

theorem run_main : θ_run defs (onTc (τ := τ) (main (F := F))) (s₀ m ρ) (Pipeline.RDat.FramePost (cfgs 0) (fun c => (dats m S 0 c).toRRel forgets0 (rel0 m S c)) (V m)) :=
  (θ_run defs _ _).mono (fun _ h => h.1) (run_main_quiescent m ρ S)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_rdat m ρ (fun c => (dats m (Spec.trivial m) 0 c).toRRel forgets0 (rel0 m (Spec.trivial m) c)) (A_eq m (Spec.trivial m)) (run_main m ρ (Spec.trivial m))

/-- THE FRAME: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ (Spec.trivial m)))

end Cert.Kernel2Ideal.Body

end
-- ==== Proof.Value2Inv.lean ====
/- The specification of the body: what is carried from step to step, and what the output blocks hold. -/
module

public import proofs.«01_k».proof.Proof.Value2Blocks
public import proofs.«01_k».proof.Proof.Value2Filled
public import proofs.«01_k».proof.Proof.Value2RunA
public import proofs.«01_k».proof.Proof.Value2RunB
public import proofs.«01_k».proof.Proof.Value2RunC
public import proofs.«01_k».proof.Proof.Frame2Ideal

@[expose] public section

set_option maxRecDepth 16384

noncomputable section

namespace Cert.Value2

open Idealize.ShloMosaic Idealize.ShloMosaic.TcCoe Cert.Kernel2Ideal Cert.Kernel2Ideal.Gen Cert.Kernel2Ideal.Body
open Cert.Value (scaleOf codeOf)

variable (m : (ℓ : Loc nD τ sig) → Buf (Elt Ideal) ℓ) (c : Dev nD)

/-- What is carried from step to step: within a block the features of the steps gone by are there. -/
def Inv (n : ℕ) (Y : Vec Ideal S21120x128 .f32) (A : Vec Ideal S8x128 .f32) : Prop :=
  ∀ (i : Fin 32) (j : ℕ), n = 8 * i.val + j → 0 < j → j < 8 → Filled (argsOf m c) (slots j) i Y A

/-- The first output of pooled values after a point: its step's features, and from the fifth step on the last of the first hundred. -/
def R7 (t : Fin cfg0.N) (X : Vec Ideal S20x128x128 .f32) : Prop :=
  ∀ (i : Fin 32) (f : Fin 160) (k : Fin 20) (b d : Fin 128), i.val = t.val / 8 → f.val = 20 * min (t.val % 8) 4 + k.val → X (ix3 k b d) = xG (argsOf m c) f d (row i b)

/-- The second output of pooled values after a point: from the fifth step on its step's features. -/
def R8 (t : Fin cfg0.N) (X : Vec Ideal S20x128x128 .f32) : Prop :=
  5 ≤ t.val % 8 → ∀ (i : Fin 32) (f : Fin 160) (k : Fin 20) (b d : Fin 128), i.val = t.val / 8 → f.val = 20 * (t.val % 8) + k.val → X (ix3 k b d) = xG (argsOf m c) f d (row i b)

/-- The codes after the last step of a block. -/
def R4 (t : Fin cfg0.N) (X : Vec Ideal S128x160x128 .fp8e4m3) : Prop :=
  t.val % 8 = 7 → ∀ (i : Fin 32) (b : Fin 128) (f : Fin 160) (d : Fin 128), i.val = t.val / 8 → X (ix3 b f d) = codesG (argsOf m c) (ix3 (row i b) f d)

/-- The scales after the last step of a block. -/
def R5 (t : Fin cfg0.N) (X : Vec Ideal S1x1x128 .f32) : Prop :=
  t.val % 8 = 7 → ∀ (i : Fin 32) (b : Fin 128), i.val = t.val / 8 → X (ix3 0 0 b) = scalesG (argsOf m c) (ix3 i 0 b)

@[inherit_doc R5] def R6 (t : Fin cfg0.N) (X : Vec Ideal S128x128 .f32) : Prop :=
  t.val % 8 = 7 → ∀ (i : Fin 32) (b d : Fin 128), i.val = t.val / 8 → X (ix2 b d) = colG (argsOf m c) (ix2 (row i b) d)

variable {m c}

theorem inv_of (t : Fin cfg0.N) {Y : Vec Ideal S21120x128 .f32} {A : Vec Ideal S8x128 .f32}
    (h : ∀ i : Fin 32, i.val = t.val / 8 → Filled (argsOf m c) (slots (t.val % 8 + 1)) i Y A) : Inv m c (t.val + 1) Y A := by
  intro i j e h0 h1
  have ej : j = t.val % 8 + 1 := by omega
  subst ej
  exact h i (by omega)

theorem inv_at (t : Fin cfg0.N) {Y : Vec Ideal S21120x128 .f32} {A : Vec Ideal S8x128 .f32} (h : Inv m c t.val Y A) (h0 : ¬t.val % 8 = 0)
    (i : Fin 32) (hi : i.val = t.val / 8) : Filled (argsOf m c) (slots (t.val % 8)) i Y A :=
  h i (t.val % 8) (by omega) (by omega) (by omega)

section A

variable (t : Fin cfg0.N) (h0 : t.val % 8 = 0) (h3 : ¬t.val % 8 = 7) (y7 y8 : Vec Ideal S20x128x128 .f32) (s0 : Vec Ideal S21120x128 .f32) (s1 : Vec Ideal S8x128 .f32)

theorem fillA (e12) (i : Fin 32) (hi : i.val = t.val / 8) : Filled (argsOf m c) (slots (t.val % 8 + 1)) i
    (scM0_0.view.read (Elt Ideal) (scM0_0.view.writes (Elt Ideal) ((Memref.isWhole_whole cc0_scratch0).unread s0) (runA m c t h0 h3 y7 y8 s0 s1).1.2.2.1))
    (scM0_1.view.read (Elt Ideal) (scM0_1.view.writes (Elt Ideal) e12 (runA m c t h0 h3 y7 y8 s0 s1).1.2.2.2)) := by
  have hf : Filled (argsOf m c) (slots (t.val % 8)) i s0 (fun _ => (0 : EReal)) := by
    rw [h0]; exact Filled.zero (argsOf m c) i s0
  exact hf.step (runA_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h3 ((hcond0_3 t).mp h)) (iblk m c 0 t) (iblk m c 1 t) (iblk m c 2 t) (iblk m c 3 t) y7 y8 s0 s1 e12) (coords1 t) (by omega) fun f k d b e => blkx m c t i f k hi e d b

theorem r7A : R7 m c t ((ms0_7 t).view.read (Elt Ideal) ((ms0_7 t).view.writes (Elt Ideal) ((hs0_7 t).unread y7) (runA m c t h0 h3 y7 y8 s0 s1).1.1)) := by
  intro i f k b d hi hf
  have h5 : t.val % 8 < 5 := by omega
  exact (runA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h3 ((hcond0_3 t).mp h)) (iblk m c 0 t) (iblk m c 1 t) (iblk m c 2 t) (iblk m c 3 t) y7 y8 s0 s1 ((hcond0_1 t).mpr h5) (fun h => (hcond0_2 t).mp h h5) k b d).trans (blkx m c t i f k hi (by omega) d b)

theorem r8A : R8 m c t ((ms0_8 t).view.read (Elt Ideal) ((ms0_8 t).view.writes (Elt Ideal) ((hs0_8 t).unread y8) (runA m c t h0 h3 y7 y8 s0 s1).1.2.1)) := by
  intro h8 i f k b d hi hf
  exact absurd h0 (by omega)

end A

section B

variable (t : Fin cfg0.N) (h0 : ¬t.val % 8 = 0) (h3 : ¬t.val % 8 = 7) (y7 y8 : Vec Ideal S20x128x128 .f32) (s0 : Vec Ideal S21120x128 .f32) (s1 : Vec Ideal S8x128 .f32)

theorem fillB (h : Inv m c t.val s0 s1) (i : Fin 32) (hi : i.val = t.val / 8) : Filled (argsOf m c) (slots (t.val % 8 + 1)) i
    (scM0_0.view.read (Elt Ideal) (scM0_0.view.writes (Elt Ideal) ((Memref.isWhole_whole cc0_scratch0).unread s0) (runB m c t h0 h3 y7 y8 s0 s1).1.2.2.1))
    (scM0_1.view.read (Elt Ideal) (scM0_1.view.writes (Elt Ideal) ((Memref.isWhole_whole cc0_scratch1).unread s1) (runB m c t h0 h3 y7 y8 s0 s1).1.2.2.2)) := by
  have hf : Filled (argsOf m c) (slots (t.val % 8)) i s0 s1 := by
    exact inv_at t h h0 i hi
  exact hf.step (runB_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h3 ((hcond0_3 t).mp h)) (iblk m c 0 t) (iblk m c 1 t) (iblk m c 2 t) (iblk m c 3 t) y7 y8 s0 s1) (coords1 t) (by omega) fun f k d b e => blkx m c t i f k hi e d b

theorem r7B (h7 : ∀ h : 5 ≤ t.val % 8, R7 m c (pred t) y7) : R7 m c t ((ms0_7 t).view.read (Elt Ideal) ((ms0_7 t).view.writes (Elt Ideal) ((hs0_7 t).unread y7) (runB m c t h0 h3 y7 y8 s0 s1).1.1)) := by
  intro i f k b d hi hf
  by_cases h5 : t.val % 8 < 5
  · exact (runB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h3 ((hcond0_3 t).mp h)) (iblk m c 0 t) (iblk m c 1 t) (iblk m c 2 t) (iblk m c 3 t) y7 y8 s0 s1 ((hcond0_1 t).mpr h5) (fun h => (hcond0_2 t).mp h h5) k b d).trans (blkx m c t i f k hi (by omega) d b)
  · refine (congrFun (runB_9n c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h3 ((hcond0_3 t).mp h)) (iblk m c 0 t) (iblk m c 1 t) (iblk m c 2 t) (iblk m c 3 t) y7 y8 s0 s1 (fun h => h5 ((hcond0_1 t).mp h)) ((hcond0_2 t).mpr h5)) (ix3 k b d)).trans ?_
    exact h7 (by omega) i f k b d (by show i.val = (t.val - 1) / 8; omega) (by show f.val = 20 * min ((t.val - 1) % 8) 4 + k.val; omega)

theorem r8B : R8 m c t ((ms0_8 t).view.read (Elt Ideal) ((ms0_8 t).view.writes (Elt Ideal) ((hs0_8 t).unread y8) (runB m c t h0 h3 y7 y8 s0 s1).1.2.1)) := by
  intro h8 i f k b d hi hf
  have h5 : ¬t.val % 8 < 5 := by omega
  exact (runB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h3 ((hcond0_3 t).mp h)) (iblk m c 0 t) (iblk m c 1 t) (iblk m c 2 t) (iblk m c 3 t) y7 y8 s0 s1 (fun h => h5 ((hcond0_1 t).mp h)) ((hcond0_2 t).mpr h5) k b d).trans (blkx m c t i f k hi hf d b)

end B

section C

variable (t : Fin cfg0.N) (h0 : ¬t.val % 8 = 0) (h3 : t.val % 8 = 7) (y4 : Vec Ideal S128x160x128 .fp8e4m3) (y5 : Vec Ideal S1x1x128 .f32) (y6 : Vec Ideal S128x128 .f32) (y7 y8 : Vec Ideal S20x128x128 .f32) (s0 : Vec Ideal S21120x128 .f32) (s1 : Vec Ideal S8x128 .f32) (s2 : Vec Ideal S128x128 .f32)

theorem fillC (h : Inv m c t.val s0 s1) (i : Fin 32) (hi : i.val = t.val / 8) : Filled (argsOf m c) (slots (t.val % 8 + 1)) i
    (scM0_0.view.read (Elt Ideal) (scM0_0.view.writes (Elt Ideal) ((Memref.isWhole_whole cc0_scratch0).unread s0) (runC m c t h0 h3 y4 y5 y6 y7 y8 s0 s1 s2).1.2.2.1))
    (scM0_1.view.read (Elt Ideal) (scM0_1.view.writes (Elt Ideal) ((Memref.isWhole_whole cc0_scratch1).unread s1) (runC m c t h0 h3 y4 y5 y6 y7 y8 s0 s1 s2).1.2.2.2.1)) := by
  have hf : Filled (argsOf m c) (slots (t.val % 8)) i s0 s1 := by
    exact inv_at t h h0 i hi
  exact hf.step (runC_step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_3 t).mpr h3) (iblk m c 0 t) (iblk m c 1 t) (iblk m c 2 t) (iblk m c 3 t) y4 y5 y6 y7 y8 s0 s1 s2) (coords1 t) (by omega) fun f k d b e => blkx m c t i f k hi e d b

theorem r7C (h7 : ∀ h : 5 ≤ t.val % 8, R7 m c (pred t) y7) : R7 m c t ((ms0_7 t).view.read (Elt Ideal) ((ms0_7 t).view.writes (Elt Ideal) ((hs0_7 t).unread y7) (runC m c t h0 h3 y4 y5 y6 y7 y8 s0 s1 s2).1.1)) := by
  intro i f k b d hi hf
  have h5 : ¬t.val % 8 < 5 := by omega
  · refine (congrFun (runC_9n c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_3 t).mpr h3) (iblk m c 0 t) (iblk m c 1 t) (iblk m c 2 t) (iblk m c 3 t) y4 y5 y6 y7 y8 s0 s1 s2 (fun h => h5 ((hcond0_1 t).mp h)) ((hcond0_2 t).mpr h5)) (ix3 k b d)).trans ?_
    exact h7 (by omega) i f k b d (by show i.val = (t.val - 1) / 8; omega) (by show f.val = 20 * min ((t.val - 1) % 8) 4 + k.val; omega)

theorem r8C : R8 m c t ((ms0_8 t).view.read (Elt Ideal) ((ms0_8 t).view.writes (Elt Ideal) ((hs0_8 t).unread y8) (runC m c t h0 h3 y4 y5 y6 y7 y8 s0 s1 s2).1.2.1)) := by
  intro h8 i f k b d hi hf
  have h5 : ¬t.val % 8 < 5 := by omega
  exact (runC_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_3 t).mpr h3) (iblk m c 0 t) (iblk m c 1 t) (iblk m c 2 t) (iblk m c 3 t) y4 y5 y6 y7 y8 s0 s1 s2 (fun h => h5 ((hcond0_1 t).mp h)) ((hcond0_2 t).mpr h5) k b d).trans (blkx m c t i f k hi hf d b)

theorem r4C (h : Inv m c t.val s0 s1) (e6) : R4 m c t ((ms0_4 t).view.read (Elt Ideal) ((ms0_4 t).view.writes (Elt Ideal) e6 (runC m c t h0 h3 y4 y5 y6 y7 y8 s0 s1 s2).1.2.2.2.2.2.1)) := by
  intro _ i b f d hi
  have hF := fillC (m := m) (c := c) t h0 h3 y4 y5 y6 y7 y8 s0 s1 s2 h i hi
  rw [h3] at hF
  exact (congrFun (runC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_3 t).mpr h3) (iblk m c 0 t) (iblk m c 1 t) (iblk m c 2 t) (iblk m c 3 t) y4 y5 y6 y7 y8 s0 s1 s2 e6) (ix3 b f d)).trans (hF.codes b f d)

theorem r5C (h : Inv m c t.val s0 s1) (e7) : R5 m c t ((ms0_5 t).view.read (Elt Ideal) ((ms0_5 t).view.writes (Elt Ideal) e7 (runC m c t h0 h3 y4 y5 y6 y7 y8 s0 s1 s2).1.2.2.2.2.2.2.1)) := by
  intro _ i b hi
  have hF := fillC (m := m) (c := c) t h0 h3 y4 y5 y6 y7 y8 s0 s1 s2 h i hi
  rw [h3] at hF
  exact (runC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_3 t).mpr h3) (iblk m c 0 t) (iblk m c 1 t) (iblk m c 2 t) (iblk m c 3 t) y4 y5 y6 y7 y8 s0 s1 s2 e7 b).trans (hF.top b)

theorem r6C (h : Inv m c t.val s0 s1) (e8) : R6 m c t ((ms0_6 t).view.read (Elt Ideal) ((ms0_6 t).view.writes (Elt Ideal) e8 (runC m c t h0 h3 y4 y5 y6 y7 y8 s0 s1 s2).1.2.2.2.2.2.2.2)) := by
  intro _ i b d hi
  have hF := fillC (m := m) (c := c) t h0 h3 y4 y5 y6 y7 y8 s0 s1 s2 h i hi
  rw [h3] at hF
  exact (runC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_3 t).mpr h3) (iblk m c 0 t) (iblk m c 1 t) (iblk m c 2 t) (iblk m c 3 t) y4 y5 y6 y7 y8 s0 s1 s2 e8 b d).trans (hF.top b)

end C

/-- The specification on a core. -/
def spec (m : (ℓ : Loc nD τ sig) → Buf (Elt Ideal) ℓ) (c : Dev nD) : Spec m c where
  Inv := Inv m c
  R4 := R4 m c
  R5 := R5 m c
  R6 := R6 m c
  R7 := R7 m c
  R8 := R8 m c
  init _ _ := fun i j h h0 _ => absurd h (by omega)
  stepA t h0 h3 y7 y8 s0 s1 e12 h h7 := ⟨inv_of t (fillA t h0 h3 y7 y8 s0 s1 e12), r7A t h0 h3 y7 y8 s0 s1, r8A t h0 h3 y7 y8 s0 s1⟩
  stepB t h0 h3 y7 y8 s0 s1 h h7 := ⟨inv_of t (fillB t h0 h3 y7 y8 s0 s1 h), r7B t h0 h3 y7 y8 s0 s1 h7, r8B t h0 h3 y7 y8 s0 s1⟩
  stepC t h0 h3 y4 y5 y6 y7 y8 s0 s1 s2 e6 e7 e8 h h7 := ⟨inv_of t (fillC t h0 h3 y4 y5 y6 y7 y8 s0 s1 s2 h), r7C t h0 h3 y4 y5 y6 y7 y8 s0 s1 s2 h7,
    r8C t h0 h3 y4 y5 y6 y7 y8 s0 s1 s2, r4C t h0 h3 y4 y5 y6 y7 y8 s0 s1 s2 h e6, r5C t h0 h3 y4 y5 y6 y7 y8 s0 s1 s2 h e7, r6C t h0 h3 y4 y5 y6 y7 y8 s0 s1 s2 h e8⟩
  free4 t h X := fun h' => absurd h' h
  free5 t h X := fun h' => absurd h' h
  free6 t h X := fun h' => absurd h' h

end Cert.Value2
-- ==== Proof.Value2Kernel.lean ====
/- The pooling call's five arrays after the run. -/
module

public import proofs.«01_k».proof.Proof.Value2Inv
public import Idealize.ShloMosaic.Lib.Pipeline.ArrRel

@[expose] public section

set_option maxRecDepth 16384

noncomputable section

namespace Cert.Value2

open Idealize.ShloMosaic Idealize.ShloMosaic.TcCoe Idealize.SL.Sem Cert.Kernel2Ideal Cert.Kernel2Ideal.Gen Cert.Kernel2Ideal.Body

theorem flush7 : ∀ t : Fin cfg0.N, (cfg0.win 7).flush t = true → t.val % 8 < 4 ∨ t.val % 8 = 7 := by decide +kernel
theorem flush8 : ∀ t : Fin cfg0.N, (cfg0.win 8).flush t = true → 5 ≤ t.val % 8 := by decide +kernel

variable (m : (ℓ : Loc nD τ sig) → Buf (Elt Ideal) ℓ) (c : Dev nD)
variable (after : (w : Fin cfg0.W) → Fin cfg0.N → (cfg0.win w).block.Idx → Elt Ideal (cfg0.win w).elt)
variable (hL : ∀ (w : Fin cfg0.W) (u : Fin cfg0.N), (cfg0.win w).flush u = true → ((dats m (spec m) 0 c).toRRel forgets0 (rel0 m (spec m) c)).Leaves w u (after w u))

include hL in
theorem arr4 : (((dats m (spec m) 0 c).toRRel forgets0 (rel0 m (spec m) c)).withAfter after).arrAt 4 cfg0.N = codesG (argsOf m c) := by
  refine Pipeline.Dat.arrAt_eq_of_covers _ 4 _ (by decide +kernel) fun t hf y => ?_
  have hq := (flush0_4 t).mp hf
  have hN := N_eq
  have htN : t.val < cfg0.N := t.isLt
  have hi : t.val / 8 < 32 := by omega
  have hR : R4 m c t (after 4 t) := Pipeline.Dat.toRRel_leaves _ (w := 4) rfl (hL 4 t hf)
  have e := idx4 t
  blk_simp
  show (after 4 t : Vec Ideal S128x160x128 .fp8e4m3) y = _
  rw [eq_ix3 (y : S128x160x128.Idx)]
  refine (hR hq ⟨t.val / 8, hi⟩ ⟨(y 0).val, (y 0).isLt⟩ ⟨(y 1).val, (y 1).isLt⟩ ⟨(y 2).val, (y 2).isLt⟩ rfl).trans ?_
  congr 1
  unfold row
  blk_ext [e]

include hL in
theorem arr5 : (((dats m (spec m) 0 c).toRRel forgets0 (rel0 m (spec m) c)).withAfter after).arrAt 5 cfg0.N = scalesG (argsOf m c) := by
  refine Pipeline.Dat.arrAt_eq_of_covers _ 5 _ (by decide +kernel) fun t hf y => ?_
  have hq := (flush0_5 t).mp hf
  have hN := N_eq
  have htN : t.val < cfg0.N := t.isLt
  have hi : t.val / 8 < 32 := by omega
  have hR : R5 m c t (after 5 t) := Pipeline.Dat.toRRel_leaves _ (w := 5) rfl (hL 5 t hf)
  have e := idx5 t
  blk_simp
  show (after 5 t : Vec Ideal S1x1x128 .f32) y = _
  have ey : (y : S1x1x128.Idx) = ix3 0 0 ⟨(y 2).val, (y 2).isLt⟩ := by
    rw [eq_ix3 (y : S1x1x128.Idx)]
    have h0 : (y 0).val < 1 := (y 0).isLt
    have h1 : (y 1).val < 1 := (y 1).isLt
    funext a
    apply Fin.ext
    match a with
    | 0 => show (y 0).val = 0; omega
    | 1 => show (y 1).val = 0; omega
    | 2 => rfl
  rw [ey]
  refine (hR hq ⟨t.val / 8, hi⟩ ⟨(y 2).val, (y 2).isLt⟩ rfl).trans ?_
  congr 1
  blk_ext [e]

include hL in
theorem arr6 : (((dats m (spec m) 0 c).toRRel forgets0 (rel0 m (spec m) c)).withAfter after).arrAt 6 cfg0.N = colG (argsOf m c) := by
  refine Pipeline.Dat.arrAt_eq_of_covers _ 6 _ (by decide +kernel) fun t hf y => ?_
  have hq := (flush0_6 t).mp hf
  have hN := N_eq
  have htN : t.val < cfg0.N := t.isLt
  have hi : t.val / 8 < 32 := by omega
  have hR : R6 m c t (after 6 t) := Pipeline.Dat.toRRel_leaves _ (w := 6) rfl (hL 6 t hf)
  have e := idx6 t
  blk_simp
  show (after 6 t : Vec Ideal S128x128 .f32) y = _
  rw [eq_ix2 (y : S128x128.Idx)]
  refine (hR hq ⟨t.val / 8, hi⟩ ⟨(y 0).val, (y 0).isLt⟩ ⟨(y 1).val, (y 1).isLt⟩ rfl).trans ?_
  congr 1
  unfold row
  blk_ext [e]

include hL in
theorem arr7 : (((dats m (spec m) 0 c).toRRel forgets0 (rel0 m (spec m) c)).withAfter after).arrAt 7 cfg0.N = rgG (argsOf m c) := by
  refine Pipeline.Dat.arrAt_eq_of_covers _ 7 _ (by decide +kernel) fun t hf y => ?_
  have hq := flush7 t hf
  have hN := N_eq
  have htN : t.val < cfg0.N := t.isLt
  have hi : t.val / 8 < 32 := by omega
  have hR : R7 m c t (after 7 t) := Pipeline.Dat.toRRel_leaves _ (w := 7) rfl (hL 7 t hf)
  have e := idx7 t
  blk_simp
  show (after 7 t : Vec Ideal S20x128x128 .f32) y = _
  rw [eq_ix3 (y : S20x128x128.Idx)]
  refine (hR ⟨t.val / 8, hi⟩ ⟨20 * min (t.val % 8) 4 + (y 0).val, by have h0 : (y 0).val < 20 := (y 0).isLt; omega⟩ ⟨(y 0).val, (y 0).isLt⟩ ⟨(y 1).val, (y 1).isLt⟩ ⟨(y 2).val, (y 2).isLt⟩ rfl rfl).trans ?_
  show xG _ _ _ _ = xG _ _ _ _
  unfold row
  congr 1
  · apply Fin.ext
    blk_simp [e]
    dsimp only
    omega
  · apply Fin.ext
    blk_simp [e]
  · apply Fin.ext
    blk_simp [e]
    dsimp only
    omega

include hL in
theorem arr8 : (((dats m (spec m) 0 c).toRRel forgets0 (rel0 m (spec m) c)).withAfter after).arrAt 8 cfg0.N = rlG (argsOf m c) := by
  refine Pipeline.Dat.arrAt_eq_of_covers _ 8 _ (by decide +kernel) fun t hf y => ?_
  have hq := flush8 t hf
  have hN := N_eq
  have htN : t.val < cfg0.N := t.isLt
  have hi : t.val / 8 < 32 := by omega
  have hR : R8 m c t (after 8 t) := Pipeline.Dat.toRRel_leaves _ (w := 8) rfl (hL 8 t hf)
  have e := idx8 t
  blk_simp
  show (after 8 t : Vec Ideal S20x128x128 .f32) y = _
  rw [eq_ix3 (y : S20x128x128.Idx)]
  refine (hR hq ⟨t.val / 8, hi⟩ ⟨20 * (t.val % 8) + (y 0).val, by have h0 : (y 0).val < 20 := (y 0).isLt; omega⟩ ⟨(y 0).val, (y 0).isLt⟩ ⟨(y 1).val, (y 1).isLt⟩ ⟨(y 2).val, (y 2).isLt⟩ rfl rfl).trans ?_
  show xG _ _ _ _ = xG _ _ _ _
  unfold row
  congr 1
  · apply Fin.ext
    blk_simp [e]
    dsimp only
    omega
  · apply Fin.ext
    blk_simp [e]
  · apply Fin.ext
    blk_simp [e]
    dsimp only
    omega

theorem kernel_run (ρ : Dev nD → PrngReg) : θ_run defs (onTc (τ := τ) (main (F := Ideal))) ⟨m, fun _ => 0, ρ⟩ (fun r => ∀ c : Dev nD,
    r.2.mem ((c.tc : Thread nD τ).loc main_v0_0) = codesG (argsOf m c) ∧ r.2.mem ((c.tc : Thread nD τ).loc main_v0_1) = scalesG (argsOf m c) ∧ r.2.mem ((c.tc : Thread nD τ).loc main_v0_2) = colG (argsOf m c) ∧ r.2.mem ((c.tc : Thread nD τ).loc main_v0_3) = rgG (argsOf m c) ∧ r.2.mem ((c.tc : Thread nD τ).loc main_v0_4) = rlG (argsOf m c)) := by
  refine (θ_run defs _ _).mono (fun r h c => ?_) (run_main m ρ (spec m))
  obtain ⟨after, hL, hA⟩ := h.exists_exact c
  exact ⟨(hA 4).trans (arr4 m c after hL), (hA 5).trans (arr5 m c after hL), (hA 6).trans (arr6 m c after hL), (hA 7).trans (arr7 m c after hL), (hA 8).trans (arr8 m c after hL)⟩

end Cert.Value2
-- ==== Proof.Value2Ref.lean ====
/- The pooling reference's values, place by place. -/
module

public import proofs.«01_k».proof.Proof.Value2Spec
public import proofs.«01_k».proof.Proof.Gen.Reference2Ideal.Skeleton
public import Idealize.ShloMosaic.Lib.Pipeline.ValueKit
public import Idealize.ShloMosaic.Lib.Pointwise

@[expose] public section

set_option maxRecDepth 16384

noncomputable section

namespace Cert.Value2.Ref

open Idealize.ShloMosaic Cert.Reference2Ideal Cert.Reference2Ideal.Gen
open Cert.Value (scaleOf codeOf ofBits_ninf)

variable (a : Args)

/-- The reference's pooled values. -/
def p7 : Vec Ideal S4096x160x128 .f32 := k0_pay7 (F := Ideal) a.bw a.es a.bw a.eb a.codes

theorem p7_apply (b : Fin 4096) (f : Fin 160) (d : Fin 128) : p7 a (ix3 b f d) = xG a f d b := by
  unfold p7 xG tk tok
  pointwise [k0_pay7]
  rfl

/-- The largest magnitude of each sample. -/
def red (y : Vec Ideal S4096x160x128 .f32) : Vec Ideal S4096 .f32 :=
  multiReduction .maximumf [1, 2] S4096 (absf (F := Ideal) (φ := .f32) y) 0xFF800000#32 reduces_S4096x160x128_S4096 (.inl rfl) rfl

theorem red_apply (y : Vec Ideal S4096x160x128 .f32) (r : Fin 4096) :
    red y (ix1 r) = Finset.fold max (Ideal.ofBits .f32 0xFF800000#32) (fun x : Fin 160 × Fin 128 => mag (y (ix3 r x.1 x.2))) Finset.univ := by
  unfold red
  pointwise
  rfl

/-- The scale of each sample. -/
def sel (v : Vec Ideal S4096 .f32) : Vec Ideal S4096 .f32 :=
  select (cmpf (F := Ideal) (φ := .f32) .oeq v (broadcast S4096 (Scalar.ofBits .f32 0x00000000#32))) (broadcast S4096 (Scalar.ofBits .f32 0x3F800000#32 : Ideal .f32))
    (divf (F := Ideal) (φ := .f32) v (broadcast S4096 (Scalar.ofBits .f32 0x43E00000#32)))

theorem sel_apply (v : Vec Ideal S4096 .f32) (r : Fin 4096) : sel v (ix1 r) = scaleOf (v (ix1 r)) := by
  unfold sel
  pointwise
  rfl

theorem fold_amax (r : Fin 4096) :
    Finset.fold max (Ideal.ofBits .f32 0xFF800000#32) (fun x : Fin 160 × Fin 128 => mag (p7 a (ix3 r x.1 x.2))) Finset.univ = amaxG a r := by
  simp only [p7_apply]
  refine le_antisymm ?_ ?_
  · rw [Finset.fold_max_le]
    refine ⟨by rw [ofBits_ninf]; exact bot_le, fun x _ => ?_⟩
    exact (amaxG_le a r _).mp le_rfl x.1 x.2
  · rw [amaxG_le]
    intro s k
    exact (Finset.le_fold_max (f := fun x : Fin 160 × Fin 128 => mag (xG a x.1 x.2 r)) _).mpr (Or.inr ⟨(s, k), Finset.mem_univ _, le_rfl⟩)

/-- The comparison and the quotient the scale is selected by. -/
abbrev p9 : IVec S4096 1 := k0_pay9 (F := Ideal) a.bw a.es a.bw a.eb a.codes
@[inherit_doc p9] abbrev p10 : Vec Ideal S4096 .f32 := k0_pay10 (F := Ideal) a.bw a.es a.bw a.eb a.codes

/-- The reference's scale of each sample. -/
def p1 : Vec Ideal S4096 .f32 := k0_pay1 (F := Ideal) (p9 a) (p10 a)

theorem p1_eq : p1 a = sel (red (p7 a)) := by
  unfold p1 p9 p10 k0_pay1 k0_pay9 k0_pay10 k0_pay8 sel red p7
  rfl

theorem p1_apply (r : Fin 4096) : p1 a (ix1 r) = scaleOf (amaxG a r) := by
  rw [p1_eq, sel_apply, red_apply, fold_amax]

/-- The codes from the values and the scales. -/
def code (y : Vec Ideal S4096x160x128 .f32) (v : Vec Ideal S4096 .f32) : Vec Ideal S4096x160x128 .fp8e4m3 :=
  truncf (F := Ideal) (φ := .f32) .fp8e4m3 (minimumf (F := Ideal) (φ := .f32) (broadcast S4096x160x128 (Scalar.ofBits .f32 0x43E00000#32 : Ideal .f32))
    (maximumf (F := Ideal) (φ := .f32) (broadcast S4096x160x128 (Scalar.ofBits .f32 0xC3E00000#32 : Ideal .f32))
      (divf (F := Ideal) (φ := .f32) y (broadcastTo S4096x160x128 (shapeCast S4096x1x1 v shapeCasts_S4096_S4096x1x1) broadcasts_S4096x1x1_S4096x160x128)))) bitsLt_fp8e4m3_f32

theorem code_apply (y : Vec Ideal S4096x160x128 .f32) (v : Vec Ideal S4096 .f32) (r : Fin 4096) (t : Fin 160) (k : Fin 128) :
    code y v (ix3 r t k) = codeOf (y (ix3 r t k)) (v (ix1 r)) := by
  unfold code
  pointwise
  rfl

/-- The reference's codes. -/
def p2 : Vec Ideal S4096x160x128 .fp8e4m3 := k0_pay2 (F := Ideal) (p7 a) (p9 a) (p10 a)

theorem p2_eq : p2 a = code (p7 a) (p1 a) := by
  unfold p2 k0_pay2 code p1
  rfl

theorem p2_apply (r : Fin 4096) (t : Fin 160) (k : Fin 128) : p2 a (ix3 r t k) = codeOf (xG a t k r) (scaleOf (amaxG a r)) := by
  rw [p2_eq, code_apply, p7_apply, p1_apply]

/-- The reference's scales, in blocks of 128 samples. -/
def p3 : Vec Ideal S32x1x128 .f32 := k0_pay3 (F := Ideal) (p9 a) (p10 a)

theorem p3_eq : p3 a = shapeCast S32x1x128 (p1 a) shapeCasts_S4096_S32x1x128 := by
  unfold p3 k0_pay3 p1
  rfl

theorem cast3_apply (v : Vec Ideal S4096 .f32) (i : Fin 32) (r : Fin 128) :
    (shapeCast S32x1x128 v shapeCasts_S4096_S32x1x128 : Vec Ideal S32x1x128 .f32) (ix3 i 0 r) = v (ix1 (row i r)) := by
  pointwise
  refine congrArg (fun n => v (ix1 n)) (Fin.ext ?_)
  show i.val * 128 + r.val = 128 * i.val + r.val
  omega

theorem p3_apply (i : Fin 32) (r : Fin 128) : p3 a (ix3 i 0 r) = scaleOf (amaxG a (row i r)) := by
  rw [p3_eq, cast3_apply, p1_apply]

/-- The reference's scales, a row of equal lanes a sample. -/
def p4 : Vec Ideal S4096x128 .f32 := k0_pay4 (F := Ideal) (p9 a) (p10 a)

theorem p4_apply (r : Fin 4096) (k : Fin 128) : p4 a (ix2 r k) = scaleOf (amaxG a r) := by
  rw [← p1_apply]
  unfold p4 k0_pay4 p1
  generalize k0_pay1 (F := Ideal) (p9 a) (p10 a) = z
  pointwise

/-- The reference's first hundred features. -/
def p5 : Vec Ideal S100x4096x128 .f32 := k0_pay5 (F := Ideal) (p7 a)

theorem p5_apply (f : Fin 100) (r : Fin 4096) (k : Fin 128) : p5 a (ix3 f r k) = xG a ⟨f.val, by omega⟩ k r := by
  rw [← p7_apply]
  unfold p5
  generalize p7 a = z
  pointwise [k0_pay5]

/-- The reference's other sixty features. -/
def p6 : Vec Ideal S60x4096x128 .f32 := k0_pay6 (F := Ideal) (p7 a)

theorem p6_apply (f : Fin 60) (r : Fin 4096) (k : Fin 128) : p6 a (ix3 f r k) = xG a ⟨100 + f.val, by omega⟩ k r := by
  rw [← p7_apply]
  unfold p6
  generalize p7 a = z
  pointwise [k0_pay6]

end Cert.Value2.Ref
-- ==== Proof.Value2RefRun.lean ====
/- The pooling reference's five arrays after the run. -/
module

public import proofs.«01_k».proof.Proof.Value2Ref
public import proofs.«01_k».proof.Proof.Gen.Reference2Ideal.Frame

@[expose] public section

set_option maxRecDepth 16384

noncomputable section

namespace Cert.Value2.Ref

open Idealize.ShloMosaic Idealize.ShloMosaic.TcCoe Idealize.SL.Sem Cert.Reference2Ideal Cert.Reference2Ideal.Gen

variable (m : (ℓ : Loc nD τ sig) → Buf (Elt Ideal) ℓ) (c : Dev nD)

/-- The argument arrays of a core, as the memory holds them. -/
def argsOf : Args where
  codes := m ((c : Thread nD τ).loc main_arg0)
  es := m ((c : Thread nD τ).loc main_arg1)
  eb := m ((c : Thread nD τ).loc main_arg2)
  bw := m ((c : Thread nD τ).loc main_arg3)

theorem idx0 : ∀ t, win0_0.index t = ![0, 0, 0, 0] := by decide +kernel
theorem idx3 : (∀ t, win0_1.index t = ![0, 0, 0]) ∧ (∀ t, win0_2.index t = ![0, 0, 0]) ∧ (∀ t, win0_3.index t = ![0, 0, 0]) := by decide +kernel

variable (t : Fin cfg0.N)

theorem blk0 : (iblk m c 0 t : Vec Ideal S160x4x64x4096 .i8) = (argsOf m c).codes := by
  funext y
  unfold argsOf
  have e := idx0 t
  rw [eq_ix4 y]
  blk_ext [iblk, V, e]

theorem blk1 : (iblk m c 1 t : Vec Ideal S160x4x4096 .f32) = (argsOf m c).es := by
  funext y
  unfold argsOf
  have e := idx3.1 t
  rw [eq_ix3 y]
  blk_ext [iblk, V, e]

theorem blk2 : (iblk m c 2 t : Vec Ideal S160x4x4096 .f32) = (argsOf m c).eb := by
  funext y
  unfold argsOf
  have e := idx3.2.1 t
  rw [eq_ix3 y]
  blk_ext [iblk, V, e]

theorem blk3 : (iblk m c 3 t : Vec Ideal S160x4x4096 .f32) = (argsOf m c).bw := by
  funext y
  unfold argsOf
  have e := idx3.2.2 t
  rw [eq_ix3 y]
  blk_ext [iblk, V, e]

theorem out4_eq (x0 : Vec Ideal S160x4x64x4096 .i8) (x1 x2 x3 : Vec Ideal S160x4x4096 .f32) :
    out0_4 (F := Ideal) x0 x1 x2 x3 = p2 ⟨x0, x1, x2, x3⟩ := by
  unfold out0_4 k0_pay11 k0_pay12 k0_pay13
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem out5_eq (x0 : Vec Ideal S160x4x64x4096 .i8) (x1 x2 x3 : Vec Ideal S160x4x4096 .f32) :
    out0_5 (F := Ideal) x0 x1 x2 x3 = p3 ⟨x0, x1, x2, x3⟩ := by
  unfold out0_5 k0_pay12 k0_pay13
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem out6_eq (x0 : Vec Ideal S160x4x64x4096 .i8) (x1 x2 x3 : Vec Ideal S160x4x4096 .f32) :
    out0_6 (F := Ideal) x0 x1 x2 x3 = p4 ⟨x0, x1, x2, x3⟩ := by
  unfold out0_6 k0_pay12 k0_pay13
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem out7_eq (x0 : Vec Ideal S160x4x64x4096 .i8) (x1 x2 x3 : Vec Ideal S160x4x4096 .f32) :
    out0_7 (F := Ideal) x0 x1 x2 x3 = p5 ⟨x0, x1, x2, x3⟩ := by
  unfold out0_7 k0_pay11
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem out8_eq (x0 : Vec Ideal S160x4x64x4096 .i8) (x1 x2 x3 : Vec Ideal S160x4x4096 .f32) :
    out0_8 (F := Ideal) x0 x1 x2 x3 = p6 ⟨x0, x1, x2, x3⟩ := by
  unfold out0_8 k0_pay11
  refine (View.canon_cons_unit_lit' _ _ _ (by decide)).trans ?_
  rw [View.ld_unit_lit' _ x0 (by decide), View.ld_unit_lit' _ x1 (by decide), View.ld_unit_lit' _ x2 (by decide), View.ld_unit_lit' _ x3 (by decide)]
  rfl

theorem p2_codes (a : Args) : p2 a = codesG a := by
  funext y
  rw [eq_ix3 y]
  exact p2_apply a (y 0) (y 1) (y 2)

theorem p3_scales (a : Args) : p3 a = scalesG a := by
  funext y
  have ey : y = ix3 ⟨(y 0).val, (y 0).isLt⟩ 0 ⟨(y 2).val, (y 2).isLt⟩ := by
    have h1 : (y 1).val < 1 := (y 1).isLt
    funext a
    apply Fin.ext
    match a with
    | 0 => rfl
    | 1 => show (y 1).val = 0; omega
    | 2 => rfl
  rw [ey]
  exact p3_apply a (y 0) (y 2)

theorem p4_col (a : Args) : p4 a = colG a := by
  funext y
  rw [eq_ix2 y]
  exact p4_apply a (y 0) (y 1)

theorem p5_rg (a : Args) : p5 a = rgG a := by
  funext y
  rw [eq_ix3 y]
  exact p5_apply a (y 0) (y 1) (y 2)

theorem p6_rl (a : Args) : p6 a = rlG a := by
  funext y
  rw [eq_ix3 y]
  exact p6_apply a (y 0) (y 1) (y 2)

theorem arr4 : (dats m 0 c).arrAt 4 cfg0.N = codesG (argsOf m c) := by
  refine (dats m 0 c).arrAt_eq_of_after_last 4 t0_0 (by decide +kernel) _ fun j => ?_
  blk_simp
  rw [after0_4, blk0, blk1, blk2, blk3, out4_eq, p2_codes]

theorem arr5 : (dats m 0 c).arrAt 5 cfg0.N = scalesG (argsOf m c) := by
  refine (dats m 0 c).arrAt_eq_of_after_last 5 t0_0 (by decide +kernel) _ fun j => ?_
  blk_simp
  rw [after0_5, blk0, blk1, blk2, blk3, out5_eq, p3_scales]

theorem arr6 : (dats m 0 c).arrAt 6 cfg0.N = colG (argsOf m c) := by
  refine (dats m 0 c).arrAt_eq_of_after_last 6 t0_0 (by decide +kernel) _ fun j => ?_
  blk_simp
  rw [after0_6, blk0, blk1, blk2, blk3, out6_eq, p4_col]

theorem arr7 : (dats m 0 c).arrAt 7 cfg0.N = rgG (argsOf m c) := by
  refine (dats m 0 c).arrAt_eq_of_after_last 7 t0_0 (by decide +kernel) _ fun j => ?_
  blk_simp
  rw [after0_7, blk0, blk1, blk2, blk3, out7_eq, p5_rg]

theorem arr8 : (dats m 0 c).arrAt 8 cfg0.N = rlG (argsOf m c) := by
  refine (dats m 0 c).arrAt_eq_of_after_last 8 t0_0 (by decide +kernel) _ fun j => ?_
  blk_simp
  rw [after0_8, blk0, blk1, blk2, blk3, out8_eq, p6_rl]

theorem reference_run (ρ : Dev nD → PrngReg) : θ_run defs (onTc (τ := τ) (main (F := Ideal))) ⟨m, fun _ => 0, ρ⟩ (fun r => ∀ c : Dev nD,
    r.2.mem ((c.tc : Thread nD τ).loc main_v0_0) = codesG (argsOf m c) ∧ r.2.mem ((c.tc : Thread nD τ).loc main_v0_1) = scalesG (argsOf m c) ∧ r.2.mem ((c.tc : Thread nD τ).loc main_v0_2) = colG (argsOf m c) ∧ r.2.mem ((c.tc : Thread nD τ).loc main_v0_3) = rgG (argsOf m c) ∧ r.2.mem ((c.tc : Thread nD τ).loc main_v0_4) = rlG (argsOf m c)) := by
  refine (θ_run defs _ _).mono (fun r h c => ?_) (run_main m ρ)
  exact ⟨(h.out_eq c 4).trans (arr4 m c), (h.out_eq c 5).trans (arr5 m c), (h.out_eq c 6).trans (arr6 m c), (h.out_eq c 7).trans (arr7 m c), (h.out_eq c 8).trans (arr8 m c)⟩

end Cert.Value2.Ref
-- ==== Proof.Value2Alg.lean ====
/- The pooling call and its reference leave the same five arrays. -/
module

public import proofs.«01_k».proof.Defs
public import proofs.«01_k».proof.Proof.Value2Kernel
public import proofs.«01_k».proof.Proof.Value2RefRun

@[expose] public section

set_option maxRecDepth 16384

noncomputable section

namespace Cert.Value2

open Idealize.ShloMosaic Idealize.ShloMosaic.TcCoe Idealize.SL.Sem

theorem algebraic : Cert.algebraic_Kernel2Ideal_Reference2Ideal (hKernel2Ideal := Cert.Kernel2Ideal.Gen.facts)
    (hReference2Ideal := Cert.Reference2Ideal.Gen.facts) := by
  intro m g m' g' _ harg
  have hargs : ∀ c : Dev Cert.Kernel2Ideal.nD, Ref.argsOf m' c = argsOf m c := fun c => by
    obtain ⟨h0, h1, h2, h3⟩ := harg c
    unfold Ref.argsOf argsOf
    rw [h0, h1, h2, h3]
  refine ⟨fun c => codesG (argsOf m c), fun c => scalesG (argsOf m c), fun c => colG (argsOf m c), fun c => rgG (argsOf m c), fun c => rlG (argsOf m c), ?_, ?_⟩
  · refine (θ_run _ _ _).mono (fun r h c => ?_) (θ_run_and (kernel_run m g) (Cert.Kernel2Ideal.Body.unchanged m g))
    exact ⟨(h.1 c).1, (h.1 c).2.1, (h.1 c).2.2.1, (h.1 c).2.2.2.1, (h.1 c).2.2.2.2, h.2 c⟩
  · refine (θ_run _ _ _).mono (fun r h c => ?_) (θ_run_and (Ref.reference_run m' g') (Cert.Reference2Ideal.Gen.unchanged m' g'))
    exact ⟨(h.1 c).1.trans (congrArg codesG (hargs c)), (h.1 c).2.1.trans (congrArg scalesG (hargs c)), (h.1 c).2.2.1.trans (congrArg colG (hargs c)), (h.1 c).2.2.2.1.trans (congrArg rgG (hargs c)), (h.1 c).2.2.2.2.trans (congrArg rlG (hargs c)), h.2 c⟩

end Cert.Value2
-- ==== Proof.Frame2Bits.lean ====
/- The pooling call's frame at bits: the program is printed twice with the same text, and the frame is proved for every reading of the floats, so the proof carries over. -/
module

public import proofs.«01_k».proof.Defs
public import proofs.«01_k».proof.Proof.Frame2Ideal
public import proofs.«01_k».proof.Proof.Gen.Kernel2.Frame

@[expose] public section

namespace Cert.Kernel2.Body

open Idealize.ShloMosaic Idealize.ShloMosaic.TcCoe Idealize.SL.Sem

/-- The two printings of the body table are the same. -/
theorem defs₀_eq : (@Cert.Kernel2.defs₀ Bits _ Cert.Kernel2.Gen.facts) = @Cert.Kernel2Ideal.defs₀ Bits _ Cert.Kernel2Ideal.Gen.facts := by
  unfold Cert.Kernel2.defs₀ Cert.Kernel2Ideal.defs₀
  refine congrArg Defs.onTc ?_
  funext l x
  match l, x with
  | 0, (t, s) => rfl

theorem frame : Cert.quiescent_Kernel2 (hKernel2 := Cert.Kernel2.Gen.facts) := fun m ρ _ => by
  have h := Cert.Kernel2Ideal.Body.frame (F := Bits) m ρ
  unfold Cert.Kernel2Ideal.defs at h
  unfold Cert.Kernel2.defs
  rw [defs₀_eq]
  exact h

end Cert.Kernel2.Body
-- ==== Proof.lean ====
/- The proof of the certificate's claims. -/
module

public import proofs.«01_k».proof.Defs
public import proofs.«01_k».proof.Proof.FrameBits
public import proofs.«01_k».proof.Proof.FrameIdeal
public import proofs.«01_k».proof.Proof.Gen.ReferenceIdeal.Frame
public import proofs.«01_k».proof.Proof.Gen.Reference2Ideal.Frame
public import proofs.«01_k».proof.Proof.ValueAlg
public import proofs.«01_k».proof.Proof.Value1Alg
public import proofs.«01_k».proof.Proof.Value2Alg
public import proofs.«01_k».proof.Proof.Frame2Bits
public import proofs.«01_k».proof.Proof.Frame2Ideal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel1.Gen.facts, Cert.Kernel1Ideal.Gen.facts, Cert.Reference1Ideal.Gen.facts,
  Cert.Kernel2.Gen.facts, Cert.Kernel2Ideal.Gen.facts, Cert.Reference2Ideal.Gen.facts, Cert.Value.preFacts, Cert.Value1.preFacts,
  fun m ρ _ => Cert.Kernel.Body.frame m ρ, fun m ρ _ => Cert.KernelIdeal.Body.frame m ρ, Cert.Value.quiescent_KernelIdeal_pre,
  fun m ρ _ => Cert.ReferenceIdeal.Gen.frame m ρ, Cert.Value.quiescent_ReferenceIdeal_pre,
  fun m ρ _ => Cert.Kernel1.Gen.frame m ρ, fun m ρ _ => Cert.Kernel1Ideal.Gen.frame m ρ, Cert.Value1.quiescent_Kernel1Ideal_pre,
  fun m ρ _ => Cert.Reference1Ideal.Gen.frame m ρ, Cert.Value1.quiescent_Reference1Ideal_pre,
  Cert.Kernel2.Body.frame, fun m ρ _ => Cert.Kernel2Ideal.Body.frame m ρ, fun m ρ _ => Cert.Reference2Ideal.Gen.frame m ρ,
  True.intro, Cert.Value.algebraic, True.intro, Cert.Value1.algebraic, True.intro, Cert.Value2.algebraic⟩

end Cert.Proof

end
